-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def preserves_Proj_ProjIdeal : Prop :=
  IdealRules.named_const.Statement Cert.ProjIdeal.κ "q_scale" .f32 0x3E0293EE#32 (((Real.sqrt 128)⁻¹ * (Real.log 2)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v14)) (v1 : (c : Dev Cert.ProjIdeal.nD) → Buf (Elt Ideal) ((c.tc : Thread Cert.ProjIdeal.nD Cert.ProjIdeal.τ).loc Cert.ProjIdeal.main_v15)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14) = v0 c
          ∧ r.2.mem ((c.tc : Thread Cert.ProjIdeal.nD Cert.ProjIdeal.τ).loc Cert.ProjIdeal.main_v15) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v30) = v0 c
          ∧ r.2.mem ((c.tc : Thread Cert.ProjRefIdeal.nD Cert.ProjRefIdeal.τ).loc Cert.ProjRefIdeal.main_v38) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v13_0)) (v1 : (c : Dev Cert.MlpIdeal.nD) → Buf (Elt Ideal) ((c.tc : Thread Cert.MlpIdeal.nD Cert.MlpIdeal.τ).loc Cert.MlpIdeal.main_v13_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v13_0) = v0 c
          ∧ r.2.mem ((c.tc : Thread Cert.MlpIdeal.nD Cert.MlpIdeal.τ).loc Cert.MlpIdeal.main_v13_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_v40) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Fox_FoxIdeal : Prop :=
  IdealRules.named_const.Statement Cert.FoxIdeal.κ "mask" .f32 0xF149F2CA#32 ⊥

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v3) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v54) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v9_0)) (v1 : (c : Dev Cert.OutprojIdeal.nD) → Buf (Elt Ideal) ((c.tc : Thread Cert.OutprojIdeal.nD Cert.OutprojIdeal.τ).loc Cert.OutprojIdeal.main_v9_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v9_0) = v0 c
          ∧ r.2.mem ((c.tc : Thread Cert.OutprojIdeal.nD Cert.OutprojIdeal.τ).loc Cert.OutprojIdeal.main_v9_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v36) = v0 c
          ∧ r.2.mem ((c.tc : Thread Cert.OutprojRefIdeal.nD Cert.OutprojRefIdeal.τ).loc Cert.OutprojRefIdeal.main_v38) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def Claim : Prop :=
  ∃ (hProj : Cert.Proj.Facts) (hProjIdeal : Cert.ProjIdeal.Facts) (hProjRefIdeal : Cert.ProjRefIdeal.Facts) (hMlp : Cert.Mlp.Facts) (hMlpIdeal : Cert.MlpIdeal.Facts) (hMlpRefIdeal : Cert.MlpRefIdeal.Facts) (hFox : Cert.Fox.Facts) (hFoxIdeal : Cert.FoxIdeal.Facts) (hFoxRefIdeal : Cert.FoxRefIdeal.Facts) (hOutproj : Cert.Outproj.Facts) (hOutprojIdeal : Cert.OutprojIdeal.Facts) (hOutprojRefIdeal : Cert.OutprojRefIdeal.Facts),
    quiescent_Proj (hProj := hProj)
    ∧ quiescent_ProjIdeal (hProjIdeal := hProjIdeal)
    ∧ quiescent_ProjRefIdeal (hProjRefIdeal := hProjRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Fox (hFox := hFox)
    ∧ quiescent_FoxIdeal (hFoxIdeal := hFoxIdeal)
    ∧ quiescent_FoxRefIdeal (hFoxRefIdeal := hFoxRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Proj_ProjIdeal
    ∧ algebraic_ProjIdeal_ProjRefIdeal (hProjIdeal := hProjIdeal) (hProjRefIdeal := hProjRefIdeal)
    ∧ preserves_Mlp_MlpIdeal
    ∧ algebraic_MlpIdeal_MlpRefIdeal (hMlpIdeal := hMlpIdeal) (hMlpRefIdeal := hMlpRefIdeal)
    ∧ preserves_Fox_FoxIdeal
    ∧ algebraic_FoxIdeal_FoxRefIdeal (hFoxIdeal := hFoxIdeal) (hFoxRefIdeal := hFoxRefIdeal)
    ∧ preserves_Outproj_OutprojIdeal
    ∧ algebraic_OutprojIdeal_OutprojRefIdeal (hOutprojIdeal := hOutprojIdeal) (hOutprojRefIdeal := hOutprojRefIdeal)
-- ==== Proj.lean ====
abbrev S1x16384x2048 : Shape := ⟨3, ![1, 16384, 2048]⟩
abbrev S16x2048 : Shape := ⟨2, ![16, 2048]⟩
abbrev S2x2048x6160 : Shape := ⟨3, ![2, 2048, 6160]⟩
abbrev S_ : Shape := ⟨0, ![]⟩
abbrev S240x2048 : Shape := ⟨2, ![240, 2048]⟩
abbrev S256x2048 : Shape := ⟨2, ![256, 2048]⟩
abbrev S16640x2048 : Shape := ⟨2, ![16640, 2048]⟩
abbrev S1x256x2048 : Shape := ⟨3, ![1, 256, 2048]⟩
abbrev S2x6160x2048 : Shape := ⟨3, ![2, 6160, 2048]⟩
abbrev S6x1024x2048 : Shape := ⟨3, ![6, 1024, 2048]⟩
abbrev S1x1024x2048 : Shape := ⟨3, ![1, 1024, 2048]⟩
abbrev S1024x2048 : Shape := ⟨2, ![1024, 2048]⟩
abbrev S1x8x2048 : Shape := ⟨3, ![1, 8, 2048]⟩
abbrev S8x2048 : Shape := ⟨2, ![8, 2048]⟩
abbrev S2048x128 : Shape := ⟨2, ![2048, 128]⟩
abbrev S2048x16 : Shape := ⟨2, ![2048, 16]⟩
abbrev S1 : Shape := ⟨1, ![1]⟩
abbrev S4x16640x1024 : Shape := ⟨3, ![4, 16640, 1024]⟩
abbrev S1040x2048 : Shape := ⟨2, ![1040, 2048]⟩
abbrev S1x1040x1024 : Shape := ⟨3, ![1, 1040, 1024]⟩
abbrev S1040x1024 : Shape := ⟨2, ![1040, 1024]⟩
abbrev S2x1024x16640 : Shape := ⟨3, ![2, 1024, 16640]⟩
abbrev S1280x2048 : Shape := ⟨2, ![1280, 2048]⟩
abbrev S1x1024x1280 : Shape := ⟨3, ![1, 1024, 1280]⟩
abbrev S1024x1280 : Shape := ⟨2, ![1024, 1280]⟩

abbrev nBuf : Space → Nat
  | .hbm => 22
  | .vmem => 21
  | .smem => 0
  | _ => 0

abbrev bufTy : (tb : Table) → Fin (tcTables nBuf tb) → BufTy
  | .hbm, ⟨0, _⟩ => ⟨S1x16384x2048, .f32⟩
  | .hbm, ⟨1, _⟩ => ⟨S16x2048, .f32⟩
  | .hbm, ⟨2, _⟩ => ⟨S2x2048x6160, .f32⟩
  | .hbm, ⟨3, _⟩ => ⟨S_, .f32⟩
  | .hbm, ⟨4, _⟩ => ⟨S240x2048, .f32⟩
  | .hbm, ⟨5, _⟩ => ⟨S256x2048, .f32⟩
  | .hbm, ⟨6, _⟩ => ⟨S16640x2048, .bf16⟩
  | .hbm, ⟨7, _⟩ => ⟨S2x6160x2048, .f32⟩
  | .hbm, ⟨8, _⟩ => ⟨S6x1024x2048, .bf16⟩
  | .hbm, ⟨9, _⟩ => ⟨S1x8x2048, .f32⟩
  | .hbm, ⟨10, _⟩ => ⟨S8x2048, .f32⟩
  | .hbm, ⟨11, _⟩ => ⟨S1x8x2048, .f32⟩
  | .hbm, ⟨12, _⟩ => ⟨S8x2048, .f32⟩
  | .hbm, ⟨13, _⟩ => ⟨S16x2048, .f32⟩
  | .hbm, ⟨14, _⟩ => ⟨S_, .f32⟩
  | .hbm, ⟨15, _⟩ => ⟨S2048x128, .f32⟩
  | .hbm, ⟨16, _⟩ => ⟨S2048x16, .f32⟩
  | .hbm, ⟨17, _⟩ => ⟨S_, .i32⟩
  | .hbm, ⟨18, _⟩ => ⟨S1, .i32⟩
  | .hbm, ⟨19, _⟩ => ⟨S2048x128, .f32⟩
  | .hbm, ⟨20, _⟩ => ⟨S4x16640x1024, .bf16⟩
  | .hbm, ⟨21, _⟩ => ⟨S2x1024x16640, .bf16⟩
  | .local _ .vmem, ⟨0, _⟩ => ⟨S256x2048, .f32⟩
  | .local _ .vmem, ⟨1, _⟩ => ⟨S1x256x2048, .f32⟩
  | .local _ .vmem, ⟨2, _⟩ => ⟨S1x256x2048, .f32⟩
  | .local _ .vmem, ⟨3, _⟩ => ⟨S256x2048, .bf16⟩
  | .local _ .vmem, ⟨4, _⟩ => ⟨S256x2048, .bf16⟩
  | .local _ .vmem, ⟨5, _⟩ => ⟨S1x1024x2048, .f32⟩
  | .local _ .vmem, ⟨6, _⟩ => ⟨S1x1024x2048, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1040x2048, .bf16⟩
  | .local _ .vmem, ⟨10, _⟩ => ⟨S1040x2048, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x1040x1024, .bf16⟩
  | .local _ .vmem, ⟨14, _⟩ => ⟨S1x1040x1024, .bf16⟩
  | .local _ .vmem, ⟨15, _⟩ => ⟨S1280x2048, .bf16⟩
  | .local _ .vmem, ⟨16, _⟩ => ⟨S1280x2048, .bf16⟩
  | .local _ .vmem, ⟨17, _⟩ => ⟨S1x1024x2048, .bf16⟩
  | .local _ .vmem, ⟨18, _⟩ => ⟨S1x1024x2048, .bf16⟩
  | .local _ .vmem, ⟨19, _⟩ => ⟨S1x1024x1280, .bf16⟩
  | .local _ .vmem, ⟨20, _⟩ => ⟨S1x1024x1280, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let v3 : BitVec 32 := Scalar.addi v2 c0_i32_1
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6], ![false]⟩

def cc1_transform_0 (i : grid1.Coords) : Fin 3 → Nat :=
  let arg0 : BitVec 32 := BitVec.ofNat 32 (i 0).val
  let c128_i32 : BitVec 32 := 128#32
  let v0 : BitVec 32 := Scalar.muli arg0 c128_i32
  let c2_i32 : BitVec 32 := 2#32
  let v1 : BitVec 1 := Scalar.cmpi .sge arg0 c2_i32
  let v2 : BitVec 32 := Scalar.extui v1
  let c1_i32 : BitVec 32 := 1#32
  let v3 : BitVec 32 := Scalar.muli c1_i32 v2
  let v4 : BitVec 32 := Scalar.addi v0 v3
  let c8_i32 : BitVec 32 := 8#32
  let v5 : BitVec 32 := Scalar.muli c8_i32 v4
  let c0_i32 : BitVec 32 := 0#32
  let c0_i32_0 : BitVec 32 := 0#32
  let c0_i32_1 : BitVec 32 := 0#32
  ![c0_i32.toNat, v5.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let v1 : BitVec 32 := Scalar.extui v0
  let v2 : BitVec 32 := Scalar.addi arg0 v1
  let c0_i32 : BitVec 32 := 0#32
  let c0_i32_0 : BitVec 32 := 0#32
  let c0_i32_1 : BitVec 32 := 0#32
  ![v2.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1040x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1040x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 13], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c3_i32 : BitVec 32 := 3#32
  let v1 : BitVec 32 := Scalar.addi c3_i32 v0
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1280x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x1280 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ProjIdeal.lean ====
variable {F : FTy → Type} [FloatOps F] [Named F]
def κ : String → Option EReal := fun
  | "q_scale" => some (((Real.sqrt 128)⁻¹ * (Real.log 2)⁻¹ : ℝ) : EReal)
  | _ => none
-- ==== ProjRefIdeal.lean ====
abbrev S1x16384x2048 : Shape := ⟨3, ![1, 16384, 2048]⟩
abbrev S16x2048 : Shape := ⟨2, ![16, 2048]⟩
abbrev S2x2048x6160 : Shape := ⟨3, ![2, 2048, 6160]⟩
abbrev S16384x2048 : Shape := ⟨2, ![16384, 2048]⟩
abbrev S16400x2048 : Shape := ⟨2, ![16400, 2048]⟩
abbrev S1x2048x6160 : Shape := ⟨3, ![1, 2048, 6160]⟩
abbrev S2048x6160 : Shape := ⟨2, ![2048, 6160]⟩
abbrev S16400x6160 : Shape := ⟨2, ![16400, 6160]⟩
abbrev S16400x512 : Shape := ⟨2, ![16400, 512]⟩
abbrev S16400x1024 : Shape := ⟨2, ![16400, 1024]⟩
abbrev S16400x4 : Shape := ⟨2, ![16400, 4]⟩
abbrev S16400x8 : Shape := ⟨2, ![16400, 8]⟩
abbrev S_ : Shape := ⟨0, ![]⟩
abbrev S16640x1024 : Shape := ⟨2, ![16640, 1024]⟩
abbrev S1x16640x1024 : Shape := ⟨3, ![1, 16640, 1024]⟩
abbrev S4x16640x1024 : Shape := ⟨3, ![4, 16640, 1024]⟩
abbrev S1024x16640 : Shape := ⟨2, ![1024, 16640]⟩
abbrev S1x1024x16640 : Shape := ⟨3, ![1, 1024, 16640]⟩
abbrev S2x1024x16640 : Shape := ⟨3, ![2, 1024, 16640]⟩

abbrev nBuf : Space → Nat
  | .hbm => 56
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S16x2048, .f32⟩
  | .hbm, ⟨2, _⟩ => ⟨S2x2048x6160, .f32⟩
  | .hbm, ⟨3, _⟩ => ⟨S16384x2048, .f32⟩
  | .hbm, ⟨4, _⟩ => ⟨S16400x2048, .f32⟩
  | .hbm, ⟨5, _⟩ => ⟨S1x2048x6160, .f32⟩
  | .hbm, ⟨6, _⟩ => ⟨S2048x6160, .f32⟩
  | .hbm, ⟨7, _⟩ => ⟨S16400x6160, .f32⟩
  | .hbm, ⟨8, _⟩ => ⟨S16400x512, .f32⟩
  | .hbm, ⟨9, _⟩ => ⟨S16400x512, .f32⟩
  | .hbm, ⟨10, _⟩ => ⟨S16400x1024, .f32⟩
  | .hbm, ⟨11, _⟩ => ⟨S16400x4, .f32⟩
  | .hbm, ⟨12, _⟩ => ⟨S16400x4, .f32⟩
  | .hbm, ⟨13, _⟩ => ⟨S16400x1024, .f32⟩
  | .hbm, ⟨14, _⟩ => ⟨S16400x1024, .f32⟩
  | .hbm, ⟨15, _⟩ => ⟨S16400x1024, .f32⟩
  | .hbm, ⟨16, _⟩ => ⟨S16400x1024, .f32⟩
  | .hbm, ⟨17, _⟩ => ⟨S16400x8, .f32⟩
  | .hbm, ⟨18, _⟩ => ⟨S16400x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16400x1024, .f32⟩
  | .hbm, ⟨25, _⟩ => ⟨S16400x1024, .f32⟩
  | .hbm, ⟨26, _⟩ => ⟨S_, .i32⟩
  | .hbm, ⟨27, _⟩ => ⟨S_, .f32⟩
  | .hbm, ⟨28, _⟩ => ⟨S16640x1024, .f32⟩
  | .hbm, ⟨29, _⟩ => ⟨S_, .i32⟩
  | .hbm, ⟨30, _⟩ => ⟨S_, .f32⟩
  | .hbm, ⟨31, _⟩ => ⟨S16640x1024, .f32⟩
  | .hbm, ⟨32, _⟩ => ⟨S_, .i32⟩
  | .hbm, ⟨33, _⟩ => ⟨S_, .f32⟩
  | .hbm, ⟨34, _⟩ => ⟨S16640x1024, .f32⟩
  | .hbm, ⟨35, _⟩ => ⟨S_, .i32⟩
  | .hbm, ⟨36, _⟩ => ⟨S_, .f32⟩
  | .hbm, ⟨37, _⟩ => ⟨S16640x1024, .f32⟩
  | .hbm, ⟨38, _⟩ => ⟨S1x16640x1024, .f32⟩
  | .hbm, ⟨39, _⟩ => ⟨S1x16640x1024, .f32⟩
  | .hbm, ⟨40, _⟩ => ⟨S1x16640x1024, .f32⟩
  | .hbm, ⟨41, _⟩ => ⟨S1x16640x1024, .f32⟩
  | .hbm, ⟨42, _⟩ => ⟨S4x16640x1024, .f32⟩
  | .hbm, ⟨43, _⟩ => ⟨S4x16640x1024, .bf16⟩
  | .hbm, ⟨44, _⟩ => ⟨S_, .i32⟩
  | .hbm, ⟨45, _⟩ => ⟨S_, .f32⟩
  | .hbm, ⟨46, _⟩ => ⟨S16640x1024, .f32⟩
  | .hbm, ⟨47, _⟩ => ⟨S1024x16640, .f32⟩
  | .hbm, ⟨48, _⟩ => ⟨S_, .i32⟩
  | .hbm, ⟨49, _⟩ => ⟨S_, .f32⟩
  | .hbm, ⟨50, _⟩ => ⟨S16640x1024, .f32⟩
  | .hbm, ⟨51, _⟩ => ⟨S1024x16640, .f32⟩
  | .hbm, ⟨52, _⟩ => ⟨S1x1024x16640, .f32⟩
  | .hbm, ⟨53, _⟩ => ⟨S1x1024x16640, .f32⟩
  | .hbm, ⟨54, _⟩ => ⟨S2x1024x16640, .f32⟩
  | .hbm, ⟨55, _⟩ => ⟨S2x1024x16640, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_v21 : Ref sig .tc := ⟨.hbm, 28, rfl⟩
abbrev main_c_1 : Ref sig .tc := ⟨.hbm, 29, rfl⟩
abbrev main_call1_v0 : Ref sig .tc := ⟨.hbm, 30, rfl⟩
abbrev main_v22 : Ref sig .tc := ⟨.hbm, 31, rfl⟩
abbrev main_c_2 : Ref sig .tc := ⟨.hbm, 32, rfl⟩
abbrev main_call2_v0 : Ref sig .tc := ⟨.hbm, 33, rfl⟩
abbrev main_v23 : Ref sig .tc := ⟨.hbm, 34, rfl⟩
abbrev main_c_3 : Ref sig .tc := ⟨.hbm, 35, rfl⟩
abbrev main_call3_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_call4_v0 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_call5_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Mlp.lean ====
abbrev S16384x2048 : Shape := ⟨2, ![16384, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1x2048 : Shape := ⟨2, ![1, 2048]⟩
abbrev S2048 : Shape := ⟨1, ![2048]⟩
abbrev S1x16384x2048 : Shape := ⟨3, ![1, 16384, 2048]⟩
abbrev S512x2048 : Shape := ⟨2, ![512, 2048]⟩
abbrev S2048x1024 : Shape := ⟨2, ![2048, 1024]⟩
abbrev S1024x2048 : Shape := ⟨2, ![1024, 2048]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S16384x2048, .bf16⟩
  | .hbm, ⟨6, _⟩ => ⟨S1x2048x8192, .f32⟩
  | .hbm, ⟨7, _⟩ => ⟨S2048x8192, .f32⟩
  | .hbm, ⟨8, _⟩ => ⟨S2048x8192, .bf16⟩
  | .hbm, ⟨9, _⟩ => ⟨S1x8192x2048, .f32⟩
  | .hbm, ⟨10, _⟩ => ⟨S8192x2048, .f32⟩
  | .hbm, ⟨11, _⟩ => ⟨S8192x2048, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x16384x2048, .f32⟩
  | .hbm, ⟨19, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x512x2048, .f32⟩
  | .local _ .vmem, ⟨11, _⟩ => ⟨S1x512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S16384x2048 : Shape := ⟨2, ![16384, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩
abbrev S1x8192x2048 : Shape := ⟨3, ![1, 8192, 2048]⟩
abbrev S8192x2048 : Shape := ⟨2, ![8192, 2048]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩
abbrev S1x16384x2048 : Shape := ⟨3, ![1, 16384, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S1x2048x8192, .f32⟩
  | .hbm, ⟨6, _⟩ => ⟨S2048x8192, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S1x8192x2048, .f32⟩
  | .hbm, ⟨13, _⟩ => ⟨S8192x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S1x16384x2048, .f32⟩
  | .hbm, ⟨53, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Fox.lean ====
abbrev S4x16640x1024 : Shape := ⟨3, ![4, 16640, 1024]⟩
abbrev S2x1024x16640 : Shape := ⟨3, ![2, 1024, 16640]⟩
abbrev S8x16640x128 : Shape := ⟨3, ![8, 16640, 128]⟩
abbrev S8x128x16640 : Shape := ⟨3, ![8, 128, 16640]⟩
abbrev S2x1024 : Shape := ⟨2, ![2, 1024]⟩
abbrev S1x1024 : Shape := ⟨2, ![1, 1024]⟩
abbrev S1024 : Shape := ⟨1, ![1024]⟩
abbrev S8x1x128 : Shape := ⟨3, ![8, 1, 128]⟩
abbrev S16640x1024 : Shape := ⟨2, ![16640, 1024]⟩
abbrev S1x128x1280 : Shape := ⟨3, ![1, 128, 1280]⟩
abbrev S1x16640x128 : Shape := ⟨3, ![1, 16640, 128]⟩
abbrev S1x128x16640 : Shape := ⟨3, ![1, 128, 16640]⟩
abbrev S1x1x128 : Shape := ⟨3, ![1, 1, 128]⟩
abbrev S1280x128 : Shape := ⟨2, ![1280, 128]⟩
abbrev S1x1280 : Shape := ⟨2, ![1, 1280]⟩
abbrev S144x1280 : Shape := ⟨2, ![144, 1280]⟩
abbrev S128x1280 : Shape := ⟨2, ![128, 1280]⟩
abbrev S256x1280 : Shape := ⟨2, ![256, 1280]⟩
abbrev S16x256 : Shape := ⟨2, ![16, 256]⟩
abbrev S1x256x128 : Shape := ⟨3, ![1, 256, 128]⟩
abbrev S256x128 : Shape := ⟨2, ![256, 128]⟩
abbrev S256x256 : Shape := ⟨2, ![256, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S144x256 : Shape := ⟨2, ![144, 256]⟩
abbrev S256x1 : Shape := ⟨2, ![256, 1]⟩
abbrev S1280 : Shape := ⟨1, ![1280]⟩
abbrev S1x128 : Shape := ⟨2, ![1, 128]⟩

abbrev nBuf : Space → Nat
  | .hbm => 9
  | .vmem => 16
  | .smem => 0
  | _ => 0

abbrev bufTy : (tb : Table) → Fin (tcTables nBuf tb) → BufTy
  | .hbm, ⟨0, _⟩ => ⟨S4x16640x1024, .bf16⟩
  | .hbm, ⟨1, _⟩ => ⟨S2x1024x16640, .bf16⟩
  | .hbm, ⟨2, _⟩ => ⟨S8x16640x128, .bf16⟩
  | .hbm, ⟨3, _⟩ => ⟨S8x128x16640, .bf16⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S8x1x128, .f32⟩
  | .hbm, ⟨8, _⟩ => ⟨S16640x1024, .bf16⟩
  | .local _ .vmem, ⟨0, _⟩ => ⟨S1x128x1280, .bf16⟩
  | .local _ .vmem, ⟨1, _⟩ => ⟨S1x128x1280, .bf16⟩
  | .local _ .vmem, ⟨2, _⟩ => ⟨S1x128x1280, .bf16⟩
  | .local _ .vmem, ⟨3, _⟩ => ⟨S1x128x1280, .bf16⟩
  | .local _ .vmem, ⟨4, _⟩ => ⟨S1x16640x128, .bf16⟩
  | .local _ .vmem, ⟨5, _⟩ => ⟨S1x16640x128, .bf16⟩
  | .local _ .vmem, ⟨6, _⟩ => ⟨S1x16640x128, .bf16⟩
  | .local _ .vmem, ⟨7, _⟩ => ⟨S1x16640x128, .bf16⟩
  | .local _ .vmem, ⟨8, _⟩ => ⟨S1x128x16640, .bf16⟩
  | .local _ .vmem, ⟨9, _⟩ => ⟨S1x128x16640, .bf16⟩
  | .local _ .vmem, ⟨10, _⟩ => ⟨S1x1x128, .f32⟩
  | .local _ .vmem, ⟨11, _⟩ => ⟨S1x1x128, .f32⟩
  | .local _ .vmem, ⟨12, _⟩ => ⟨S1280x128, .bf16⟩
  | .local _ .vmem, ⟨13, _⟩ => ⟨S1280x128, .bf16⟩
  | .local _ .vmem, ⟨14, _⟩ => ⟨S1x1280, .f32⟩
  | .local _ .vmem, ⟨15, _⟩ => ⟨S144x1280, .f32⟩
  | _, _ => ⟨S4x16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 13], ![false, false]⟩

@[reducible] def k0_t1_loop (i : grid0.Coords) : Scf.Loop 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_18 : BitVec 32 := 1#32
  ⟨c0_i32_16, v35, c1_i32_18⟩
def k0_mult1 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  v678
def k0_mult2 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c0_i32_315 : BitVec 32 := 0#32
  let v680 : BitVec 32 := Scalar.addi v679 c0_i32_315
  v680
def k0_mult3 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c0_i32_316 : BitVec 32 := 0#32
  let v682 : BitVec 32 := Scalar.addi v679 c0_i32_316
  v682
def k0_mult4 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c0_i32_317 : BitVec 32 := 0#32
  let v684 : BitVec 32 := Scalar.addi v679 c0_i32_317
  v684
def k0_mult5 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c0_i32_318 : BitVec 32 := 0#32
  let v686 : BitVec 32 := Scalar.addi v679 c0_i32_318
  v686
def k0_mult6 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c0_i32_319 : BitVec 32 := 0#32
  let v688 : BitVec 32 := Scalar.addi v679 c0_i32_319
  v688
def k0_mult7 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c256_i32_320 : BitVec 32 := 256#32
  let v690 : BitVec 32 := Scalar.addi v679 c256_i32_320
  v690
def k0_mult8 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c256_i32_321 : BitVec 32 := 256#32
  let v692 : BitVec 32 := Scalar.addi v679 c256_i32_321
  v692
def k0_mult9 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c256_i32_322 : BitVec 32 := 256#32
  let v694 : BitVec 32 := Scalar.addi v679 c256_i32_322
  v694
def k0_mult10 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c256_i32_323 : BitVec 32 := 256#32
  let v696 : BitVec 32 := Scalar.addi v679 c256_i32_323
  v696
def k0_mult11 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c256_i32_324 : BitVec 32 := 256#32
  let v698 : BitVec 32 := Scalar.addi v679 c256_i32_324
  v698
def k0_mult12 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c512_i32_325 : BitVec 32 := 512#32
  let v700 : BitVec 32 := Scalar.addi v679 c512_i32_325
  v700
def k0_mult13 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c512_i32_326 : BitVec 32 := 512#32
  let v702 : BitVec 32 := Scalar.addi v679 c512_i32_326
  v702
def k0_mult14 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c512_i32_327 : BitVec 32 := 512#32
  let v704 : BitVec 32 := Scalar.addi v679 c512_i32_327
  v704
def k0_mult15 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c512_i32_328 : BitVec 32 := 512#32
  let v706 : BitVec 32 := Scalar.addi v679 c512_i32_328
  v706
def k0_mult16 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c512_i32_329 : BitVec 32 := 512#32
  let v708 : BitVec 32 := Scalar.addi v679 c512_i32_329
  v708
def k0_mult17 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c768_i32_330 : BitVec 32 := 768#32
  let v710 : BitVec 32 := Scalar.addi v679 c768_i32_330
  v710
def k0_mult18 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c768_i32_331 : BitVec 32 := 768#32
  let v712 : BitVec 32 := Scalar.addi v679 c768_i32_331
  v712
def k0_mult19 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c768_i32_332 : BitVec 32 := 768#32
  let v714 : BitVec 32 := Scalar.addi v679 c768_i32_332
  v714
def k0_mult20 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c768_i32_333 : BitVec 32 := 768#32
  let v716 : BitVec 32 := Scalar.addi v679 c768_i32_333
  v716
def k0_mult21 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c768_i32_334 : BitVec 32 := 768#32
  let v718 : BitVec 32 := Scalar.addi v679 c768_i32_334
  v718
def k0_mult22 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1024_i32_335 : BitVec 32 := 1024#32
  let v720 : BitVec 32 := Scalar.addi v679 c1024_i32_335
  v720
def k0_mult23 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1024_i32_336 : BitVec 32 := 1024#32
  let v722 : BitVec 32 := Scalar.addi v679 c1024_i32_336
  v722
def k0_mult24 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1024_i32_337 : BitVec 32 := 1024#32
  let v724 : BitVec 32 := Scalar.addi v679 c1024_i32_337
  v724
def k0_mult25 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1024_i32_338 : BitVec 32 := 1024#32
  let v726 : BitVec 32 := Scalar.addi v679 c1024_i32_338
  v726
def k0_mult26 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1024_i32_339 : BitVec 32 := 1024#32
  let v728 : BitVec 32 := Scalar.addi v679 c1024_i32_339
  v728
def k0_mult27 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1280_i32_340 : BitVec 32 := 1280#32
  let v730 : BitVec 32 := Scalar.addi v679 c1280_i32_340
  v730
def k0_mult28 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1280_i32_341 : BitVec 32 := 1280#32
  let v732 : BitVec 32 := Scalar.addi v679 c1280_i32_341
  v732
def k0_mult29 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1280_i32_342 : BitVec 32 := 1280#32
  let v734 : BitVec 32 := Scalar.addi v679 c1280_i32_342
  v734
def k0_mult30 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1280_i32_343 : BitVec 32 := 1280#32
  let v736 : BitVec 32 := Scalar.addi v679 c1280_i32_343
  v736
def k0_mult31 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1280_i32_344 : BitVec 32 := 1280#32
  let v738 : BitVec 32 := Scalar.addi v679 c1280_i32_344
  v738
def k0_mult32 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1536_i32 : BitVec 32 := 1536#32
  let v740 : BitVec 32 := Scalar.addi v679 c1536_i32
  v740
def k0_mult33 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1536_i32_345 : BitVec 32 := 1536#32
  let v742 : BitVec 32 := Scalar.addi v679 c1536_i32_345
  v742
def k0_mult34 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1536_i32_346 : BitVec 32 := 1536#32
  let v744 : BitVec 32 := Scalar.addi v679 c1536_i32_346
  v744
def k0_mult35 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1536_i32_347 : BitVec 32 := 1536#32
  let v746 : BitVec 32 := Scalar.addi v679 c1536_i32_347
  v746
def k0_mult36 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1536_i32_348 : BitVec 32 := 1536#32
  let v748 : BitVec 32 := Scalar.addi v679 c1536_i32_348
  v748
def k0_mult37 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1792_i32 : BitVec 32 := 1792#32
  let v750 : BitVec 32 := Scalar.addi v679 c1792_i32
  v750
def k0_mult38 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1792_i32_349 : BitVec 32 := 1792#32
  let v752 : BitVec 32 := Scalar.addi v679 c1792_i32_349
  v752
def k0_mult39 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1792_i32_350 : BitVec 32 := 1792#32
  let v754 : BitVec 32 := Scalar.addi v679 c1792_i32_350
  v754
def k0_mult40 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1792_i32_351 : BitVec 32 := 1792#32
  let v756 : BitVec 32 := Scalar.addi v679 c1792_i32_351
  v756
def k0_mult41 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c1792_i32_352 : BitVec 32 := 1792#32
  let v758 : BitVec 32 := Scalar.addi v679 c1792_i32_352
  v758
def k0_mult42 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2048_i32 : BitVec 32 := 2048#32
  let v760 : BitVec 32 := Scalar.addi v679 c2048_i32
  v760
def k0_mult43 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2048_i32_353 : BitVec 32 := 2048#32
  let v762 : BitVec 32 := Scalar.addi v679 c2048_i32_353
  v762
def k0_mult44 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2048_i32_354 : BitVec 32 := 2048#32
  let v764 : BitVec 32 := Scalar.addi v679 c2048_i32_354
  v764
def k0_mult45 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2048_i32_355 : BitVec 32 := 2048#32
  let v766 : BitVec 32 := Scalar.addi v679 c2048_i32_355
  v766
def k0_mult46 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2048_i32_356 : BitVec 32 := 2048#32
  let v768 : BitVec 32 := Scalar.addi v679 c2048_i32_356
  v768
def k0_mult47 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2304_i32 : BitVec 32 := 2304#32
  let v770 : BitVec 32 := Scalar.addi v679 c2304_i32
  v770
def k0_mult48 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2304_i32_357 : BitVec 32 := 2304#32
  let v772 : BitVec 32 := Scalar.addi v679 c2304_i32_357
  v772
def k0_mult49 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2304_i32_358 : BitVec 32 := 2304#32
  let v774 : BitVec 32 := Scalar.addi v679 c2304_i32_358
  v774
def k0_mult50 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2304_i32_359 : BitVec 32 := 2304#32
  let v776 : BitVec 32 := Scalar.addi v679 c2304_i32_359
  v776
def k0_mult51 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let c2304_i32_360 : BitVec 32 := 2304#32
  let v778 : BitVec 32 := Scalar.addi v679 c2304_i32_360
  v778
def k0_off1 (i : grid0.Coords) (k0_t1 : Fin (k0_t1_loop i).trips) (c0_i32_315 : BitVec 32) : Fin 3 → Nat :=
  let c0_361 : Index := 0#32
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let v680 : BitVec 32 := Scalar.addi v679 c0_i32_315
  let v681 : BitVec 32 := v680
  let v780 : Index := Scalar.indexCast v681
  let c0_362 : Index := 0#32
  ![0, v780.toNat, 0]
def k0_off2 (i : grid0.Coords) (k0_t1 : Fin (k0_t1_loop i).trips) (c0_i32_315 : BitVec 32) : Fin 3 → Nat :=
  let c0_421 : Index := 0#32
  let c0_422 : Index := 0#32
  let c0_i32_16 : BitVec 32 := 0#32
  let c1_i32_18 : BitVec 32 := 1#32
  let arg11 : BitVec 32 := Scf.iv c0_i32_16 c1_i32_18 k0_t1
  let c2560_i32 : BitVec 32 := 2560#32
  let v678 : BitVec 32 := Scalar.muli arg11 c2560_i32
  let v679 : BitVec 32 := v678
  let v680 : BitVec 32 := Scalar.addi v679 c0_i32_315
  let v681 : BitVec 32 := v680
  let v876 : Index := Scalar.indexCast v681
  ![0, 0, v876.toNat]
@[reducible] def k0_t2_loop (i : grid0.Coords) : Scf.Loop 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let v32 : BitVec 32 := Scalar.addi c0_i32_16 v31
  let c1_i32_19 : BitVec 32 := 1#32
  ⟨v35, v32, c1_i32_19⟩
def k0_mult52 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  v678
def k0_mult53 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c0_i32_315 : BitVec 32 := 0#32
  let v680 : BitVec 32 := Scalar.addi v679 c0_i32_315
  v680
def k0_mult54 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c0_i32_316 : BitVec 32 := 0#32
  let v682 : BitVec 32 := Scalar.addi v679 c0_i32_316
  v682
def k0_mult55 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c0_i32_317 : BitVec 32 := 0#32
  let v684 : BitVec 32 := Scalar.addi v679 c0_i32_317
  v684
def k0_mult56 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c0_i32_318 : BitVec 32 := 0#32
  let v686 : BitVec 32 := Scalar.addi v679 c0_i32_318
  v686
def k0_mult57 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c0_i32_319 : BitVec 32 := 0#32
  let v688 : BitVec 32 := Scalar.addi v679 c0_i32_319
  v688
def k0_mult58 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c256_i32_320 : BitVec 32 := 256#32
  let v690 : BitVec 32 := Scalar.addi v679 c256_i32_320
  v690
def k0_mult59 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c256_i32_321 : BitVec 32 := 256#32
  let v692 : BitVec 32 := Scalar.addi v679 c256_i32_321
  v692
def k0_mult60 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c256_i32_322 : BitVec 32 := 256#32
  let v694 : BitVec 32 := Scalar.addi v679 c256_i32_322
  v694
def k0_mult61 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c256_i32_323 : BitVec 32 := 256#32
  let v696 : BitVec 32 := Scalar.addi v679 c256_i32_323
  v696
def k0_mult62 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c256_i32_324 : BitVec 32 := 256#32
  let v698 : BitVec 32 := Scalar.addi v679 c256_i32_324
  v698
def k0_mult63 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c512_i32_325 : BitVec 32 := 512#32
  let v700 : BitVec 32 := Scalar.addi v679 c512_i32_325
  v700
def k0_mult64 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c512_i32_326 : BitVec 32 := 512#32
  let v702 : BitVec 32 := Scalar.addi v679 c512_i32_326
  v702
def k0_mult65 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c512_i32_327 : BitVec 32 := 512#32
  let v704 : BitVec 32 := Scalar.addi v679 c512_i32_327
  v704
def k0_mult66 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c512_i32_328 : BitVec 32 := 512#32
  let v706 : BitVec 32 := Scalar.addi v679 c512_i32_328
  v706
def k0_mult67 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c512_i32_329 : BitVec 32 := 512#32
  let v708 : BitVec 32 := Scalar.addi v679 c512_i32_329
  v708
def k0_mult68 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c768_i32_330 : BitVec 32 := 768#32
  let v710 : BitVec 32 := Scalar.addi v679 c768_i32_330
  v710
def k0_mult69 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c768_i32_331 : BitVec 32 := 768#32
  let v712 : BitVec 32 := Scalar.addi v679 c768_i32_331
  v712
def k0_mult70 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c768_i32_332 : BitVec 32 := 768#32
  let v714 : BitVec 32 := Scalar.addi v679 c768_i32_332
  v714
def k0_mult71 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c768_i32_333 : BitVec 32 := 768#32
  let v716 : BitVec 32 := Scalar.addi v679 c768_i32_333
  v716
def k0_mult72 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c768_i32_334 : BitVec 32 := 768#32
  let v718 : BitVec 32 := Scalar.addi v679 c768_i32_334
  v718
def k0_mult73 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1024_i32_335 : BitVec 32 := 1024#32
  let v720 : BitVec 32 := Scalar.addi v679 c1024_i32_335
  v720
def k0_mult74 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1024_i32_336 : BitVec 32 := 1024#32
  let v722 : BitVec 32 := Scalar.addi v679 c1024_i32_336
  v722
def k0_mult75 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1024_i32_337 : BitVec 32 := 1024#32
  let v724 : BitVec 32 := Scalar.addi v679 c1024_i32_337
  v724
def k0_mult76 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1024_i32_338 : BitVec 32 := 1024#32
  let v726 : BitVec 32 := Scalar.addi v679 c1024_i32_338
  v726
def k0_mult77 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1024_i32_339 : BitVec 32 := 1024#32
  let v728 : BitVec 32 := Scalar.addi v679 c1024_i32_339
  v728
def k0_mult78 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1280_i32_340 : BitVec 32 := 1280#32
  let v730 : BitVec 32 := Scalar.addi v679 c1280_i32_340
  v730
def k0_mult79 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1280_i32_341 : BitVec 32 := 1280#32
  let v732 : BitVec 32 := Scalar.addi v679 c1280_i32_341
  v732
def k0_mult80 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1280_i32_342 : BitVec 32 := 1280#32
  let v734 : BitVec 32 := Scalar.addi v679 c1280_i32_342
  v734
def k0_mult81 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1280_i32_343 : BitVec 32 := 1280#32
  let v736 : BitVec 32 := Scalar.addi v679 c1280_i32_343
  v736
def k0_mult82 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1280_i32_344 : BitVec 32 := 1280#32
  let v738 : BitVec 32 := Scalar.addi v679 c1280_i32_344
  v738
def k0_mult83 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1536_i32 : BitVec 32 := 1536#32
  let v740 : BitVec 32 := Scalar.addi v679 c1536_i32
  v740
def k0_mult84 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1536_i32_345 : BitVec 32 := 1536#32
  let v742 : BitVec 32 := Scalar.addi v679 c1536_i32_345
  v742
def k0_mult85 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1536_i32_346 : BitVec 32 := 1536#32
  let v744 : BitVec 32 := Scalar.addi v679 c1536_i32_346
  v744
def k0_mult86 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1536_i32_347 : BitVec 32 := 1536#32
  let v746 : BitVec 32 := Scalar.addi v679 c1536_i32_347
  v746
def k0_mult87 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1536_i32_348 : BitVec 32 := 1536#32
  let v748 : BitVec 32 := Scalar.addi v679 c1536_i32_348
  v748
def k0_mult88 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1792_i32 : BitVec 32 := 1792#32
  let v750 : BitVec 32 := Scalar.addi v679 c1792_i32
  v750
def k0_mult89 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1792_i32_349 : BitVec 32 := 1792#32
  let v752 : BitVec 32 := Scalar.addi v679 c1792_i32_349
  v752
def k0_mult90 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1792_i32_350 : BitVec 32 := 1792#32
  let v754 : BitVec 32 := Scalar.addi v679 c1792_i32_350
  v754
def k0_mult91 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1792_i32_351 : BitVec 32 := 1792#32
  let v756 : BitVec 32 := Scalar.addi v679 c1792_i32_351
  v756
def k0_mult92 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c1792_i32_352 : BitVec 32 := 1792#32
  let v758 : BitVec 32 := Scalar.addi v679 c1792_i32_352
  v758
def k0_mult93 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2048_i32 : BitVec 32 := 2048#32
  let v760 : BitVec 32 := Scalar.addi v679 c2048_i32
  v760
def k0_mult94 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2048_i32_353 : BitVec 32 := 2048#32
  let v762 : BitVec 32 := Scalar.addi v679 c2048_i32_353
  v762
def k0_mult95 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2048_i32_354 : BitVec 32 := 2048#32
  let v764 : BitVec 32 := Scalar.addi v679 c2048_i32_354
  v764
def k0_mult96 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2048_i32_355 : BitVec 32 := 2048#32
  let v766 : BitVec 32 := Scalar.addi v679 c2048_i32_355
  v766
def k0_mult97 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2048_i32_356 : BitVec 32 := 2048#32
  let v768 : BitVec 32 := Scalar.addi v679 c2048_i32_356
  v768
def k0_mult98 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2304_i32 : BitVec 32 := 2304#32
  let v770 : BitVec 32 := Scalar.addi v679 c2304_i32
  v770
def k0_mult99 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2304_i32_357 : BitVec 32 := 2304#32
  let v772 : BitVec 32 := Scalar.addi v679 c2304_i32_357
  v772
def k0_mult100 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2304_i32_358 : BitVec 32 := 2304#32
  let v774 : BitVec 32 := Scalar.addi v679 c2304_i32_358
  v774
def k0_mult101 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2304_i32_359 : BitVec 32 := 2304#32
  let v776 : BitVec 32 := Scalar.addi v679 c2304_i32_359
  v776
def k0_mult102 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let c2304_i32_360 : BitVec 32 := 2304#32
  let v778 : BitVec 32 := Scalar.addi v679 c2304_i32_360
  v778
def k0_off3 (i : grid0.Coords) (k0_t2 : Fin (k0_t2_loop i).trips) (c0_i32_315 : BitVec 32) : Fin 3 → Nat :=
  let c0_361 : Index := 0#32
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let v680 : BitVec 32 := Scalar.addi v679 c0_i32_315
  let v681 : BitVec 32 := v680
  let v780 : Index := Scalar.indexCast v681
  let c0_362 : Index := 0#32
  ![0, v780.toNat, 0]
def k0_off4 (i : grid0.Coords) (k0_t2 : Fin (k0_t2_loop i).trips) (c0_i32_315 : BitVec 32) : Fin 3 → Nat :=
  let c0_421 : Index := 0#32
  let c0_422 : Index := 0#32
  let c0_i32_16 : BitVec 32 := 0#32
  let arg1 : BitVec 32 := BitVec.ofNat 32 (i 1).val
  let c0_i32 : BitVec 32 := 0#32
  let v15 : BitVec 1 := Scalar.cmpi .sgt arg1 c0_i32
  let v16 : BitVec 32 := Scalar.extui v15
  let c0_i32_11 : BitVec 32 := 0#32
  let v17 : BitVec 1 := Scalar.cmpi .slt arg1 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi arg1 c2_i32
  let c0_i32_14 : BitVec 32 := 0#32
  let v27 : BitVec 1 := Scalar.cmpi .ne v26 c0_i32_14
  let v28 : BitVec 1 := Scalar.andi v25 v27
  let v14 : BitVec 32 := Scalar.divsi arg1 c2_i32
  let c1_i32 : BitVec 32 := 1#32
  let v29 : BitVec 32 := Scalar.subi v14 c1_i32
  let v30 : BitVec 32 := Scalar.select v28 v29 v14
  let v31 : BitVec 32 := Scalar.subi v30 c0_i32_16
  let c1_i32_17 : BitVec 32 := 1#32
  let v33 : BitVec 32 := Scalar.divsi v31 c1_i32_17
  let v34 : BitVec 32 := Scalar.muli v33 c1_i32_17
  let v35 : BitVec 32 := Scalar.addi c0_i32_16 v34
  let c1_i32_19 : BitVec 32 := 1#32
  let arg11 : BitVec 32 := Scf.iv v35 c1_i32_19 k0_t2
  let c2560_i32 : BitVec 32 := 2560#32
  let v678 : BitVec 32 := Scalar.muli arg11 c2560_i32
  let v679 : BitVec 32 := v678
  let v680 : BitVec 32 := Scalar.addi v679 c0_i32_315
  let v681 : BitVec 32 := v680
  let v876 : Index := Scalar.indexCast v681
  ![0, 0, v876.toNat]
def k0_cond1 (i : grid0.Coords) : BitVec 1 :=
  let arg1 : BitVec 32 := BitVec.ofNat 32 (i 1).val
  let c2_i32_20 : BitVec 32 := 2#32
  let c0_i32_21 : BitVec 32 := 0#32
  let v36 : BitVec 1 := Scalar.cmpi .eq c2_i32_20 c0_i32_21
  let c1_i32_22 : BitVec 32 := 1#32
  let v37 : BitVec 32 := Scalar.select v36 c1_i32_22 c2_i32_20
  let v38 : BitVec 32 := Scalar.remsi arg1 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  let c1_i32_26 : BitVec 32 := 1#32
  let v46 : BitVec 1 := Scalar.cmpi .sge v45 c1_i32_26
  let v47 : BitVec 32 := Scalar.extui v46
  let c0_i32_27 : BitVec 32 := 0#32
  let v48 : BitVec 1 := Scalar.cmpi .ne v47 c0_i32_27
  v48

def k0_mult103 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  v698
def k0_mult104 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c0_i32_326 : BitVec 32 := 0#32
  let v700 : BitVec 32 := Scalar.addi v699 c0_i32_326
  v700
def k0_mult105 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c0_i32_327 : BitVec 32 := 0#32
  let v702 : BitVec 32 := Scalar.addi v699 c0_i32_327
  v702
def k0_mult106 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c0_i32_328 : BitVec 32 := 0#32
  let v704 : BitVec 32 := Scalar.addi v699 c0_i32_328
  v704
def k0_mult107 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c0_i32_329 : BitVec 32 := 0#32
  let v706 : BitVec 32 := Scalar.addi v699 c0_i32_329
  v706
def k0_mult108 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c0_i32_330 : BitVec 32 := 0#32
  let v708 : BitVec 32 := Scalar.addi v699 c0_i32_330
  v708
def k0_mult109 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c256_i32_331 : BitVec 32 := 256#32
  let v710 : BitVec 32 := Scalar.addi v699 c256_i32_331
  v710
def k0_mult110 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c256_i32_332 : BitVec 32 := 256#32
  let v712 : BitVec 32 := Scalar.addi v699 c256_i32_332
  v712
def k0_mult111 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c256_i32_333 : BitVec 32 := 256#32
  let v714 : BitVec 32 := Scalar.addi v699 c256_i32_333
  v714
def k0_mult112 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c256_i32_334 : BitVec 32 := 256#32
  let v716 : BitVec 32 := Scalar.addi v699 c256_i32_334
  v716
def k0_mult113 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c256_i32_335 : BitVec 32 := 256#32
  let v718 : BitVec 32 := Scalar.addi v699 c256_i32_335
  v718
def k0_mult114 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c512_i32_336 : BitVec 32 := 512#32
  let v720 : BitVec 32 := Scalar.addi v699 c512_i32_336
  v720
def k0_mult115 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c512_i32_337 : BitVec 32 := 512#32
  let v722 : BitVec 32 := Scalar.addi v699 c512_i32_337
  v722
def k0_mult116 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c512_i32_338 : BitVec 32 := 512#32
  let v724 : BitVec 32 := Scalar.addi v699 c512_i32_338
  v724
def k0_mult117 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c512_i32_339 : BitVec 32 := 512#32
  let v726 : BitVec 32 := Scalar.addi v699 c512_i32_339
  v726
def k0_mult118 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c512_i32_340 : BitVec 32 := 512#32
  let v728 : BitVec 32 := Scalar.addi v699 c512_i32_340
  v728
def k0_mult119 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c768_i32_341 : BitVec 32 := 768#32
  let v730 : BitVec 32 := Scalar.addi v699 c768_i32_341
  v730
def k0_mult120 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c768_i32_342 : BitVec 32 := 768#32
  let v732 : BitVec 32 := Scalar.addi v699 c768_i32_342
  v732
def k0_mult121 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c768_i32_343 : BitVec 32 := 768#32
  let v734 : BitVec 32 := Scalar.addi v699 c768_i32_343
  v734
def k0_mult122 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c768_i32_344 : BitVec 32 := 768#32
  let v736 : BitVec 32 := Scalar.addi v699 c768_i32_344
  v736
def k0_mult123 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c768_i32_345 : BitVec 32 := 768#32
  let v738 : BitVec 32 := Scalar.addi v699 c768_i32_345
  v738
def k0_mult124 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c1024_i32_346 : BitVec 32 := 1024#32
  let v740 : BitVec 32 := Scalar.addi v699 c1024_i32_346
  v740
def k0_mult125 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c1024_i32_347 : BitVec 32 := 1024#32
  let v742 : BitVec 32 := Scalar.addi v699 c1024_i32_347
  v742
def k0_mult126 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c1024_i32_348 : BitVec 32 := 1024#32
  let v744 : BitVec 32 := Scalar.addi v699 c1024_i32_348
  v744
def k0_mult127 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c1024_i32_349 : BitVec 32 := 1024#32
  let v746 : BitVec 32 := Scalar.addi v699 c1024_i32_349
  v746
def k0_mult128 (i : grid0.Coords) : BitVec 32 :=
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let c1024_i32_350 : BitVec 32 := 1024#32
  let v748 : BitVec 32 := Scalar.addi v699 c1024_i32_350
  v748
def k0_off5 (i : grid0.Coords) (c0_i32_326 : BitVec 32) : Fin 3 → Nat :=
  let c0_351 : Index := 0#32
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let v700 : BitVec 32 := Scalar.addi v699 c0_i32_326
  let v701 : BitVec 32 := v700
  let v750 : Index := Scalar.indexCast v701
  let c0_352 : Index := 0#32
  ![0, v750.toNat, 0]
def k0_off6 (i : grid0.Coords) (c0_i32_326 : BitVec 32) : Fin 3 → Nat :=
  let c0_411 : Index := 0#32
  let c0_412 : Index := 0#32
  let arg1 : BitVec 32 := BitVec.ofNat 32 (i 1).val
  let c0_i32_316 : BitVec 32 := 0#32
  let v679 : BitVec 1 := Scalar.cmpi .sgt arg1 c0_i32_316
  let v680 : BitVec 32 := Scalar.extui v679
  let c0_i32_317 : BitVec 32 := 0#32
  let v681 : BitVec 1 := Scalar.cmpi .slt arg1 c0_i32_317
  let v682 : BitVec 32 := Scalar.extui v681
  let v683 : BitVec 32 := Scalar.subi v680 v682
  let c2_i32_315 : BitVec 32 := 2#32
  let c0_i32_318 : BitVec 32 := 0#32
  let v684 : BitVec 1 := Scalar.cmpi .sgt c2_i32_315 c0_i32_318
  let v685 : BitVec 32 := Scalar.extui v684
  let c0_i32_319 : BitVec 32 := 0#32
  let v686 : BitVec 1 := Scalar.cmpi .slt c2_i32_315 c0_i32_319
  let v687 : BitVec 32 := Scalar.extui v686
  let v688 : BitVec 32 := Scalar.subi v685 v687
  let v689 : BitVec 1 := Scalar.cmpi .ne v683 v688
  let v690 : BitVec 32 := Scalar.remsi arg1 c2_i32_315
  let c0_i32_320 : BitVec 32 := 0#32
  let v691 : BitVec 1 := Scalar.cmpi .ne v690 c0_i32_320
  let v692 : BitVec 1 := Scalar.andi v689 v691
  let v678 : BitVec 32 := Scalar.divsi arg1 c2_i32_315
  let c1_i32_321 : BitVec 32 := 1#32
  let v693 : BitVec 32 := Scalar.subi v678 c1_i32_321
  let v694 : BitVec 32 := Scalar.select v692 v693 v678
  let c2_i32_322 : BitVec 32 := 2#32
  let v695 : BitVec 32 := Scalar.muli v694 c2_i32_322
  let c1_i32_323 : BitVec 32 := 1#32
  let v696 : BitVec 32 := Scalar.addi v695 c1_i32_323
  let c1_i32_324 : BitVec 32 := 1#32
  let v697 : BitVec 32 := Scalar.subi v696 c1_i32_324
  let c1280_i32_325 : BitVec 32 := 1280#32
  let v698 : BitVec 32 := Scalar.muli v697 c1280_i32_325
  let v699 : BitVec 32 := v698
  let v700 : BitVec 32 := Scalar.addi v699 c0_i32_326
  let v701 : BitVec 32 := v700
  let v846 : Index := Scalar.indexCast v701
  ![0, 0, v846.toNat]
def k0_mult129 (i : grid0.Coords) : BitVec 32 :=
  let arg1 : BitVec 32 := BitVec.ofNat 32 (i 1).val
  let c1280_i32 : BitVec 32 := 1280#32
  let v49 : BitVec 32 := Scalar.muli arg1 c1280_i32
  v49
def k0_mult130 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c0_i32_28 : BitVec 32 := 0#32
  let v51 : BitVec 32 := Scalar.addi v50 c0_i32_28
  v51
def k0_mult131 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c0_i32_29 : BitVec 32 := 0#32
  let v53 : BitVec 32 := Scalar.addi v50 c0_i32_29
  v53
def k0_mult132 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c0_i32_30 : BitVec 32 := 0#32
  let v55 : BitVec 32 := Scalar.addi v50 c0_i32_30
  v55
def k0_mult133 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c0_i32_31 : BitVec 32 := 0#32
  let v57 : BitVec 32 := Scalar.addi v50 c0_i32_31
  v57
def k0_mult134 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c0_i32_32 : BitVec 32 := 0#32
  let v59 : BitVec 32 := Scalar.addi v50 c0_i32_32
  v59
def k0_mult135 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c256_i32 : BitVec 32 := 256#32
  let v61 : BitVec 32 := Scalar.addi v50 c256_i32
  v61
def k0_mult136 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c256_i32_33 : BitVec 32 := 256#32
  let v63 : BitVec 32 := Scalar.addi v50 c256_i32_33
  v63
def k0_mult137 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c256_i32_34 : BitVec 32 := 256#32
  let v65 : BitVec 32 := Scalar.addi v50 c256_i32_34
  v65
def k0_mult138 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c256_i32_35 : BitVec 32 := 256#32
  let v67 : BitVec 32 := Scalar.addi v50 c256_i32_35
  v67
def k0_mult139 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c512_i32 : BitVec 32 := 512#32
  let v69 : BitVec 32 := Scalar.addi v50 c512_i32
  v69
def k0_mult140 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c512_i32_36 : BitVec 32 := 512#32
  let v71 : BitVec 32 := Scalar.addi v50 c512_i32_36
  v71
def k0_mult141 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c512_i32_37 : BitVec 32 := 512#32
  let v73 : BitVec 32 := Scalar.addi v50 c512_i32_37
  v73
def k0_mult142 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c768_i32 : BitVec 32 := 768#32
  let v75 : BitVec 32 := Scalar.addi v50 c768_i32
  v75
def k0_mult143 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c768_i32_38 : BitVec 32 := 768#32
  let v77 : BitVec 32 := Scalar.addi v50 c768_i32_38
  v77
def k0_mult144 (i : grid0.Coords) : BitVec 32 :=
  let arg1 : BitVec 32 := BitVec.ofNat 32 (i 1).val
  let c1280_i32 : BitVec 32 := 1280#32
  let v49 : BitVec 32 := Scalar.muli arg1 c1280_i32
  let v50 : BitVec 32 := v49
  let c1024_i32 : BitVec 32 := 1024#32
  let v79 : BitVec 32 := Scalar.addi v50 c1024_i32
  v79
def k0_off7 (i : grid0.Coords) (c0_i32_28 : BitVec 32) : Fin 3 → Nat :=
  let c0_39 : Index := 0#32
  let arg1 : BitVec 32 := BitVec.ofNat 32 (i 1).val
  let c1280_i32 : BitVec 32 := 1280#32
  let v49 : BitVec 32 := Scalar.muli arg1 c1280_i32
  let v50 : BitVec 32 := v49
  let v51 : BitVec 32 := Scalar.addi v50 c0_i32_28
  let v52 : BitVec 32 := v51
  let v81 : Index := Scalar.indexCast v52
  let c0_40 : Index := 0#32
  ![0, v81.toNat, 0]
def k0_off8 (i : grid0.Coords) (c0_i32_28 : BitVec 32) : Fin 3 → Nat :=
  let c0_101 : Index := 0#32
  let c0_102 : Index := 0#32
  let arg1 : BitVec 32 := BitVec.ofNat 32 (i 1).val
  let c1280_i32 : BitVec 32 := 1280#32
  let v49 : BitVec 32 := Scalar.muli arg1 c1280_i32
  let v50 : BitVec 32 := v49
  let v51 : BitVec 32 := Scalar.addi v50 c0_i32_28
  let v52 : BitVec 32 := v51
  let v203 : Index := Scalar.indexCast v52
  ![0, 0, v203.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x16640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1280x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S4x16640x1024 : Shape := ⟨3, ![4, 16640, 1024]⟩
abbrev S2x1024x16640 : Shape := ⟨3, ![2, 1024, 16640]⟩
abbrev S8x16640x128 : Shape := ⟨3, ![8, 16640, 128]⟩
abbrev S8x128x16640 : Shape := ⟨3, ![8, 128, 16640]⟩
abbrev S2x1024 : Shape := ⟨2, ![2, 1024]⟩
abbrev S1x1024x16640 : Shape := ⟨3, ![1, 1024, 16640]⟩
abbrev S1024x16640 : Shape := ⟨2, ![1024, 16640]⟩
abbrev S1x16640x1024 : Shape := ⟨3, ![1, 16640, 1024]⟩
abbrev S16640x1024 : Shape := ⟨2, ![16640, 1024]⟩
abbrev S16640x8x128 : Shape := ⟨3, ![16640, 8, 128]⟩
abbrev S8x16640x16640 : Shape := ⟨3, ![8, 16640, 16640]⟩
abbrev S16640 : Shape := ⟨1, ![16640]⟩
abbrev S1x16640 : Shape := ⟨2, ![1, 16640]⟩
abbrev S16640x1 : Shape := ⟨2, ![16640, 1]⟩
abbrev S16640x16640 : Shape := ⟨2, ![16640, 16640]⟩
abbrev S_ : Shape := ⟨0, ![]⟩
abbrev S8x16640 : Shape := ⟨2, ![8, 16640]⟩
abbrev S8x16640x1 : Shape := ⟨3, ![8, 16640, 1]⟩
abbrev S1x1024 : Shape := ⟨2, ![1, 1024]⟩
abbrev S1024 : Shape := ⟨1, ![1024]⟩
abbrev S8x1x128 : Shape := ⟨3, ![8, 1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4x16640x1024, .bf16⟩
  | .hbm, ⟨1, _⟩ => ⟨S2x1024x16640, .bf16⟩
  | .hbm, ⟨2, _⟩ => ⟨S8x16640x128, .bf16⟩
  | .hbm, ⟨3, _⟩ => ⟨S8x128x16640, .bf16⟩
  | .hbm, ⟨4, _⟩ => ⟨S2x1024, .f32⟩
  | .hbm, ⟨5, _⟩ => ⟨S1x1024x16640, .bf16⟩
  | .hbm, ⟨6, _⟩ => ⟨S1024x16640, .bf16⟩
  | .hbm, ⟨7, _⟩ => ⟨S8x128x16640, .bf16⟩
  | .hbm, ⟨8, _⟩ => ⟨S8x128x16640, .f32⟩
  | .hbm, ⟨9, _⟩ => ⟨S1x1024x16640, .bf16⟩
  | .hbm, ⟨10, _⟩ => ⟨S1024x16640, .bf16⟩
  | .hbm, ⟨11, _⟩ => ⟨S8x128x16640, .bf16⟩
  | .hbm, ⟨12, _⟩ => ⟨S8x128x16640, .f32⟩
  | .hbm, ⟨13, _⟩ => ⟨S1x16640x1024, .bf16⟩
  | .hbm, ⟨14, _⟩ => ⟨S16640x1024, .bf16⟩
  | .hbm, ⟨15, _⟩ => ⟨S16640x8x128, .bf16⟩
  | .hbm, ⟨16, _⟩ => ⟨S16640x8x128, .f32⟩
  | .hbm, ⟨17, _⟩ => ⟨S8x128x16640, .f32⟩
  | .hbm, ⟨18, _⟩ => ⟨S8x16640x128, .f32⟩
  | .hbm, ⟨19, _⟩ => ⟨S8x16640x16640, .f32⟩
  | .hbm, ⟨20, _⟩ => ⟨S8x16640x16640, .f32⟩
  | .hbm, ⟨21, _⟩ => ⟨S8x16640x16640, .f32⟩
  | .hbm, ⟨22, _⟩ => ⟨S16640, .i32⟩
  | .hbm, ⟨23, _⟩ => ⟨S1x16640, .i32⟩
  | .hbm, ⟨24, _⟩ => ⟨S16640x1, .i32⟩
  | .hbm, ⟨25, _⟩ => ⟨S16640x16640, .i32⟩
  | .hbm, ⟨26, _⟩ => ⟨S16640x16640, .i32⟩
  | .hbm, ⟨27, _⟩ => ⟨S16640x16640, .i1⟩
  | .hbm, ⟨28, _⟩ => ⟨S_, .f32⟩
  | .hbm, ⟨29, _⟩ => ⟨S_, .f32⟩
  | .hbm, ⟨30, _⟩ => ⟨S8x16640x16640, .i1⟩
  | .hbm, ⟨31, _⟩ => ⟨S8x16640x16640, .f32⟩
  | .hbm, ⟨32, _⟩ => ⟨S8x16640x16640, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x16640, .f32⟩
  | .hbm, ⟨37, _⟩ => ⟨S8x16640x1, .f32⟩
  | .hbm, ⟨38, _⟩ => ⟨S8x16640x16640, .f32⟩
  | .hbm, ⟨39, _⟩ => ⟨S8x16640x16640, .f32⟩
  | .hbm, ⟨40, _⟩ => ⟨S8x16640x16640, .f32⟩
  | .hbm, ⟨41, _⟩ => ⟨S8x16640x16640, .f32⟩
  | .hbm, ⟨42, _⟩ => ⟨S8x16640x16640, .f32⟩
  | .hbm, ⟨43, _⟩ => ⟨S8x16640x128, .f32⟩
  | .hbm, ⟨44, _⟩ => ⟨S_, .f32⟩
  | .hbm, ⟨45, _⟩ => ⟨S8x16640, .f32⟩
  | .hbm, ⟨46, _⟩ => ⟨S8x16640x1, .f32⟩
  | .hbm, ⟨47, _⟩ => ⟨S8x16640x128, .f32⟩
  | .hbm, ⟨48, _⟩ => ⟨S8x16640x128, .f32⟩
  | .hbm, ⟨49, _⟩ => ⟨S8x16640x128, .f32⟩
  | .hbm, ⟨50, _⟩ => ⟨S_, .f32⟩
  | .hbm, ⟨51, _⟩ => ⟨S8x16640, .f32⟩
  | .hbm, ⟨52, _⟩ => ⟨S8x16640x1, .f32⟩
  | .hbm, ⟨53, _⟩ => ⟨S_, .f32⟩
  | .hbm, ⟨54, _⟩ => ⟨S8x16640x1, .f32⟩
  | .hbm, ⟨55, _⟩ => ⟨S8x16640x1, .f32⟩
  | .hbm, ⟨56, _⟩ => ⟨S_, .f32⟩
  | .hbm, ⟨57, _⟩ => ⟨S8x16640x1, .f32⟩
  | .hbm, ⟨58, _⟩ => ⟨S8x16640x1, .f32⟩
  | .hbm, ⟨59, _⟩ => ⟨S8x16640x1, .f32⟩
  | .hbm, ⟨60, _⟩ => ⟨S8x16640x128, .f32⟩
  | .hbm, ⟨61, _⟩ => ⟨S8x16640x128, .f32⟩
  | .hbm, ⟨62, _⟩ => ⟨S1x1024, .f32⟩
  | .hbm, ⟨63, _⟩ => ⟨S1024, .f32⟩
  | .hbm, ⟨64, _⟩ => ⟨S8x1x128, .f32⟩
  | .hbm, ⟨65, _⟩ => ⟨S8x16640x128, .f32⟩
  | .hbm, ⟨66, _⟩ => ⟨S8x16640x128, .f32⟩
  | .hbm, ⟨67, _⟩ => ⟨S16640x8x128, .f32⟩
  | .hbm, ⟨68, _⟩ => ⟨S16640x1024, .f32⟩
  | .hbm, ⟨69, _⟩ => ⟨S16640x1024, .bf16⟩
  | _, _ => ⟨S4x16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Outproj.lean ====
abbrev S16640x1024 : Shape := ⟨2, ![16640, 1024]⟩
abbrev S2x2048x2048 : Shape := ⟨3, ![2, 2048, 2048]⟩
abbrev S16640x2048 : Shape := ⟨2, ![16640, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S16384x2048 : Shape := ⟨2, ![16384, 2048]⟩
abbrev S256x1024 : Shape := ⟨2, ![256, 1024]⟩
abbrev S256x2048 : Shape := ⟨2, ![256, 2048]⟩
abbrev S128x1024 : Shape := ⟨2, ![128, 1024]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 17
  | .vmem => 14
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S2x2048x2048, .f32⟩
  | .hbm, ⟨3, _⟩ => ⟨S16640x2048, .f32⟩
  | .hbm, ⟨4, _⟩ => ⟨S2x2048, .f32⟩
  | .hbm, ⟨5, _⟩ => ⟨S2x2048, .f32⟩
  | .hbm, ⟨6, _⟩ => ⟨S1x2048x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16384x2048, .f32⟩
  | .hbm, ⟨16, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let v2 : BitVec 32 := Scalar.maxsi v1 c0_i32
  let c1_i32_1 : BitVec 32 := 1#32
  let v3 : BitVec 32 := Scalar.addi v2 c1_i32_1
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutprojRefIdeal.lean ====
abbrev S16640x1024 : Shape := ⟨2, ![16640, 1024]⟩
abbrev S2x2048x2048 : Shape := ⟨3, ![2, 2048, 2048]⟩
abbrev S16640x2048 : Shape := ⟨2, ![16640, 2048]⟩
abbrev S2x2048 : Shape := ⟨2, ![2, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S16640 : Shape := ⟨1, ![16640]⟩
abbrev S16640x1 : Shape := ⟨2, ![16640, 1]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S2x2048x2048, .f32⟩
  | .hbm, ⟨3, _⟩ => ⟨S16640x2048, .f32⟩
  | .hbm, ⟨4, _⟩ => ⟨S2x2048, .f32⟩
  | .hbm, ⟨5, _⟩ => ⟨S2x2048, .f32⟩
  | .hbm, ⟨6, _⟩ => ⟨S16640x2048, .bf16⟩
  | .hbm, ⟨7, _⟩ => ⟨S16640x2048, .f32⟩
  | .hbm, ⟨8, _⟩ => ⟨S1x2048x2048, .f32⟩
  | .hbm, ⟨9, _⟩ => ⟨S2048x2048, .f32⟩
  | .hbm, ⟨10, _⟩ => ⟨S16640x2048, .f32⟩
  | .hbm, ⟨11, _⟩ => ⟨S_, .f32⟩
  | .hbm, ⟨12, _⟩ => ⟨S16640x2048, .f32⟩
  | .hbm, ⟨13, _⟩ => ⟨S16640x2048, .f32⟩
  | .hbm, ⟨14, _⟩ => ⟨S16640x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S16640, .f32⟩
  | .hbm, ⟨21, _⟩ => ⟨S16640x1, .f32⟩
  | .hbm, ⟨22, _⟩ => ⟨S_, .f32⟩
  | .hbm, ⟨23, _⟩ => ⟨S16640x1, .f32⟩
  | .hbm, ⟨24, _⟩ => ⟨S16640x1, .f32⟩
  | .hbm, ⟨25, _⟩ => ⟨S16640x2048, .f32⟩
  | .hbm, ⟨26, _⟩ => ⟨S16640x2048, .f32⟩
  | .hbm, ⟨27, _⟩ => ⟨S16640x2048, .f32⟩
  | .hbm, ⟨28, _⟩ => ⟨S_, .f32⟩
  | .hbm, ⟨29, _⟩ => ⟨S16640, .f32⟩
  | .hbm, ⟨30, _⟩ => ⟨S16640x1, .f32⟩
  | .hbm, ⟨31, _⟩ => ⟨S_, .f32⟩
  | .hbm, ⟨32, _⟩ => ⟨S16640x1, .f32⟩
  | .hbm, ⟨33, _⟩ => ⟨S16640x1, .f32⟩
  | .hbm, ⟨34, _⟩ => ⟨S16640x2048, .f32⟩
  | .hbm, ⟨35, _⟩ => ⟨S16640x2048, .f32⟩
  | .hbm, ⟨36, _⟩ => ⟨S_, .f32⟩
  | .hbm, ⟨37, _⟩ => ⟨S16640x1, .f32⟩
  | .hbm, ⟨38, _⟩ => ⟨S16640x1, .f32⟩
  | .hbm, ⟨39, _⟩ => ⟨S16640x1, .f32⟩
  | .hbm, ⟨40, _⟩ => ⟨S16640x2048, .f32⟩
  | .hbm, ⟨41, _⟩ => ⟨S16640x2048, .f32⟩
  | .hbm, ⟨42, _⟩ => ⟨S1x2048, .f32⟩
  | .hbm, ⟨43, _⟩ => ⟨S16640x2048, .f32⟩
  | .hbm, ⟨44, _⟩ => ⟨S16640x2048, .f32⟩
  | .hbm, ⟨45, _⟩ => ⟨S1x2048, .f32⟩
  | .hbm, ⟨46, _⟩ => ⟨S16640x2048, .f32⟩
  | .hbm, ⟨47, _⟩ => ⟨S16640x2048, .f32⟩
  | .hbm, ⟨48, _⟩ => ⟨S16384x2048, .f32⟩
  | .hbm, ⟨49, _⟩ => ⟨S16384x2048, .f32⟩
  | .hbm, ⟨50, _⟩ => ⟨S16384x2048, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.ProjRegions.lean ====
/- The input projection's four regions, each as one function of the arrays it finds: the stream with its head rows, the
   weights' column groups (an element-indexed window reads each group's rows), the four groups' products by rows and the
   two groups' products transposed. At the ideal values. -/
module

public import proofs.«01_k».proof.Proof.Gen.ProjIdeal.Frame
public import Idealize.ShloMosaic.Lib.Pipeline.Value
public import Idealize.ShloMosaic.Lib.MatmulPlain
public import Idealize.ShloMosaic.Lib.ValueIdx
public import Idealize.ShloMosaic.PureOps.Ideal.Laws

@[expose] public section

noncomputable section

namespace Cert.Proof.ProjRegions

open Cert.ProjIdeal Cert.ProjIdeal.Gen Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stream -/

/-- The stream: 256 head rows, then the rows of the input. -/
def stream (a : S256x2048.Idx → EReal) (x : S1x16384x2048.Idx → EReal) : S16640x2048.Idx → EReal := fun i =>
  if h : (i 0).val < 256 then a (ix2 ⟨(i 0).val, h⟩ (i 1))
  else x (ix3 0 ⟨(i 0).val - 256, by have : (i 0).val < 16640 := (i 0).isLt; omega⟩ (i 1))

theorem idx0 : ∀ t : Fin cfg0.N, win0_0.index t 0 = 0 ∧ win0_0.index t 1 = 0 ∧ win0_1.index t 0 = 0
    ∧ win0_1.index t 1 = t.val - 1 ∧ win0_1.index t 2 = 0 ∧ win0_2.index t 0 = t.val ∧ win0_2.index t 1 = 0
    ∧ Scalar.cmpi .eq (BitVec.ofNat 32 (grid0.coords t 0).val) 0#32 = (if t.val = 0 then 1#1 else 0#1) :=
  (by decide +kernel : ∀ t : Fin grid0.N, _)

theorem pay0_apply (i : grid0.Coords) (x0 : Vec Ideal S256x2048 .f32) (x1 : Vec Ideal S1x256x2048 .f32) (p : Fin 256) (q : Fin 2048) :
    k0_pay1 i x0 x1 (ix2 p q) = Scalar.select (Scalar.cmpi .eq (BitVec.ofNat 32 (i 0).val) 0#32) (x0 (ix2 p q)) (x1 (ix3 0 p q)) := by
  unfold k0_pay1
  rw [shapeCast_self]
  show Scalar.select _ x0 (shapeCast S256x2048 x1 _) (ix2 p q) = _
  have e : shapeCast S256x2048 x1 shapeCasts_S1x256x2048_S256x2048 (ix2 p q) = x1 (ix3 0 p q) :=
    (shapeCast_dropUnit_apply ![256, 2048] x1 _ (ix2 p q)).trans (congrArg x1 (eq_ix3 _))
  rw [← e]
  unfold Scalar.select
  split <;> rfl

theorem flushed0 (c : Dev nD) (t : Fin cfg0.N) :
    (dat0 V c).flushed 2 t = ((cfg0.win 2).blk t).view.read (Elt Ideal) (stream (V c main_v1) (V c main_arg0)) := by
  show (cfg0.win 2).cut (grid0.coords t) ((dat0 V c).after 2 t) = _
  rw [after0_2]
  unfold out0_2
  rw [View.canon_unit_zero hz2, View.ld_unit_zero (S := S256x2048) hz2, View.ld_unit_zero (S := S1x256x2048) hz3]
  obtain ⟨a0, a1, b0, b1, b2, o0, o1, hc⟩ := idx0 t
  have hN : t.val < 65 := t.isLt
  funext y
  obtain ⟨p, q, rfl⟩ : ∃ p q, y = ix2 p q := ⟨_, _, eq_ix2 y⟩
  refine (pay0_apply _ _ _ p q).trans ?_
  rw [hc]
  show _ = stream (V c main_v1) (V c main_arg0) (((cfg0.win 2).blk t).view.emb (ix2 p q))
  have e : ((cfg0.win 2).blk t).view.emb (ix2 p q) = (ix2 ⟨t.val * 256 + p.val, by have := p.isLt; omega⟩ q : S16640x2048.Idx) := by
    funext a; apply Fin.ext
    match a with
    | ⟨0, _⟩ => show win0_2.index t 0 * 256 + 1 * p.val = _; rw [o0]; show _ = t.val * 256 + p.val; omega
    | ⟨1, _⟩ => show win0_2.index t 1 * 2048 + 1 * q.val = q.val; rw [o1]; omega
  rw [e]
  unfold stream
  by_cases h0 : t.val = 0
  · rw [if_pos h0, dif_pos (show ((ix2 (⟨t.val * 256 + p.val, by have := p.isLt; omega⟩ : Fin 16640) q : S16640x2048.Idx) 0).val < 256 by
      show t.val * 256 + p.val < 256; have := p.isLt; omega)]
    show V c main_v1 (((cfg0.win 0).blk t).view.emb (ix2 p q)) = V c main_v1 _
    congr 1
    funext a; apply Fin.ext
    match a with
    | ⟨0, _⟩ => show win0_0.index t 0 * 256 + 1 * p.val = t.val * 256 + p.val; omega
    | ⟨1, _⟩ => show win0_0.index t 1 * 2048 + 1 * q.val = q.val; omega
  · rw [if_neg h0, dif_neg (show ¬ ((ix2 (⟨t.val * 256 + p.val, by have := p.isLt; omega⟩ : Fin 16640) q : S16640x2048.Idx) 0).val < 256 by
      show ¬ t.val * 256 + p.val < 256; omega)]
    show V c main_arg0 (((cfg0.win 1).blk t).view.emb (ix3 0 p q)) = V c main_arg0 _
    congr 1
    funext a; apply Fin.ext
    match a with
    | ⟨0, _⟩ => show win0_1.index t 0 * 1 + 1 * 0 = 0; omega
    | ⟨1, _⟩ => show win0_1.index t 1 * 256 + 1 * p.val = t.val * 256 + p.val - 256; omega
    | ⟨2, _⟩ => show win0_1.index t 2 * 2048 + 1 * q.val = q.val; omega

theorem covered0 (i : S16640x2048.Idx) : ∃ t : Fin cfg0.N, (cfg0.win 2).flush t = true ∧ i ∈ ((cfg0.win 2).blk t).view.set := by
  have h0 : (i 0).val < 16640 := (i 0).isLt
  have h1 : (i 1).val < 2048 := (i 1).isLt
  have hN : cfg0.N = 65 := N_0
  let t : Fin cfg0.N := ⟨(i 0).val / 256, by omega⟩
  refine ⟨t, flush0_2 _, ?_⟩
  obtain ⟨-, -, -, -, -, o0, o1, -⟩ := idx0 t
  have ht : t.val = (i 0).val / 256 := rfl
  show i ∈ ((View.whole main_v2).slice (win0_2.rect t)).set
  rw [View.set_slice_whole, Rect.mem_set_unit]
  intro a
  match a with
  | ⟨0, _⟩ => show win0_2.index t 0 * 256 ≤ (i 0).val ∧ (i 0).val < win0_2.index t 0 * 256 + 256; omega
  | ⟨1, _⟩ => show win0_2.index t 1 * 2048 ≤ (i 1).val ∧ (i 1).val < win0_2.index t 1 * 2048 + 2048; omega

theorem final0 (c : Dev nD) : (dat0 V c).arrAt 2 cfg0.N = stream (V c main_v1) (V c main_arg0) :=
  (dat0 V c).arrAt_eq_of_cover 2 _ (fun t _ => flushed0 V c t) covered0

/-! ## The weights' column groups -/

/-- The scale of a group's weights: the attention queries' (group 3) is the named constant. -/
def groupScale (g : Nat) : EReal := if g = 3 then (((Real.sqrt 128)⁻¹ * (Real.log 2)⁻¹ : ℝ) : EReal) else 1

/-- The first row of a group in the transposed weights. -/
abbrev groupRow (g : Nat) : Nat := 1024 * g + (if 2 ≤ g then 8 else 0)

/-- The six groups of 1024 rows of the first layer's transposed weights, each scaled. -/
def groups (w : S2x6160x2048.Idx → EReal) : S6x1024x2048.Idx → EReal := fun i =>
  w (ix3 0 ⟨groupRow (i 0).val + (i 1).val, by
    have h0 : (i 0).val < 6 := (i 0).isLt; have h1 : (i 1).val < 1024 := (i 1).isLt; unfold groupRow; split <;> omega⟩ (i 2))
  * groupScale (i 0).val

theorem idx1 : ∀ t : Fin cfg1.N, win1_0.index t 0 = 0 ∧ win1_0.index t 1 = groupRow t.val ∧ win1_0.index t 2 = 0
    ∧ win1_1.index t 0 = t.val ∧ win1_1.index t 1 = 0 ∧ win1_1.index t 2 = 0
    ∧ Scalar.cmpi .eq (BitVec.ofNat 32 (grid1.coords t 0).val) 3#32 = (if t.val = 3 then 1#1 else 0#1) :=
  (by decide +kernel : ∀ t : Fin grid1.N, _)

theorem pay1_apply (i : grid1.Coords) (x : Vec Ideal S1x1024x2048 .f32) (y : S1x1024x2048.Idx) :
    k1_pay1 i x y = x y * Scalar.select (Scalar.cmpi .eq (BitVec.ofNat 32 (i 0).val) 3#32)
      (((Real.sqrt 128)⁻¹ * (Real.log 2)⁻¹ : ℝ) : EReal) 1 := by
  unfold k1_pay1
  show shapeCast S1x1024x2048 (_ : FVec Ideal S1024x2048 .bf16) _ y = _
  refine (shapeCast_addUnit_apply ![1024, 2048] _ _ y).trans ?_
  show (shapeCast (α := EReal) S1024x2048 x shapeCasts_S1x1024x2048_S1024x2048 _) * (Scalar.select _ _ _ : EReal) = _
  have h1 : (Scalar.ofBits .f32 0x3F800000#32 : Ideal .f32) = (1 : EReal) := by
    show Ideal.ofBits .f32 _ = _
    simp [Ideal.ofBits, Ideal.ieee]
    rw [← EReal.coe_mul]; norm_num
  have h2 : (Named.named κ "q_scale" 0x3E0293EE#32 : Ideal .f32) = (((Real.sqrt 128)⁻¹ * (Real.log 2)⁻¹ : ℝ) : EReal) := rfl
  rw [h1, h2]
  congr 1
  refine (shapeCast_dropUnit_apply ![1024, 2048] x _ _).trans (congrArg x ?_)
  funext a
  match a with
  | ⟨0, _⟩ => exact Fin.ext (by have : (y 0).val < 1 := (y 0).isLt; show 0 = (y 0).val; omega)
  | ⟨1, _⟩ => rfl
  | ⟨2, _⟩ => rfl

theorem flushed1 (c : Dev nD) (t : Fin cfg1.N) :
    (dat1 V c).flushed 1 t = ((cfg1.win 1).blk t).view.read (Elt Ideal) (groups (V c main_v3)) := by
  show (cfg1.win 1).cut (grid1.coords t) ((dat1 V c).after 1 t) = _
  rw [after1_1]
  unfold out1_1
  rw [View.canon_unit_zero hz3, View.ld_unit_zero (S := S1x1024x2048) hz3]
  obtain ⟨a0, a1, a2, o0, o1, o2, hc⟩ := idx1 t
  have hN : t.val < 6 := t.isLt
  funext y
  refine (pay1_apply _ _ y).trans ?_
  rw [hc]
  show _ = groups (V c main_v3) (((cfg1.win 1).blk t).view.emb y)
  have y0 : (y 0).val < 1 := (y 0).isLt
  have y1 : (y 1).val < 1024 := (y 1).isLt
  have e0 : (((cfg1.win 1).blk t).view.emb y 0).val = t.val := by
    show win1_1.index t 0 * 1 + 1 * (y 0).val = t.val; omega
  have e1 : (((cfg1.win 1).blk t).view.emb y 1).val = (y 1).val := by
    show win1_1.index t 1 * 1024 + 1 * (y 1).val = (y 1).val; omega
  have e2 : (((cfg1.win 1).blk t).view.emb y 2).val = (y 2).val := by
    show win1_1.index t 2 * 2048 + 1 * (y 2).val = (y 2).val; omega
  unfold groups groupScale
  refine congr (congrArg _ ?_) ?_
  · show V c main_v3 (((cfg1.win 0).blk t).view.emb y) = V c main_v3 _
    congr 1
    funext a; apply Fin.ext
    match a with
    | ⟨0, _⟩ => show win1_0.index t 0 + 1 * (y 0).val = 0; omega
    | ⟨1, _⟩ => show win1_0.index t 1 + 1 * (y 1).val = groupRow (((cfg1.win 1).blk t).view.emb y 0).val + (((cfg1.win 1).blk t).view.emb y 1).val
                rw [a1, e0, e1]; omega
    | ⟨2, _⟩ => show win1_0.index t 2 + 1 * (y 2).val = (((cfg1.win 1).blk t).view.emb y 2).val; omega
  · show _ = if (((cfg1.win 1).blk t).view.emb y 0).val = 3 then _ else _
    rw [e0]
    split <;> rfl

theorem covered1 (i : S6x1024x2048.Idx) : ∃ t : Fin cfg1.N, (cfg1.win 1).flush t = true ∧ i ∈ ((cfg1.win 1).blk t).view.set := by
  have h0 : (i 0).val < 6 := (i 0).isLt
  have h1 : (i 1).val < 1024 := (i 1).isLt
  have h2 : (i 2).val < 2048 := (i 2).isLt
  have hN : cfg1.N = 6 := N_1
  let t : Fin cfg1.N := ⟨(i 0).val, by omega⟩
  refine ⟨t, flush1_1 _, ?_⟩
  obtain ⟨-, -, -, o0, o1, o2, -⟩ := idx1 t
  have ht : t.val = (i 0).val := rfl
  show i ∈ ((View.whole main_v4).slice (win1_1.rect t)).set
  rw [View.set_slice_whole, Rect.mem_set_unit]
  intro a
  match a with
  | ⟨0, _⟩ => show win1_1.index t 0 * 1 ≤ (i 0).val ∧ (i 0).val < win1_1.index t 0 * 1 + 1; omega
  | ⟨1, _⟩ => show win1_1.index t 1 * 1024 ≤ (i 1).val ∧ (i 1).val < win1_1.index t 1 * 1024 + 1024; omega
  | ⟨2, _⟩ => show win1_1.index t 2 * 2048 ≤ (i 2).val ∧ (i 2).val < win1_1.index t 2 * 2048 + 2048; omega

theorem final1 (c : Dev nD) : (dat1 V c).arrAt 1 cfg1.N = groups (V c main_v3) :=
  (dat1 V c).arrAt_eq_of_cover 1 _ (fun t _ => flushed1 V c t) covered1

/-! ## The products by rows -/

/-- The four groups' products: the stream's row against the group's row. -/
def rowsOut (h : S16640x2048.Idx → EReal) (w : S6x1024x2048.Idx → EReal) : S4x16640x1024.Idx → EReal := fun i =>
  ∑ k : Fin 2048, h (ix2 (i 1) k) * w (ix3 ⟨(i 0).val + (if 3 ≤ (i 0).val then 1 else 0), by
    have h0 : (i 0).val < 4 := (i 0).isLt; split <;> omega⟩ (i 2) k)

theorem idx2 : ∀ t : Fin cfg2.N, win2_0.index t 0 = t.val % 16 ∧ win2_0.index t 1 = 0
    ∧ win2_1.index t 0 = t.val / 16 + (if 3 ≤ t.val / 16 then 1 else 0) ∧ win2_1.index t 1 = 0 ∧ win2_1.index t 2 = 0
    ∧ win2_2.index t 0 = t.val / 16 ∧ win2_2.index t 1 = t.val % 16 ∧ win2_2.index t 2 = 0 :=
  (by decide +kernel : ∀ t : Fin grid2.N, _)

theorem pay2_apply (x0 : Vec Ideal S1040x2048 .bf16) (x1 : Vec Ideal S1x1024x2048 .bf16) (r : Fin 1) (p : Fin 1040) (q : Fin 1024) :
    k2_pay1 x0 x1 (ix3 r p q) = ∑ k : Fin 2048, x0 (ix2 p k) * x1 (ix3 0 q k) := by
  unfold k2_pay1
  rw [shapeCast_self]
  refine (shapeCast_addUnit_apply ![1040, 1024] _ _ (ix3 r p q)).trans ?_
  have e : (fun a : Fin 2 => (ix3 r p q : S1x1040x1024.Idx) a.succ) = (ix2 p q : S1040x1024.Idx) := by
    funext a; match a with | ⟨0, _⟩ => rfl | ⟨1, _⟩ => rfl
  rw [e]
  refine (Ideal.matmul_transposedRhs_apply (M := 1040) (K := 2048) (N := 1024) (φ₁ := .bf16) (φ₂ := .bf16) none x0
    (shapeCast S1024x2048 x1 shapeCasts_S1x1024x2048_S1024x2048) _ p q).trans ?_
  have h0 : (constant S1040x1024 .f32 0x00000000#32 : FVec Ideal S1040x1024 .f32) (ix2 p q) = (0 : EReal) := Ideal.ofBits_zero_f32
  rw [h0, zero_add]
  refine Finset.sum_congr rfl fun k _ => congrArg _ ?_
  exact (shapeCast_dropUnit_apply ![1024, 2048] x1 _ (ix2 q k)).trans (congrArg x1 (eq_ix3 _))

theorem flushed2 (c : Dev nD) (t : Fin cfg2.N) :
    (dat2 V c).flushed 2 t = ((cfg2.win 2).blk t).view.read (Elt Ideal) (rowsOut (V c main_v2) (V c main_v4)) := by
  show (cfg2.win 2).cut (grid2.coords t) ((dat2 V c).after 2 t) = _
  rw [after2_2]
  unfold out2_2
  rw [View.canon_unit_zero hz3, View.ld_unit_zero (S := S1040x2048) hz2, View.ld_unit_zero (S := S1x1024x2048) hz3]
  obtain ⟨a0, a1, b0, b1, b2, o0, o1, o2⟩ := idx2 t
  have hN : t.val < 64 := t.isLt
  funext y
  obtain ⟨r, p, q, rfl⟩ : ∃ r p q, y = ix3 r p q := ⟨_, _, _, eq_ix3 y⟩
  refine (pay2_apply _ _ r p q).trans ?_
  show _ = rowsOut (V c main_v2) (V c main_v4) (((cfg2.win 2).blk t).view.emb (ix3 r p q))
  have hr := r.isLt
  have e0 : (((cfg2.win 2).blk t).view.emb (ix3 r p q) 0).val = t.val / 16 := by
    show win2_2.index t 0 * 1 + 1 * r.val = _; omega
  have e1 : (((cfg2.win 2).blk t).view.emb (ix3 r p q) 1).val = t.val % 16 * 1040 + p.val := by
    show win2_2.index t 1 * 1040 + 1 * p.val = _; omega
  have e2 : (((cfg2.win 2).blk t).view.emb (ix3 r p q) 2).val = q.val := by
    show win2_2.index t 2 * 1024 + 1 * q.val = _; omega
  unfold rowsOut
  refine Finset.sum_congr rfl fun k _ => congr (congrArg _ ?_) ?_
  · show V c main_v2 (((cfg2.win 0).blk t).view.emb (ix2 p k)) = V c main_v2 _
    congr 1
    funext a; apply Fin.ext
    match a with
    | ⟨0, _⟩ => show win2_0.index t 0 * 1040 + 1 * p.val = (((cfg2.win 2).blk t).view.emb (ix3 r p q) 1).val; omega
    | ⟨1, _⟩ => show win2_0.index t 1 * 2048 + 1 * k.val = k.val; omega
  · show V c main_v4 (((cfg2.win 1).blk t).view.emb (ix3 0 q k)) = V c main_v4 _
    congr 1
    funext a; apply Fin.ext
    match a with
    | ⟨0, _⟩ => show win2_1.index t 0 * 1 + 1 * 0 = (((cfg2.win 2).blk t).view.emb (ix3 r p q) 0).val + (if 3 ≤ (((cfg2.win 2).blk t).view.emb (ix3 r p q) 0).val then 1 else 0)
                rw [e0]; omega
    | ⟨1, _⟩ => show win2_1.index t 1 * 1024 + 1 * q.val = (((cfg2.win 2).blk t).view.emb (ix3 r p q) 2).val; omega
    | ⟨2, _⟩ => show win2_1.index t 2 * 2048 + 1 * k.val = k.val; omega

theorem covered2 (i : S4x16640x1024.Idx) : ∃ t : Fin cfg2.N, (cfg2.win 2).flush t = true ∧ i ∈ ((cfg2.win 2).blk t).view.set := by
  have h0 : (i 0).val < 4 := (i 0).isLt
  have h1 : (i 1).val < 16640 := (i 1).isLt
  have h2 : (i 2).val < 1024 := (i 2).isLt
  have hN : cfg2.N = 64 := N_2
  let t : Fin cfg2.N := ⟨16 * (i 0).val + (i 1).val / 1040, by omega⟩
  refine ⟨t, flush2_2 _, ?_⟩
  obtain ⟨-, -, -, -, -, o0, o1, o2⟩ := idx2 t
  have ht : t.val = 16 * (i 0).val + (i 1).val / 1040 := rfl
  show i ∈ ((View.whole main_v14).slice (win2_2.rect t)).set
  rw [View.set_slice_whole, Rect.mem_set_unit]
  intro a
  match a with
  | ⟨0, _⟩ => show win2_2.index t 0 * 1 ≤ (i 0).val ∧ (i 0).val < win2_2.index t 0 * 1 + 1; omega
  | ⟨1, _⟩ => show win2_2.index t 1 * 1040 ≤ (i 1).val ∧ (i 1).val < win2_2.index t 1 * 1040 + 1040; omega
  | ⟨2, _⟩ => show win2_2.index t 2 * 1024 ≤ (i 2).val ∧ (i 2).val < win2_2.index t 2 * 1024 + 1024; omega

theorem final2 (c : Dev nD) : (dat2 V c).arrAt 2 cfg2.N = rowsOut (V c main_v2) (V c main_v4) :=
  (dat2 V c).arrAt_eq_of_cover 2 _ (fun t _ => flushed2 V c t) covered2

/-! ## The transposed products -/

/-- The two groups' products transposed: the group's row against the stream's row. -/
def colsOut (h : S16640x2048.Idx → EReal) (w : S6x1024x2048.Idx → EReal) : S2x1024x16640.Idx → EReal := fun i =>
  ∑ k : Fin 2048, w (ix3 ⟨3 + 2 * (i 0).val, by have h0 : (i 0).val < 2 := (i 0).isLt; omega⟩ (i 1) k) * h (ix2 (i 2) k)

theorem idx3 : ∀ t : Fin cfg3.N, win3_0.index t 0 = t.val % 13 ∧ win3_0.index t 1 = 0
    ∧ win3_1.index t 0 = 3 + 2 * (t.val / 13) ∧ win3_1.index t 1 = 0 ∧ win3_1.index t 2 = 0
    ∧ win3_2.index t 0 = t.val / 13 ∧ win3_2.index t 1 = 0 ∧ win3_2.index t 2 = t.val % 13 :=
  (by decide +kernel : ∀ t : Fin grid3.N, _)

theorem pay3_apply (x1 : Vec Ideal S1x1024x2048 .bf16) (x0 : Vec Ideal S1280x2048 .bf16) (r : Fin 1) (p : Fin 1024) (q : Fin 1280) :
    k3_pay1 x1 x0 (ix3 r p q) = ∑ k : Fin 2048, x1 (ix3 0 p k) * x0 (ix2 q k) := by
  unfold k3_pay1
  rw [shapeCast_self x0]
  refine (shapeCast_addUnit_apply ![1024, 1280] _ _ (ix3 r p q)).trans ?_
  have e : (fun a : Fin 2 => (ix3 r p q : S1x1024x1280.Idx) a.succ) = (ix2 p q : S1024x1280.Idx) := by
    funext a; match a with | ⟨0, _⟩ => rfl | ⟨1, _⟩ => rfl
  rw [e]
  refine (Ideal.matmul_transposedRhs_apply (M := 1024) (K := 2048) (N := 1280) (φ₁ := .bf16) (φ₂ := .bf16) none
    (shapeCast S1024x2048 x1 shapeCasts_S1x1024x2048_S1024x2048) x0 _ p q).trans ?_
  have h0 : (constant S1024x1280 .f32 0x00000000#32 : FVec Ideal S1024x1280 .f32) (ix2 p q) = (0 : EReal) := Ideal.ofBits_zero_f32
  rw [h0, zero_add]
  refine Finset.sum_congr rfl fun k _ => congrArg (· * _) ?_
  exact (shapeCast_dropUnit_apply ![1024, 2048] x1 _ (ix2 p k)).trans (congrArg x1 (eq_ix3 _))

theorem flushed3 (c : Dev nD) (t : Fin cfg3.N) :
    (dat3 V c).flushed 2 t = ((cfg3.win 2).blk t).view.read (Elt Ideal) (colsOut (V c main_v2) (V c main_v4)) := by
  show (cfg3.win 2).cut (grid3.coords t) ((dat3 V c).after 2 t) = _
  rw [after3_2]
  unfold out3_2
  rw [View.canon_unit_zero hz3, View.ld_unit_zero (S := S1280x2048) hz2, View.ld_unit_zero (S := S1x1024x2048) hz3]
  obtain ⟨a0, a1, b0, b1, b2, o0, o1, o2⟩ := idx3 t
  have hN : t.val < 26 := t.isLt
  funext y
  obtain ⟨r, p, q, rfl⟩ : ∃ r p q, y = ix3 r p q := ⟨_, _, _, eq_ix3 y⟩
  refine (pay3_apply _ _ r p q).trans ?_
  show _ = colsOut (V c main_v2) (V c main_v4) (((cfg3.win 2).blk t).view.emb (ix3 r p q))
  have hr := r.isLt
  have e0 : (((cfg3.win 2).blk t).view.emb (ix3 r p q) 0).val = t.val / 13 := by
    show win3_2.index t 0 * 1 + 1 * r.val = _; omega
  have e1 : (((cfg3.win 2).blk t).view.emb (ix3 r p q) 1).val = p.val := by
    show win3_2.index t 1 * 1024 + 1 * p.val = _; omega
  have e2 : (((cfg3.win 2).blk t).view.emb (ix3 r p q) 2).val = t.val % 13 * 1280 + q.val := by
    show win3_2.index t 2 * 1280 + 1 * q.val = _; omega
  unfold colsOut
  refine Finset.sum_congr rfl fun k _ => congr (congrArg _ ?_) ?_
  · show V c main_v4 (((cfg3.win 1).blk t).view.emb (ix3 0 p k)) = V c main_v4 _
    congr 1
    funext a; apply Fin.ext
    match a with
    | ⟨0, _⟩ => show win3_1.index t 0 * 1 + 1 * 0 = 3 + 2 * (((cfg3.win 2).blk t).view.emb (ix3 r p q) 0).val; omega
    | ⟨1, _⟩ => show win3_1.index t 1 * 1024 + 1 * p.val = (((cfg3.win 2).blk t).view.emb (ix3 r p q) 1).val; omega
    | ⟨2, _⟩ => show win3_1.index t 2 * 2048 + 1 * k.val = k.val; omega
  · show V c main_v2 (((cfg3.win 0).blk t).view.emb (ix2 q k)) = V c main_v2 _
    congr 1
    funext a; apply Fin.ext
    match a with
    | ⟨0, _⟩ => show win3_0.index t 0 * 1280 + 1 * q.val = (((cfg3.win 2).blk t).view.emb (ix3 r p q) 2).val; omega
    | ⟨1, _⟩ => show win3_0.index t 1 * 2048 + 1 * k.val = k.val; omega

theorem covered3 (i : S2x1024x16640.Idx) : ∃ t : Fin cfg3.N, (cfg3.win 2).flush t = true ∧ i ∈ ((cfg3.win 2).blk t).view.set := by
  have h0 : (i 0).val < 2 := (i 0).isLt
  have h1 : (i 1).val < 1024 := (i 1).isLt
  have h2 : (i 2).val < 16640 := (i 2).isLt
  have hN : cfg3.N = 26 := N_3
  let t : Fin cfg3.N := ⟨13 * (i 0).val + (i 2).val / 1280, by omega⟩
  refine ⟨t, flush3_2 _, ?_⟩
  obtain ⟨-, -, -, -, -, o0, o1, o2⟩ := idx3 t
  have ht : t.val = 13 * (i 0).val + (i 2).val / 1280 := rfl
  show i ∈ ((View.whole main_v15).slice (win3_2.rect t)).set
  rw [View.set_slice_whole, Rect.mem_set_unit]
  intro a
  match a with
  | ⟨0, _⟩ => show win3_2.index t 0 * 1 ≤ (i 0).val ∧ (i 0).val < win3_2.index t 0 * 1 + 1; omega
  | ⟨1, _⟩ => show win3_2.index t 1 * 1024 ≤ (i 1).val ∧ (i 1).val < win3_2.index t 1 * 1024 + 1024; omega
  | ⟨2, _⟩ => show win3_2.index t 2 * 1280 ≤ (i 2).val ∧ (i 2).val < win3_2.index t 2 * 1280 + 1280; omega

theorem final3 (c : Dev nD) : (dat3 V c).arrAt 2 cfg3.N = colsOut (V c main_v2) (V c main_v4) :=
  (dat3 V c).arrAt_eq_of_cover 2 _ (fun t _ => flushed3 V c t) covered3

end Cert.Proof.ProjRegions

end
-- ==== Proof.ProjRun.lean ====
/- The input projection's run, at the ideal values: its two results as functions of the launch contents. -/
module

public import proofs.«01_k».proof.Proof.ProjRegions

@[expose] public section

set_option maxRecDepth 16384

noncomputable section

namespace Cert.Proof.ProjRun

open Cert.ProjIdeal Cert.ProjIdeal.Gen Idealize.ShloMosaic Idealize.ShloMosaic.TcCoe Idealize.SL.Sem Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds
open Cert.Proof.ProjRegions

local notation "𝕄" => MT nD τ sig Unit (Elt Ideal) ℕ (UR sig nD τ) ℕ

variable (m : (ℓ : Loc nD τ sig) → Buf (Elt Ideal) ℓ) (ρ : Dev nD → PrngReg)

/-- The head rows: 240 zero rows, then the learned rows. -/
def head (y : S16x2048.Idx → EReal) : S256x2048.Idx → EReal :=
  concatenate S256x2048 0 [⟨S240x2048, broadcastInDim S240x2048 ![] bcast_S_S240x2048 (constant (F := Ideal) S_ .f32 0x00000000#32)⟩, ⟨S16x2048, y⟩]
    concatenates_S240x2048_S16x2048_S256x2048_d0

theorem entry_head (c : Dev nD) : V1 m ρ c main_v1 = head (m ((c.tc : Thread nD τ).loc main_arg1)) := by
  show StableHlo.after hostOps0 (W0 m ρ c) (Proc.devRef .tc main_v1) = _
  simp only [hostOps0]
  after_results_simp
  rfl

theorem entry_input (c : Dev nD) : V1 m ρ c main_arg0 = m ((c.tc : Thread nD τ).loc main_arg0) :=
  (W1_of m ρ c main_arg0 (by decide)).trans rfl

/-- The stream the projections read. -/
def hidden (c : Dev nD) : S16640x2048.Idx → EReal :=
  stream (head (m ((c.tc : Thread nD τ).loc main_arg1))) (m ((c.tc : Thread nD τ).loc main_arg0))

/-- The transposed weights. -/
def weightsT (c : Dev nD) : S2x6160x2048.Idx → EReal :=
  transpose S2x6160x2048 [0, 2, 1] (m ((c.tc : Thread nD τ).loc main_arg2)) transposes_S2x2048x6160_S2x6160x2048_0_2_1

theorem at2_stream (c : Dev nD) : V2 m ρ c main_v2 = hidden m c := by
  refine (W2_arr m ρ c 2).trans ((final0 _ c).trans ?_)
  rw [entry_head, entry_input]; rfl

theorem entry_weights (c : Dev nD) : V3 m ρ c main_v3 = weightsT m c := by
  have e : W2 m ρ c (Proc.devRef .tc main_arg2) = m ((c.tc : Thread nD τ).loc main_arg2) := W2_args m ρ c main_arg2 (by decide)
  show StableHlo.after hostOps1 (W2 m ρ c) (Proc.devRef .tc main_v3) = _
  simp only [hostOps1]
  after_results_simp
  unfold weightsT
  rw [← e]

theorem at4_groups (c : Dev nD) : V4 m ρ c main_v4 = groups (weightsT m c) := by
  refine (W4_arr m ρ c 1).trans ((final1 _ c).trans ?_)
  rw [entry_weights]

theorem at5_stream (c : Dev nD) : V5 m ρ c main_v2 = hidden m c :=
  (W5_of m ρ c main_v2 (by decide)).trans ((W4_of m ρ c main_v2 (by decide)).trans ((W3_of m ρ c main_v2 (by decide)).trans (at2_stream m ρ c)))

theorem at5_groups (c : Dev nD) : V5 m ρ c main_v4 = groups (weightsT m c) :=
  (W5_of m ρ c main_v4 (by decide)).trans (at4_groups m ρ c)

theorem at6_stream (c : Dev nD) : V6 m ρ c main_v2 = hidden m c :=
  (W6_of m ρ c main_v2 (by decide)).trans (at5_stream m ρ c)

theorem at6_groups (c : Dev nD) : V6 m ρ c main_v4 = groups (weightsT m c) :=
  (W6_of m ρ c main_v4 (by decide)).trans (at5_groups m ρ c)

theorem at7_rows (c : Dev nD) : W7 m ρ c (Proc.devRef .tc main_v14) = rowsOut (hidden m c) (groups (weightsT m c)) := by
  refine (W7_of m ρ c main_v14 (by decide)).trans ((W6_arr m ρ c 2).trans ((final2 _ c).trans ?_))
  rw [at5_stream, at5_groups]

theorem at7_cols (c : Dev nD) : W7 m ρ c (Proc.devRef .tc main_v15) = colsOut (hidden m c) (groups (weightsT m c)) := by
  refine (W7_arr m ρ c 2).trans ((final3 _ c).trans ?_)
  rw [at6_stream, at6_groups]

-- the run unifies through plain definitions in a metavariable's type
set_option backward.isDefEq.respectTransparency.types false in
/-- Every execution ends with the two results at these functions of the arguments and the arguments unchanged. -/
theorem run : θ_run defs (onTc (τ := τ) (main (F := Ideal))) ⟨m, fun _ => 0, ρ⟩ (fun r => ∀ c : Dev nD,
      r.2.mem ((c.tc : Thread nD τ).loc main_v14) = rowsOut (hidden m c) (groups (weightsT m c))
      ∧ r.2.mem ((c.tc : Thread nD τ).loc main_v15) = colsOut (hidden m c) (groups (weightsT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v14 (by decide))).trans (at7_rows m ρ c),
       (h c _ (mem_uc main_v15 (by decide))).trans (at7_cols m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.Proof.ProjRun

end
-- ==== Proof.ProjRefRead.lean ====
/- The input projection's reference, read at an index: each result is a padded column group of the one product of the
   stream's rows with the first layer's weights. -/
module

public import proofs.«01_k».proof.Proof.Gen.ProjRefIdeal.Read
public import Idealize.ShloMosaic.Lib.KernelVsHost
public import Idealize.ShloMosaic.Lib.IdealHost

@[expose] public section

noncomputable section

namespace Cert.Proof.ProjRefRead

open Cert.ProjRefIdeal Cert.ProjRefIdeal.Gen Cert.ProjRefIdeal.Read Idealize.ShloMosaic Idealize.ShloMosaic.TcCoe Idealize.SL.Sem Idealize.ShloMosaic.ValueIdx
open scoped BigOperators

variable (x : S1x16384x2048.Idx → EReal) (y : S16x2048.Idx → EReal) (w : S2x2048x6160.Idx → EReal)

/-- The stream's rows: the learned rows, then the input's. -/
def row (p : Fin 16400) (k : Fin 2048) : EReal :=
  if h : p.val < 16 then y (ix2 ⟨p.val, h⟩ k) else x (ix3 0 ⟨p.val - 16, by omega⟩ k)

/-- The product of row `p` with column `q` of the first layer's weights. -/
def proj (p : Fin 16400) (q : Fin 6160) : EReal := ∑ k : Fin 2048, row x y p k * w (ix3 0 k q)

theorem row_eq (p : Fin 16400) (k : Fin 2048) : val_main_v1 (F := Ideal) x y (ix2 p k) = row x y p k := by
  unfold val_main_v1 row
  split
  · rename_i h
    exact concatenate_pair_apply_left (t := S16400x2048) (s₁ := S16x2048) (s₂ := S16384x2048) 0 _ _ _ (ix2 p k) rfl (ix2 ⟨p.val, h⟩ k) fun b => match b with | ⟨0, _⟩ => rfl | ⟨1, _⟩ => rfl
  · rename_i h
    refine (concatenate_pair_apply_right (t := S16400x2048) (s₁ := S16x2048) (s₂ := S16384x2048) 0 _ _ _ (ix2 p k) rfl rfl
      (ix2 ⟨p.val - 16, by have := p.isLt; omega⟩ k) (fun b hb => ?_) ?_).trans ?_
    · match b with
      | ⟨0, _⟩ => exact absurd rfl hb
      | ⟨1, _⟩ => rfl
    · show p.val - 16 + 16 = p.val; omega
    · rw [val_main_v0_apply]
      congr 1
      funext a; apply Fin.ext
      match a with
      | ⟨0, _⟩ => rfl
      | ⟨1, _⟩ => show ((p.val - 16) * 2048 + k.val) / 2048 % 16384 = p.val - 16; omega
      | ⟨2, _⟩ => show ((p.val - 16) * 2048 + k.val) % 2048 = k.val; omega

theorem proj_eq (p : Fin 16400) (q : Fin 6160) : val_main_v4 (F := Ideal) x y w (ix2 p q) = proj x y w p q := by
  rw [val_main_v4_apply]
  unfold proj
  refine Finset.sum_congr rfl fun k _ => congr (congrArg _ ?_) ?_
  · refine Eq.trans (congrArg _ ?_) (row_eq x y p k)
    funext a; match a with | ⟨0, _⟩ => rfl | ⟨1, _⟩ => rfl
  · rw [val_main_v3_apply, val_main_v2_apply]
    congr 1
    funext a; apply Fin.ext
    match a with
    | ⟨0, _⟩ => rfl
    | ⟨1, _⟩ => show (k.val * 6160 + q.val) / 6160 % 2048 = k.val; omega
    | ⟨2, _⟩ => show (k.val * 6160 + q.val) % 6160 = q.val; omega

/-- A group padded below by 240 zero rows, at an index. -/
theorem pad_read (s : S16400x1024.Idx → EReal) (z : S_.Idx → EReal) (hz : ∀ j, z j = 0) (p : Fin 16640) (q : Fin 1024) :
    pad S16640x1024 ![240, 0] ![0, 0] ![0, 0] s z pads_S16400x1024_S16640x1024_24000_000 h_S_ (ix2 p q)
      = if h : 240 ≤ p.val then s (ix2 ⟨p.val - 240, by omega⟩ q) else 0 := by
  split
  · rename_i h
    refine pad_apply_of_inside _ _ _ s z _ _ _ _ fun a => ?_
    match a with
    | ⟨0, _⟩ => show p.val = 240 + (p.val - 240) * (0 + 1); omega
    | ⟨1, _⟩ => show q.val = 0 + q.val * (0 + 1); omega
  · rename_i h
    refine (pad_apply_of_not_inside _ _ _ s z _ _ _ 0 fun hh => h hh.1).trans (hz _)

theorem zero_read : FloatOps.sitofp (F := Ideal) .f32 (0#32 : BitVec 32) = (0 : EReal) := by
  show (((0#32 : BitVec 32).toInt : ℝ) : EReal) = 0
  simp

/-- One column group of the product, under its zero rows. -/
def padded (off : Nat) (h : off + 1024 ≤ 6160) (p : Fin 16640) (q : Fin 1024) : EReal :=
  if hp : 240 ≤ p.val then proj x y w ⟨p.val - 240, by omega⟩ ⟨off + q.val, by omega⟩ else 0

theorem rows0 (p : Fin 16640) (q : Fin 1024) : val_main_v21 (F := Ideal) x y w (ix2 p q) = padded x y w 0 (by decide) p q := by
  unfold val_main_v21 padded
  refine (pad_read _ _ (fun _ => zero_read) p q).trans (dite_congr rfl (fun h => ?_) fun _ => rfl)
  unfold val_main_v15
  by_cases hq : q.val < 512
  · refine (concatenate_pair_apply_left (t := S16400x1024) (s₁ := S16400x512) (s₂ := S16400x512) 1 _ _ _ (ix2 ⟨p.val - 240, by omega⟩ q) rfl
      (ix2 ⟨p.val - 240, by omega⟩ ⟨q.val, hq⟩) fun b => match b with | ⟨0, _⟩ => rfl | ⟨1, _⟩ => rfl).trans ?_
    rw [val_main_v5_apply, ← proj_eq]
    congr 1
    funext a; apply Fin.ext
    match a with
    | ⟨0, _⟩ => rfl
    | ⟨1, _⟩ => show q.val = 0 + q.val; omega
  · refine (concatenate_pair_apply_right (t := S16400x1024) (s₁ := S16400x512) (s₂ := S16400x512) 1 _ _ _ (ix2 ⟨p.val - 240, by omega⟩ q) rfl rfl
      (ix2 ⟨p.val - 240, by omega⟩ ⟨q.val - 512, by have := q.isLt; omega⟩) (fun b hb => ?_) ?_).trans ?_
    · match b with
      | ⟨0, _⟩ => rfl
      | ⟨1, _⟩ => exact absurd rfl hb
    · show q.val - 512 + 512 = q.val; omega
    · rw [val_main_v6_apply, ← proj_eq]
      congr 1
      funext a; apply Fin.ext
      match a with
      | ⟨0, _⟩ => rfl
      | ⟨1, _⟩ => show 512 + (q.val - 512) = 0 + q.val; omega

theorem rows1 (p : Fin 16640) (q : Fin 1024) : val_main_v22 (F := Ideal) x y w (ix2 p q) = padded x y w 1024 (by decide) p q := by
  unfold val_main_v22 padded
  refine (pad_read _ _ (fun _ => zero_read) p q).trans (dite_congr rfl (fun h => ?_) fun _ => rfl)
  rw [val_main_v7_apply, ← proj_eq]
  congr 1; funext a; match a with | ⟨0, _⟩ => rfl | ⟨1, _⟩ => rfl

theorem rows2 (p : Fin 16640) (q : Fin 1024) : val_main_v23 (F := Ideal) x y w (ix2 p q) = padded x y w 2056 (by decide) p q := by
  unfold val_main_v23 padded
  refine (pad_read _ _ (fun _ => zero_read) p q).trans (dite_congr rfl (fun h => ?_) fun _ => rfl)
  rw [val_main_v10_apply, ← proj_eq]
  congr 1; funext a; match a with | ⟨0, _⟩ => rfl | ⟨1, _⟩ => rfl

theorem rows3 (p : Fin 16640) (q : Fin 1024) : val_main_v24 (F := Ideal) x y w (ix2 p q) = padded x y w 4104 (by decide) p q := by
  unfold val_main_v24 padded
  refine (pad_read _ _ (fun _ => zero_read) p q).trans (dite_congr rfl (fun h => ?_) fun _ => rfl)
  rw [val_main_v12_apply, ← proj_eq]
  congr 1; funext a; match a with | ⟨0, _⟩ => rfl | ⟨1, _⟩ => rfl

theorem cols1 (p : Fin 16640) (q : Fin 1024) : val_main_v33 (F := Ideal) x y w (ix2 p q) = padded x y w 5128 (by decide) p q := by
  unfold val_main_v33 padded
  refine (pad_read _ _ (fun _ => zero_read) p q).trans (dite_congr rfl (fun h => ?_) fun _ => rfl)
  rw [val_main_v13_apply, ← proj_eq]
  congr 1; funext a; match a with | ⟨0, _⟩ => rfl | ⟨1, _⟩ => rfl

/-- The queries' scale. -/
abbrev scale : EReal := (((Real.sqrt 128)⁻¹ * (Real.log 2)⁻¹ : ℝ) : EReal)

theorem divisor (i : S16400x1024.Idx) : val_main_v19 (F := Ideal) i = ((Real.sqrt 128 * Real.log 2 : ℝ) : EReal) := by
  have h128 : Ideal.ofBits .f32 0x43000000#32 = ((128 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  rw [val_main_v19_apply]
  show Ideal.sqrt (Ideal.ofBits .f32 0x43000000#32) * Ideal.log (Ideal.ofBits .f32 0x40000000#32) = _
  rw [h128, h2, Ideal.sqrt_coe, Ideal.log_coe, if_neg (by norm_num), if_neg (by norm_num), ← EReal.coe_mul]

theorem cols0 (p : Fin 16640) (q : Fin 1024) : val_main_v31 (F := Ideal) x y w (ix2 p q) = padded x y w 3080 (by decide) p q * scale := by
  unfold val_main_v31 padded
  refine (pad_read _ _ (fun _ => zero_read) p q).trans ?_
  split
  · rw [val_main_v20_apply, val_main_v11_apply, divisor]
    show Ideal.div _ _ = _
    have hl : Real.sqrt 128 * Real.log 2 ≠ 0 :=
      mul_ne_zero (Real.sqrt_pos.mpr (by norm_num)).ne' (Real.log_pos (by norm_num)).ne'
    rw [Ideal.div_coe hl, one_div, mul_inv, ← proj_eq]
    congr 2
    funext a; match a with | ⟨0, _⟩ => rfl | ⟨1, _⟩ => rfl
  · rw [zero_mul]

theorem result_rows (g : Fin 4) (p : Fin 16640) (q : Fin 1024) :
    val_main_v30 (F := Ideal) x y w (ix3 g p q) = (match g with
      | 0 => padded x y w 0 (by decide) p q
      | 1 => padded x y w 1024 (by decide) p q
      | 2 => padded x y w 2056 (by decide) p q
      | 3 => padded x y w 4104 (by decide) p q) := by
  rw [val_main_v30_apply]
  show val_main_v29 (F := Ideal) x y w _ = _
  unfold val_main_v29
  have hb : ∀ (n : Fin 4) (b : Fin 3), b.cast (rfl : (3 : Nat) = 3) ≠ (0 : Fin 3) → ((ix3 0 p q : S1x16640x1024.Idx) b).val = ((ix3 n p q : S4x16640x1024.Idx) b).val :=
    fun n b hb => match b with
      | ⟨0, _⟩ => absurd rfl hb
      | ⟨1, _⟩ => rfl
      | ⟨2, _⟩ => rfl
  let xs : List ((s : Shape) × (s.Idx → EReal)) := [⟨S1x16640x1024, val_main_v25 (F := Ideal) x y w⟩, ⟨S1x16640x1024, val_main_v26 (F := Ideal) x y w⟩,
    ⟨S1x16640x1024, val_main_v27 (F := Ideal) x y w⟩, ⟨S1x16640x1024, val_main_v28 (F := Ideal) x y w⟩]
  have hx : Shape.Concatenates (xs.map (·.1)) S4x16640x1024 0 := concatenates_S1x16640x1024_S1x16640x1024_S1x16640x1024_S1x16640x1024_S4x16640x1024_d0
  rcases (by omega : g = 0 ∨ g = 1 ∨ g = 2 ∨ g = 3) with rfl | rfl | rfl | rfl
  · refine (concatenate_apply_piece (t := S4x16640x1024) 0 xs hx (ix3 0 p q) 0 (by simp [xs]) S1x16640x1024
      (val_main_v25 (F := Ideal) x y w) rfl rfl 0 (by simp [xs]) (ix3 0 p q) (hb 0) rfl).trans ?_
    rw [val_main_v25_apply]
    exact (congrArg _ (funext fun a => match a with | ⟨0, _⟩ => rfl | ⟨1, _⟩ => rfl)).trans (rows0 x y w p q)
  · refine (concatenate_apply_piece (t := S4x16640x1024) 0 xs hx (ix3 1 p q) 1 (by simp [xs]) S1x16640x1024
      (val_main_v26 (F := Ideal) x y w) rfl rfl 1 (by simp [xs]) (ix3 0 p q) (hb 1) rfl).trans ?_
    rw [val_main_v26_apply]
    exact (congrArg _ (funext fun a => match a with | ⟨0, _⟩ => rfl | ⟨1, _⟩ => rfl)).trans (rows1 x y w p q)
  · refine (concatenate_apply_piece (t := S4x16640x1024) 0 xs hx (ix3 2 p q) 2 (by simp [xs]) S1x16640x1024
      (val_main_v27 (F := Ideal) x y w) rfl rfl 2 (by simp [xs]) (ix3 0 p q) (hb 2) rfl).trans ?_
    rw [val_main_v27_apply]
    exact (congrArg _ (funext fun a => match a with | ⟨0, _⟩ => rfl | ⟨1, _⟩ => rfl)).trans (rows2 x y w p q)
  · refine (concatenate_apply_piece (t := S4x16640x1024) 0 xs hx (ix3 3 p q) 3 (by simp [xs]) S1x16640x1024
      (val_main_v28 (F := Ideal) x y w) rfl rfl 3 (by simp [xs]) (ix3 0 p q) (hb 3) rfl).trans ?_
    rw [val_main_v28_apply]
    exact (congrArg _ (funext fun a => match a with | ⟨0, _⟩ => rfl | ⟨1, _⟩ => rfl)).trans (rows3 x y w p q)

theorem result_cols (g : Fin 2) (q : Fin 1024) (p : Fin 16640) :
    val_main_v38 (F := Ideal) x y w (ix3 g q p) = (match g with
      | 0 => padded x y w 3080 (by decide) p q * scale
      | 1 => padded x y w 5128 (by decide) p q) := by
  rw [val_main_v38_apply]
  show val_main_v37 (F := Ideal) x y w _ = _
  unfold val_main_v37
  rcases (by omega : g = 0 ∨ g = 1) with rfl | rfl
  · refine (concatenate_pair_apply_left (t := S2x1024x16640) (s₁ := S1x1024x16640) (s₂ := S1x1024x16640) 0 _ _ _ (ix3 0 q p) rfl (ix3 0 q p) fun b => match b with | ⟨0, _⟩ => rfl | ⟨1, _⟩ => rfl | ⟨2, _⟩ => rfl).trans ?_
    rw [val_main_v35_apply, val_main_v32_apply]
    exact (congrArg _ (funext fun a => match a with | ⟨0, _⟩ => rfl | ⟨1, _⟩ => rfl)).trans (cols0 x y w p q)
  · refine (concatenate_pair_apply_right (t := S2x1024x16640) (s₁ := S1x1024x16640) (s₂ := S1x1024x16640) 0 _ _ _ (ix3 1 q p) rfl rfl (ix3 0 q p) (fun b hb => ?_) rfl).trans ?_
    · match b with
      | ⟨0, _⟩ => exact absurd rfl hb
      | ⟨1, _⟩ => rfl
      | ⟨2, _⟩ => rfl
    rw [val_main_v36_apply, val_main_v34_apply]
    exact (congrArg _ (funext fun a => match a with | ⟨0, _⟩ => rfl | ⟨1, _⟩ => rfl)).trans (cols1 x y w p q)

end Cert.Proof.ProjRefRead

end
-- ==== Proof.ProjEqual.lean ====
/- The input projection: the kernel's two results are the reference's. A padded row of the stream is zero, so its product
   is zero; the scale of the queries' weights is a finite nonnegative number, so it moves out of the sum. -/
module

public import proofs.«01_k».proof.Proof.ProjRun
public import proofs.«01_k».proof.Proof.ProjRefRead

@[expose] public section

noncomputable section

namespace Cert.Proof.ProjEqual

open Cert.ProjIdeal Cert.ProjIdeal.Gen Idealize.ShloMosaic Idealize.ShloMosaic.TcCoe Idealize.SL.Sem Idealize.ShloMosaic.ValueIdx
open Cert.Proof.ProjRegions Cert.Proof.ProjRun
open Cert.Proof.ProjRefRead (row proj padded scale)
open scoped BigOperators

variable (x : S1x16384x2048.Idx → EReal) (y : S16x2048.Idx → EReal) (w : S2x2048x6160.Idx → EReal)

theorem stream_zero (p : Fin 16640) (k : Fin 2048) (hp : ¬ 240 ≤ p.val) : stream (head y) x (ix2 p k) = 0 := by
  unfold stream
  rw [dif_pos (show ((ix2 p k : S16640x2048.Idx) 0).val < 256 from by show p.val < 256; omega)]
  unfold head
  refine (concatenate_pair_apply_left (t := S256x2048) (s₁ := S240x2048) (s₂ := S16x2048) 0 _ _ _
    (ix2 ⟨p.val, by omega⟩ k) rfl (ix2 ⟨p.val, by omega⟩ k) fun b => match b with | ⟨0, _⟩ => rfl | ⟨1, _⟩ => rfl).trans ?_
  exact Ideal.ofBits_zero_f32

theorem stream_row (p : Fin 16640) (k : Fin 2048) (hp : 240 ≤ p.val) :
    stream (head y) x (ix2 p k) = row x y ⟨p.val - 240, by omega⟩ k := by
  unfold stream row
  by_cases h : p.val < 256
  · rw [dif_pos (show ((ix2 p k : S16640x2048.Idx) 0).val < 256 from h), dif_pos (show p.val - 240 < 16 by omega)]
    unfold head
    refine concatenate_pair_apply_right (t := S256x2048) (s₁ := S240x2048) (s₂ := S16x2048) 0 _ _ _
      (ix2 ⟨p.val, by omega⟩ k) rfl rfl (ix2 ⟨p.val - 240, by omega⟩ k) (fun b hb => ?_) ?_
    · match b with
      | ⟨0, _⟩ => exact absurd rfl hb
      | ⟨1, _⟩ => rfl
    · show p.val - 240 + 240 = p.val; omega
  · rw [dif_neg (show ¬ ((ix2 p k : S16640x2048.Idx) 0).val < 256 from h), dif_neg (show ¬ p.val - 240 < 16 by omega)]
    refine congrArg x (funext fun a => Fin.ext ?_)
    match a with
    | ⟨0, _⟩ => rfl
    | ⟨1, _⟩ => show p.val - 256 = p.val - 240 - 16; omega
    | ⟨2, _⟩ => rfl

theorem group_read (g : Fin 6) (q : Fin 1024) (k : Fin 2048) (off : Nat) (ho : off = groupRow g.val) (h : off + 1024 ≤ 6160) :
    groups (transpose S2x6160x2048 [0, 2, 1] w transposes_S2x2048x6160_S2x6160x2048_0_2_1) (ix3 g q k)
      = w (ix3 0 k ⟨off + q.val, by omega⟩) * groupScale g.val := by
  subst ho
  unfold groups
  refine congrArg (· * _) ?_
  show w _ = w _
  congr 1
  funext a; apply Fin.ext
  match a with
  | ⟨0, _⟩ => rfl
  | ⟨1, _⟩ => rfl
  | ⟨2, _⟩ => rfl

theorem sum_scale {n : Nat} (f : Fin n → EReal) (s : EReal) (hs : 0 ≤ s) (ht : s ≠ ⊤) : ∑ k, f k * s = (∑ k, f k) * s := by
  refine (?_ : ∀ S : Finset (Fin n), ∑ k ∈ S, f k * s = (∑ k ∈ S, f k) * s) _
  intro S
  induction S using Finset.induction_on with
  | empty => simp
  | insert a S ha ih => rw [Finset.sum_insert ha, Finset.sum_insert ha, ih, EReal.right_distrib_of_nonneg_of_ne_top hs ht]

theorem product (p : Fin 16640) (q : Fin 1024) (g : Fin 6) (off : Nat) (ho : off = groupRow g.val) (h : off + 1024 ≤ 6160) :
    (∑ k : Fin 2048, stream (head y) x (ix2 p k)
        * groups (transpose S2x6160x2048 [0, 2, 1] w transposes_S2x2048x6160_S2x6160x2048_0_2_1) (ix3 g q k))
      = padded x y w off h p q * groupScale g.val := by
  unfold padded
  split
  · rename_i hp
    unfold proj
    rw [← sum_scale]
    · refine Finset.sum_congr rfl fun k _ => ?_
      rw [stream_row x y p k hp, group_read w g q k off ho h, mul_assoc]
    · unfold groupScale; split
      · exact_mod_cast mul_nonneg (inv_nonneg.mpr (Real.sqrt_nonneg _)) (inv_nonneg.mpr (Real.log_nonneg (by norm_num)))
      · exact zero_le_one
    · unfold groupScale; split
      · exact EReal.coe_ne_top _
      · exact EReal.coe_ne_top 1
  · rename_i hp
    rw [zero_mul]
    refine Finset.sum_eq_zero fun k _ => ?_
    rw [stream_zero x y p k hp, zero_mul]

theorem rows_equal :
    rowsOut (stream (head y) x) (groups (transpose S2x6160x2048 [0, 2, 1] w transposes_S2x2048x6160_S2x6160x2048_0_2_1))
      = Cert.ProjRefIdeal.Read.val_main_v30 (F := Ideal) x y w := by
  funext i
  obtain ⟨g, p, q, rfl⟩ : ∃ g p q, i = ix3 g p q := ⟨_, _, _, eq_ix3 i⟩
  refine Eq.trans ?_ (Cert.Proof.ProjRefRead.result_rows x y w g p q).symm
  rcases (by omega : g = 0 ∨ g = 1 ∨ g = 2 ∨ g = 3) with rfl | rfl | rfl | rfl
  · exact (product x y w p q 0 0 (by decide) (by decide)).trans (mul_one _)
  · exact (product x y w p q 1 1024 (by decide) (by decide)).trans (mul_one _)
  · exact (product x y w p q 2 2056 (by decide) (by decide)).trans (mul_one _)
  · exact (product x y w p q 4 4104 (by decide) (by decide)).trans (mul_one _)

theorem cols_equal :
    colsOut (stream (head y) x) (groups (transpose S2x6160x2048 [0, 2, 1] w transposes_S2x2048x6160_S2x6160x2048_0_2_1))
      = Cert.ProjRefIdeal.Read.val_main_v38 (F := Ideal) x y w := by
  funext i
  obtain ⟨g, q, p, rfl⟩ : ∃ g q p, i = ix3 g q p := ⟨_, _, _, eq_ix3 i⟩
  refine Eq.trans ?_ (Cert.Proof.ProjRefRead.result_cols x y w g q p).symm
  unfold colsOut
  rcases (by omega : g = 0 ∨ g = 1) with rfl | rfl
  · exact (Finset.sum_congr rfl fun k _ => mul_comm _ _).trans (product x y w p q 3 3080 (by decide) (by decide))
  · exact (Finset.sum_congr rfl fun k _ => mul_comm _ _).trans ((product x y w p q 5 5128 (by decide) (by decide)).trans (mul_one _))

end Cert.Proof.ProjEqual

end
-- ==== Proof.ProjClaims.lean ====
/- The input projection's claims: the reference's frame and the two programs' equal results. -/
module

public import proofs.«01_k».proof.Proof.ProjEqual
public import proofs.«01_k».proof.Defs

@[expose] public section

noncomputable section

namespace Cert.Proof.ProjClaims

open Idealize.ShloMosaic Idealize.ShloMosaic.TcCoe Idealize.SL.Sem

theorem frame_ref : Cert.quiescent_ProjRefIdeal (hProjRefIdeal := Cert.ProjRefIdeal.Gen.facts) := fun m ρ _ =>
  (θ_run Cert.ProjRefIdeal.defs _ _).mono
    (fun r h => ⟨fun c => ⟨(h c).2.2.1, (h c).2.2.2.1, (h c).2.2.2.2⟩, Idealize.ShloMosaic.sem_eq_zero_of_no_sems (by decide) r.2⟩)
    (Cert.ProjRefIdeal.Value.run (F := Ideal) m ρ)

theorem preserves : Cert.preserves_Proj_ProjIdeal :=
  IdealRules.named_const.statement Cert.ProjIdeal.κ "q_scale" .f32 0x3E0293EE#32 _ rfl

theorem algebraic : Cert.algebraic_ProjIdeal_ProjRefIdeal (hProjIdeal := Cert.ProjIdeal.Gen.facts) (hProjRefIdeal := Cert.ProjRefIdeal.Gen.facts) := by
  intro m ρ m' ρ' _ hagree
  refine ⟨fun c => _, fun c => _, Cert.Proof.ProjRun.run m ρ, ?_⟩
  refine (θ_run Cert.ProjRefIdeal.defs _ _).mono (fun r h c => ?_) (Cert.ProjRefIdeal.Value.run (F := Ideal) m' ρ')
  obtain ⟨e0, e1, e2⟩ := hagree c
  obtain ⟨r0, r1, ha⟩ := h c
  refine ⟨r0.trans ?_, r1.trans ?_, ha⟩
  · rw [Cert.ProjRefIdeal.Read.val_main_v30_eq, e0, e1, e2]
    exact (Cert.Proof.ProjEqual.rows_equal _ _ _).symm
  · rw [Cert.ProjRefIdeal.Read.val_main_v38_eq, e0, e1, e2]
    exact (Cert.Proof.ProjEqual.cols_equal _ _ _).symm

end Cert.Proof.ProjClaims

end
-- ==== Proof.LayerNorm.lean ====
/- A row's layer normalisation over the extended reals, as both programs of a claim compute it: the row less its mean,
   times the reciprocal square root of its variance and a small constant, scaled and shifted. -/
module

public import Idealize.ShloMosaic.Lib.KernelVsHost

@[expose] public section

noncomputable section

namespace Cert.Proof.LayerNorm

open Idealize.ShloMosaic
open scoped BigOperators

/-- The row's mean. -/
def mean (z : Fin 2048 → EReal) : EReal := Ideal.div (∑ k, z k) (Ideal.ofBits .f32 0x45000000#32)

/-- The mean of the squared distances from the mean. -/
def var (z : Fin 2048 → EReal) : EReal :=
  Ideal.div (∑ k, (z k - mean z) * (z k - mean z)) (Ideal.ofBits .f32 0x45000000#32)

/-- Entry `j` of the normalised row. -/
def norm (z g b : Fin 2048 → EReal) (j : Fin 2048) : EReal :=
  (z j - mean z) * Ideal.rsqrt (var z + Ideal.ofBits .f32 0x3727C5AC#32) * g j + b j

end Cert.Proof.LayerNorm

end
-- ==== Proof.MlpPayload.lean ====
/- What the feed-forward kernel's stored values hold at an index: the partial product added to the running block, and the
   layer normalisation of the finished rows. -/
module

public import proofs.«01_k».proof.Proof.Gen.MlpIdeal.Value
public import proofs.«01_k».proof.Proof.LayerNorm
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost

@[expose] public section

noncomputable section

namespace Cert.Proof.MlpPayload

open Cert.MlpIdeal Cert.MlpIdeal.Gen Idealize.ShloMosaic Idealize.ShloMosaic.TcCoe Idealize.SL.Sem Idealize.ShloMosaic.ValueIdx
open scoped BigOperators

/-- The squared positive part. -/
def act (v : EReal) : EReal := max v 0 * max v 0

/-- A grid point's share of the second product. -/
def part (x0 : Vec Ideal S512x2048 .bf16) (x1 : Vec Ideal S2048x1024 .bf16) (x2 : Vec Ideal S1024x2048 .bf16) (p : Fin 512)
    (q : Fin 2048) : EReal :=
  ∑ j : Fin 1024, act (∑ k : Fin 2048, x0 (ix2 p k) * x1 (ix2 k j)) * x2 (ix2 j q)

theorem pay1_apply (y : S512x2048.Idx) : k0_pay1 (F := Ideal) y = (0 : EReal) := by
  unfold k0_pay1; rw [shapeCast_self]; exact Ideal.ofBits_zero_f32

theorem pay2_apply (x0 : Vec Ideal S512x2048 .bf16) (x1 : Vec Ideal S2048x1024 .bf16) (acc : Vec Ideal S512x2048 .f32)
    (x2 : Vec Ideal S1024x2048 .bf16) (p : Fin 512) (q : Fin 2048) :
    k0_pay2 (F := Ideal) x0 x1 acc x2 (ix2 p q) = acc (ix2 p q) + part x0 x1 x2 p q := by
  unfold k0_pay2 part
  simp only [shapeCast_self]
  refine congrArg (acc (ix2 p q) + ·) ?_
  refine (Ideal.matmul_plain_apply (M := 512) (K := 1024) (N := 2048) (φ₁ := .bf16) (φ₂ := .bf16) none _ x2 _ p q).trans ?_
  have h0 : (constant S512x2048 .f32 0x00000000#32 : FVec Ideal S512x2048 .f32) (ix2 p q) = (0 : EReal) := Ideal.ofBits_zero_f32
  rw [h0, zero_add]
  refine Finset.sum_congr rfl fun j _ => congrArg (· * x2 (ix2 j q)) ?_
  have h1 := Ideal.matmul_plain_apply (M := 512) (K := 2048) (N := 1024) (φ₁ := .bf16) (φ₂ := .bf16) none x0 x1
    (constant S512x1024 .f32 0x00000000#32) p j
  have h2 : (constant S512x1024 .f32 0x00000000#32 : FVec Ideal S512x1024 .f32) (ix2 p j) = (0 : EReal) := Ideal.ofBits_zero_f32
  rw [h2, zero_add] at h1
  rw [← h1]
  unfold act
  show max _ (Ideal.ofBits .f32 0x00000000#32) * max _ (Ideal.ofBits .f32 0x00000000#32) = _
  rw [Ideal.ofBits_zero_f32]
  rfl

/-- The rows a block normalises: the scaled stream plus the second product. -/
def resid (x3 acc : Vec Ideal S512x2048 .f32) (p : Fin 512) (q : Fin 2048) : EReal :=
  Ideal.ofBits .f32 0x3FB504F3#32 * x3 (ix2 p q) + acc (ix2 p q)

theorem sum_row (z : FVec Ideal S512x2048 .f32) (p : Fin 512) :
    multiReduction .add [1] S512 z 0x00000000#32 reduces_S512x2048_S512 (.inl rfl) rfl (ix1 p) = ∑ k : Fin 2048, z (ix2 p k) := by
  refine (Ideal.multiReduction_add_single z _ reduces_S512x2048_S512 _ _ (ix1 p)).trans ?_
  refine Finset.sum_congr rfl fun k _ => congrArg z ?_
  funext a; apply Fin.ext
  match a with
  | ⟨0, _⟩ => rfl
  | ⟨1, _⟩ => rfl

theorem col (v : FVec Ideal S512x1 .f32) (p : Fin 512) (q : Fin 2048) :
    broadcastTo S512x2048 v broadcasts_S512x1_S512x2048 (ix2 p q) = v (ix2 p 0) :=
  broadcastTo_apply v _ _ (ix2 p 0) fun a => match a with
    | ⟨0, _⟩ => rfl
    | ⟨1, _⟩ => rfl

/-- A column of row sums over the row length. -/
def meanCol (z : FVec Ideal S512x2048 .f32) : FVec Ideal S512x1 .f32 :=
  divf (shapeCast S512x1 (multiReduction .add [1] S512 z 0x00000000#32 reduces_S512x2048_S512 (.inl rfl) rfl) shapeCasts_S512_S512x1)
    (broadcast S512x1 (Scalar.ofBits .f32 0x45000000#32))

theorem meanCol_apply (z : FVec Ideal S512x2048 .f32) (p : Fin 512) :
    meanCol z (ix2 p 0) = Ideal.div (∑ k : Fin 2048, z (ix2 p k)) (Ideal.ofBits .f32 0x45000000#32) := by
  unfold meanCol
  rw [← sum_row]
  exact congrArg (Ideal.div · (Ideal.ofBits .f32 0x45000000#32)) (shapeCast_a_a1_apply _ _ p 0)

/-- The rows less their means. -/
def centred (z : FVec Ideal S512x2048 .f32) : FVec Ideal S512x2048 .f32 :=
  subf z (broadcastTo S512x2048 (meanCol z) broadcasts_S512x1_S512x2048)

theorem centred_apply (z : FVec Ideal S512x2048 .f32) (p : Fin 512) (q : Fin 2048) :
    centred z (ix2 p q) = z (ix2 p q) - LayerNorm.mean fun k => z (ix2 p k) := by
  show z (ix2 p q) - broadcastTo S512x2048 (meanCol z) broadcasts_S512x1_S512x2048 (ix2 p q) = _
  rw [col, meanCol_apply]; rfl

theorem pay3_apply (x3 acc : Vec Ideal S512x2048 .f32) (g b : Vec Ideal S1x2048 .f32) (p : Fin 512) (q : Fin 2048) :
    k0_pay3 (F := Ideal) x3 acc g b (ix2 p q)
      = LayerNorm.norm (resid x3 acc p) (fun k => g (ix2 0 k)) (fun k => b (ix2 0 k)) q := by
  unfold k0_pay3
  simp only [shapeCast_self]
  let z : FVec Ideal S512x2048 .f32 := addf (mulf (broadcast S512x2048 (Scalar.ofBits .f32 0x3FB504F3#32)) x3) acc
  have hz : ∀ k, z (ix2 p k) = resid x3 acc p k := fun k => rfl
  have hm : LayerNorm.mean (fun k => z (ix2 p k)) = LayerNorm.mean (resid x3 acc p) := rfl
  show centred z (ix2 p q)
      * broadcastTo S512x2048 (rsqrt (addf (meanCol (mulf (centred z) (centred z))) (broadcast S512x1 (Scalar.ofBits .f32 0x3727C5AC#32))))
          broadcasts_S512x1_S512x2048 (ix2 p q)
      * broadcastTo S512x2048 g broadcasts_S1x2048_S512x2048 (ix2 p q)
      + broadcastTo S512x2048 b broadcasts_S1x2048_S512x2048 (ix2 p q) = _
  have hv : meanCol (mulf (centred z) (centred z)) (ix2 p 0) = LayerNorm.var (resid x3 acc p) := by
    rw [meanCol_apply]
    unfold LayerNorm.var
    refine congrArg (Ideal.div · _) (Finset.sum_congr rfl fun k _ => ?_)
    show centred z (ix2 p k) * centred z (ix2 p k) = _
    rw [centred_apply]; rfl
  rw [col, centred_apply, broadcastTo_1b_ab_apply, broadcastTo_1b_ab_apply]
  show (z (ix2 p q) - LayerNorm.mean fun k => z (ix2 p k))
      * Ideal.rsqrt (meanCol (mulf (centred z) (centred z)) (ix2 p 0) + Ideal.ofBits .f32 0x3727C5AC#32) * g (ix2 0 q) + b (ix2 0 q) = _
  rw [hv]; rfl

theorem pay4_apply (x3 acc : Vec Ideal S512x2048 .f32) (g b : Vec Ideal S1x2048 .f32) (u : Fin 1) (p : Fin 512) (q : Fin 2048) :
    k0_pay4 (F := Ideal) x3 acc g b (ix3 u p q)
      = LayerNorm.norm (resid x3 acc p) (fun k => g (ix2 0 k)) (fun k => b (ix2 0 k)) q := by
  rw [← pay3_apply]
  unfold k0_pay4
  refine (shapeCast_addUnit_apply ![512, 2048] _ _ (ix3 u p q)).trans ?_
  refine congrArg (k0_pay3 x3 acc g b) (funext fun a => ?_)
  match a with
  | ⟨0, _⟩ => rfl
  | ⟨1, _⟩ => rfl

theorem pay5_apply (x3 acc : Vec Ideal S512x2048 .f32) (g b : Vec Ideal S1x2048 .f32) (p : Fin 512) (q : Fin 2048) :
    k0_pay5 (F := Ideal) x3 acc g b (ix2 p q)
      = LayerNorm.norm (resid x3 acc p) (fun k => g (ix2 0 k)) (fun k => b (ix2 0 k)) q := by
  rw [← pay3_apply]; rfl

end Cert.Proof.MlpPayload

end
-- ==== Proof.MlpRun.lean ====
/- The feed-forward kernel's run over the extended reals: what each block window holds, what the running block holds at
   the point that writes a row tile back, and what the two result arrays end holding. -/
module

public import proofs.«01_k».proof.Proof.MlpPayload
public import Idealize.ShloMosaic.Lib.Pipeline.ValueKit.Acc
public import Idealize.ShloMosaic.Lib.Pipeline.ReadBack

@[expose] public section

noncomputable section

namespace Cert.Proof.MlpRun

open Cert.MlpIdeal Cert.MlpIdeal.Gen Idealize.ShloMosaic Idealize.ShloMosaic.TcCoe Idealize.SL.Sem Idealize.ShloMosaic.ValueIdx
open Cert.Proof.MlpPayload
open scoped BigOperators

/-! ## The layer's feed-forward block, entry by entry -/

section Spec

variable (x : S16384x2048.Idx → EReal) (u : S2x2048x8192.Idx → EReal) (d : S2x8192x2048.Idx → EReal)
  (g b : S2x2048.Idx → EReal)

/-- Hidden unit `l` of row `r`. -/
def hid (r : Fin 16384) (l : Fin 8192) : EReal := act (∑ k : Fin 2048, x (ix2 r k) * u (ix3 1 k l))

/-- The scaled stream plus the second product. -/
def mix (r : Fin 16384) (q : Fin 2048) : EReal :=
  Ideal.ofBits .f32 0x3FB504F3#32 * x (ix2 r q) + ∑ l : Fin 8192, hid x u r l * d (ix3 1 l q)

/-- The block's result. -/
def out (r : Fin 16384) (q : Fin 2048) : EReal :=
  LayerNorm.norm (mix x u d r) (fun k => g (ix2 1 k)) (fun k => b (ix2 1 k)) q

end Spec

variable (m : (ℓ : Loc nD τ sig) → Buf (Elt Ideal) ℓ) (ρ : Dev nD → PrngReg)

abbrev X (c : Dev nD) : S16384x2048.Idx → EReal := m ((c : Thread nD τ).loc main_arg0)
abbrev U (c : Dev nD) : S2x2048x8192.Idx → EReal := m ((c : Thread nD τ).loc main_arg1)
abbrev D (c : Dev nD) : S2x8192x2048.Idx → EReal := m ((c : Thread nD τ).loc main_arg2)
abbrev G (c : Dev nD) : S2x2048.Idx → EReal := m ((c : Thread nD τ).loc main_arg3)
abbrev B (c : Dev nD) : S2x2048.Idx → EReal := m ((c : Thread nD τ).loc main_arg4)

/-! ## What the host stretch leaves -/

theorem V_v0 (c : Dev nD) (r : Fin 16384) (k : Fin 2048) : V m c main_v0 (ix2 r k) = X m c (ix2 r k) := by
  have h : V m c main_v0 = fun i => X m c i := by
    show StableHlo.after hostOps0 (fun b => m (c, b)) (Proc.devRef .tc main_v0) = _
    simp only [hostOps0]
    after_results_simp
    rfl
  rw [h]

theorem V_v3 (c : Dev nD) (k : Fin 2048) (l : Fin 8192) : V m c main_v3 (ix2 k l) = U m c (ix3 1 k l) := by
  have h : V m c main_v3 = (truncf (F := Ideal) .bf16 (shapeCast S2048x8192 (extractStridedSlice S1x2048x8192 ![1, 0, 0] (U m c) slices_S2x2048x8192_S1x2048x8192_1_0_0) shapeCasts_S1x2048x8192_S2048x8192 : FVec Ideal S2048x8192 .f32) bitsLt_bf16_f32) := by
    show StableHlo.after hostOps0 (fun b => m (c, b)) (Proc.devRef .tc main_v3) = _
    simp only [hostOps0]
    after_results_simp
    rfl
  rw [h]
  show shapeCast (α := EReal) S2048x8192 (extractStridedSlice S1x2048x8192 ![1, 0, 0] (U m c) slices_S2x2048x8192_S1x2048x8192_1_0_0) shapeCasts_S1x2048x8192_S2048x8192 (ix2 k l) = _
  refine (shapeCast_dropUnit_apply ![2048, 8192] _ _ (ix2 k l)).trans ?_
  refine congrArg (U m c) (funext fun a => Fin.ext ?_)
  match a with
  | ⟨0, _⟩ => rfl
  | ⟨1, _⟩ => show 0 + k.val = k.val; omega
  | ⟨2, _⟩ => show 0 + l.val = l.val; omega

theorem V_v6 (c : Dev nD) (l : Fin 8192) (q : Fin 2048) : V m c main_v6 (ix2 l q) = D m c (ix3 1 l q) := by
  have h : V m c main_v6 = (truncf (F := Ideal) .bf16 (shapeCast S8192x2048 (extractStridedSlice S1x8192x2048 ![1, 0, 0] (D m c) slices_S2x8192x2048_S1x8192x2048_1_0_0) shapeCasts_S1x8192x2048_S8192x2048 : FVec Ideal S8192x2048 .f32) bitsLt_bf16_f32) := by
    show StableHlo.after hostOps0 (fun b => m (c, b)) (Proc.devRef .tc main_v6) = _
    simp only [hostOps0]
    after_results_simp
    rfl
  rw [h]
  show shapeCast (α := EReal) S8192x2048 (extractStridedSlice S1x8192x2048 ![1, 0, 0] (D m c) slices_S2x8192x2048_S1x8192x2048_1_0_0) shapeCasts_S1x8192x2048_S8192x2048 (ix2 l q) = _
  refine (shapeCast_dropUnit_apply ![8192, 2048] _ _ (ix2 l q)).trans ?_
  refine congrArg (D m c) (funext fun a => Fin.ext ?_)
  match a with
  | ⟨0, _⟩ => rfl
  | ⟨1, _⟩ => show 0 + l.val = l.val; omega
  | ⟨2, _⟩ => show 0 + q.val = q.val; omega

theorem row_of (a : S2x2048.Idx → EReal) (q : Fin 2048) :
    broadcastInDim (α := EReal) S1x2048 ![1] bcast_S2048_S1x2048_1 (shapeCast (α := EReal) S2048 (extractStridedSlice S1x2048 ![1, 0] a slices_S2x2048_S1x2048_1_0) shapeCasts_S1x2048_S2048) (ix2 0 q)
      = a (ix2 1 q) := by
  refine (broadcastInDim_apply ![1] _ _ (ix2 0 q) (ix1 q) fun a => match a with | ⟨0, _⟩ => rfl).trans ?_
  refine (shapeCast_dropUnit_apply ![2048] _ _ (ix1 q)).trans ?_
  refine congrArg a (funext fun b => Fin.ext ?_)
  match b with
  | ⟨0, _⟩ => rfl
  | ⟨1, _⟩ => show 0 + q.val = q.val; omega

theorem V_v9 (c : Dev nD) (q : Fin 2048) : V m c main_v9 (ix2 0 q) = G m c (ix2 1 q) := by
  rw [← row_of (G m c) q]
  show StableHlo.after hostOps0 (fun b => m (c, b)) (Proc.devRef .tc main_v9) _ = _
  simp only [hostOps0]
  after_results_simp
  rfl

theorem V_v12 (c : Dev nD) (q : Fin 2048) : V m c main_v12 (ix2 0 q) = B m c (ix2 1 q) := by
  rw [← row_of (B m c) q]
  show StableHlo.after hostOps0 (fun b => m (c, b)) (Proc.devRef .tc main_v12) _ = _
  simp only [hostOps0]
  after_results_simp
  rfl

/-! ## The block windows -/

theorem idx0 : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val % 8 ∧ win0_2.index t (1 : Fin 2) = 0
    ∧ win0_3.index t (0 : Fin 2) = t.val / 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem blk0 (c : Dev nD) (t : Fin cfg0.N) (p : Fin 512) (k : Fin 2048) (r : Fin 16384) (hr : r.val = t.val / 8 * 512 + p.val) :
    iblk m c 0 t (ix2 p k) = X m c (ix2 r k) := by
  obtain ⟨h0, h1, -⟩ := idx0 t
  rw [← V_v0]
  show V m c main_v0 (((cfg0.win 0).blk t).view.emb (ix2 p k)) = V m c main_v0 _
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

theorem blk1 (c : Dev nD) (t : Fin cfg0.N) (k : Fin 2048) (j : Fin 1024) (l : Fin 8192) (hl : l.val = t.val % 8 * 1024 + j.val) :
    iblk m c 1 t (ix2 k j) = U m c (ix3 1 k l) := by
  obtain ⟨-, -, h0, h1, -⟩ := idx0 t
  rw [← V_v3]
  show V m c main_v3 (((cfg0.win 1).blk t).view.emb (ix2 k j)) = V m c main_v3 _
  refine congrArg (V m c main_v3) (funext fun a => Fin.ext ?_)
  match a with
  | ⟨0, _⟩ => show win0_1.index t (0 : Fin 2) * 2048 + 1 * k.val = k.val; omega
  | ⟨1, _⟩ => show win0_1.index t (1 : Fin 2) * 1024 + 1 * j.val = l.val; omega

theorem blk2 (c : Dev nD) (t : Fin cfg0.N) (j : Fin 1024) (q : Fin 2048) (l : Fin 8192) (hl : l.val = t.val % 8 * 1024 + j.val) :
    iblk m c 2 t (ix2 j q) = D m c (ix3 1 l q) := by
  obtain ⟨-, -, -, -, h0, h1, -⟩ := idx0 t
  rw [← V_v6]
  show V m c main_v6 (((cfg0.win 2).blk t).view.emb (ix2 j q)) = V m c main_v6 _
  refine congrArg (V m c main_v6) (funext fun a => Fin.ext ?_)
  match a with
  | ⟨0, _⟩ => show win0_2.index t (0 : Fin 2) * 1024 + 1 * j.val = l.val; omega
  | ⟨1, _⟩ => show win0_2.index t (1 : Fin 2) * 2048 + 1 * q.val = q.val; omega

theorem blk3 (c : Dev nD) (t : Fin cfg0.N) (p : Fin 512) (k : Fin 2048) (r : Fin 16384) (hr : r.val = t.val / 8 * 512 + p.val) :
    iblk m c 3 t (ix2 p k) = X m c (ix2 r k) := by
  obtain ⟨-, -, -, -, -, -, h0, h1, -⟩ := idx0 t
  show V m c main_arg0 (((cfg0.win 3).blk t).view.emb (ix2 p k)) = _
  rw [V_main_arg0]
  refine congrArg (X m c) (funext fun a => Fin.ext ?_)
  match a with
  | ⟨0, _⟩ => show win0_3.index t (0 : Fin 2) * 512 + 1 * p.val = r.val; omega
  | ⟨1, _⟩ => show win0_3.index t (1 : Fin 2) * 2048 + 1 * k.val = k.val; omega

theorem blk4 (c : Dev nD) (t : Fin cfg0.N) (q : Fin 2048) : iblk m c 4 t (ix2 0 q) = G m c (ix2 1 q) := by
  obtain ⟨-, -, -, -, -, -, -, -, h0, h1, -⟩ := idx0 t
  rw [← V_v9]
  show V m c main_v9 (((cfg0.win 4).blk t).view.emb (ix2 0 q)) = V m c main_v9 _
  refine congrArg (V m c main_v9) (funext fun a => Fin.ext ?_)
  match a with
  | ⟨0, _⟩ => show win0_4.index t (0 : Fin 2) * 1 + 1 * 0 = 0; omega
  | ⟨1, _⟩ => show win0_4.index t (1 : Fin 2) * 2048 + 1 * q.val = q.val; omega

theorem blk5 (c : Dev nD) (t : Fin cfg0.N) (q : Fin 2048) : iblk m c 5 t (ix2 0 q) = B m c (ix2 1 q) := by
  obtain ⟨-, -, -, -, -, -, -, -, -, -, h0, h1⟩ := idx0 t
  rw [← V_v12]
  show V m c main_v12 (((cfg0.win 5).blk t).view.emb (ix2 0 q)) = V m c main_v12 _
  refine congrArg (V m c main_v12) (funext fun a => Fin.ext ?_)
  match a with
  | ⟨0, _⟩ => show win0_5.index t (0 : Fin 2) * 1 + 1 * 0 = 0; omega
  | ⟨1, _⟩ => show win0_5.index t (1 : Fin 2) * 2048 + 1 * q.val = q.val; omega

/-! ## The running block -/

/-- A point's term of the running block. -/
def term (c : Dev nD) (t : Fin cfg0.N) (y : S512x2048.Idx) : EReal :=
  part (iblk m c 0 t) (iblk m c 1 t) (iblk m c 2 t) (y 0) (y 1)

theorem pay2_term (c : Dev nD) (t : Fin cfg0.N) (acc : Vec Ideal S512x2048 .f32) (y : S512x2048.Idx) :
    k0_pay2 (F := Ideal) (iblk m c 0 t) (iblk m c 1 t) acc (iblk m c 2 t) y = acc y + term m c t y := by
  obtain ⟨p, q, rfl⟩ : ∃ p q, y = ix2 p q := ⟨_, _, eq_ix2 y⟩
  exact pay2_apply _ _ _ _ p q

theorem acc_A (c : Dev nD) (t : Fin cfg0.N) (h : t.val % 8 = 0) (y : S512x2048.Idx) :
    (outsAt0 m c t.val t.isLt).2.2 y = (fun _ => (0 : EReal)) y + term m c t y := by
  rw [outsAt0_A m c t h (by omega)]; frame_out; rw [pay2_term, pay1_apply]

theorem acc_step (c : Dev nD) (t : Fin cfg0.N) (h : ¬t.val % 8 = 0) (y : S512x2048.Idx) :
    (outsAt0 m c t.val t.isLt).2.2 y
      = (outsAt0 m c (t.val - 1) (Nat.lt_of_le_of_lt (Nat.sub_le _ _) t.isLt)).2.2 y + term m c t y := by
  by_cases h7 : t.val % 8 = 7
  · rw [outsAt0_C m c t h h7]; frame_out; rw [pay2_term, Idealize.ShloMosaic.read_unread_whole]
  · rw [outsAt0_B m c t h h7]; frame_out; rw [pay2_term, Idealize.ShloMosaic.read_unread_whole]

theorem acc_last (c : Dev nD) (t : Fin cfg0.N) (h7 : t.val % 8 = 7) (p : Fin 512) (q : Fin 2048) (r : Fin 16384)
    (hr : r.val = t.val / 8 * 512 + p.val) :
    (outsAt0 m c t.val t.isLt).2.2 (ix2 p q) = ∑ l : Fin 8192, hid (X m c) (U m c) r l * D m c (ix3 1 l q) := by
  rw [Pipeline.eq_sum_fin_of_reset_step_apply_of_flush (fun n h => (outsAt0 m c n h).2.2) 8 (fun _ => (0 : EReal)) (term m c)
    (fun t h y => acc_A m c t h y) (fun t h y => acc_step m c t h y) t h7 (ix2 p q), zero_add]
  unfold term part
  refine Fin.sum_mul_add_congr (f := fun l => hid (X m c) (U m c) r l * D m c (ix3 1 l q)) fun s j hl => ?_
  have hs := s.isLt
  have e2 := blk2 m c ⟨8 * (t.val / 8) + s.val, by have := t.isLt; have : cfg0.N = 256 := N_0; omega⟩ j q ⟨s.val * 1024 + j.val, hl⟩
    (by show s.val * 1024 + j.val = (8 * (t.val / 8) + s.val) % 8 * 1024 + j.val; omega)
  refine congr (congrArg _ ?_) e2
  unfold hid
  refine congrArg act (Finset.sum_congr rfl fun k _ => ?_)
  refine congr (congrArg _ (blk0 m c _ p k r ?_)) (blk1 m c _ k j _ ?_)
  · show r.val = (8 * (t.val / 8) + s.val) / 8 * 512 + p.val; omega
  · show s.val * 1024 + j.val = (8 * (t.val / 8) + s.val) % 8 * 1024 + j.val; omega

theorem resid_eq (c : Dev nD) (t : Fin cfg0.N) (h7 : t.val % 8 = 7) (p : Fin 512) (r : Fin 16384)
    (hr : r.val = t.val / 8 * 512 + p.val) :
    resid (iblk m c 3 t) ((outsAt0 m c t.val t.isLt).2.2) p = mix (X m c) (U m c) (D m c) r := by
  funext q
  unfold resid mix
  rw [acc_last m c t h7 p q r hr, blk3 m c t p q r hr]

theorem out6 (c : Dev nD) (t : Fin cfg0.N) (h7 : t.val % 8 = 7) :
    (outsAt0 m c t.val t.isLt).1 = k0_pay4 (iblk m c 3 t) ((outsAt0 m c t.val t.isLt).2.2) (iblk m c 4 t) (iblk m c 5 t) := by
  rw [outsAt0_C m c t (by omega) h7]; frame_out

theorem out7 (c : Dev nD) (t : Fin cfg0.N) (h7 : t.val % 8 = 7) :
    (outsAt0 m c t.val t.isLt).2.1 = k0_pay5 (iblk m c 3 t) ((outsAt0 m c t.val t.isLt).2.2) (iblk m c 4 t) (iblk m c 5 t) := by
  rw [outsAt0_C m c t (by omega) h7]; frame_out

/-! ## The result arrays -/

/-- The first result: the block's rows under a leading unit axis. -/
def R6 (c : Dev nD) : Buf (Elt Ideal) ((c : Thread nD τ).loc main_v13_0) := fun (i : S1x16384x2048.Idx) =>
  out (X m c) (U m c) (D m c) (G m c) (B m c) (i 1) (i 2)

/-- The second result: the same rows. -/
def R7 (c : Dev nD) : Buf (Elt Ideal) ((c : Thread nD τ).loc main_v13_1) := fun (i : S16384x2048.Idx) =>
  out (X m c) (U m c) (D m c) (G m c) (B m c) (i 0) (i 1)

theorem idx6 : ∀ t : Fin cfg0.N,
    win0_6.index t (1 : Fin 3) = t.val / 8 ∧ win0_6.index t (2 : Fin 3) = 0
    ∧ win0_7.index t (0 : Fin 2) = t.val / 8 ∧ win0_7.index t (1 : Fin 2) = 0 :=
  (by decide +kernel : ∀ t : Fin grid0.N, _)

theorem norm_eq (c : Dev nD) (t : Fin cfg0.N) (h7 : t.val % 8 = 7) (p : Fin 512) (q : Fin 2048) (r : Fin 16384)
    (hr : r.val = t.val / 8 * 512 + p.val) :
    LayerNorm.norm (resid (iblk m c 3 t) ((outsAt0 m c t.val t.isLt).2.2) p) (fun k => iblk m c 4 t (ix2 0 k)) (fun k => iblk m c 5 t (ix2 0 k)) q
      = out (X m c) (U m c) (D m c) (G m c) (B m c) r q := by
  unfold out
  rw [resid_eq m c t h7 p r hr, funext fun k => blk4 m c t k, funext fun k => blk5 m c t k]

theorem flushed6 (c : Dev nD) (t : Fin cfg0.N) (hf : (cfg0.win 6).flush t = true) :
    (dats m 0 c).flushed 6 t = ((cfg0.win 6).blk t).view.read (Elt Ideal) (R6 m c) := by
  have h7 := (flush0_6 t).mp hf
  rw [Cert.MlpIdeal.Value.flushed6, out6 m c t h7]
  obtain ⟨h0, h1, -⟩ := idx6 t
  have hN : t.val < 256 := lt_of_lt_of_eq t.isLt N_0
  funext y
  obtain ⟨e, p, q, rfl⟩ : ∃ e p q, y = ix3 e p q := ⟨_, _, _, eq_ix3 y⟩
  have hr : t.val / 8 * 512 + p.val < 16384 := by have := p.isLt; omega
  refine (pay4_apply _ _ _ _ e p q).trans ((norm_eq m c t h7 p q ⟨_, hr⟩ rfl).trans ?_)
  show _ = R6 m c (((cfg0.win 6).blk t).view.emb (ix3 e p q))
  unfold R6
  have e1 : (((cfg0.win 6).blk t).view.emb (ix3 e p q) : S1x16384x2048.Idx) 1 = (⟨_, hr⟩ : Fin 16384) :=
    Fin.ext (by show win0_6.index t (1 : Fin 3) * 512 + 1 * p.val = t.val / 8 * 512 + p.val; omega)
  have e2 : (((cfg0.win 6).blk t).view.emb (ix3 e p q) : S1x16384x2048.Idx) 2 = q :=
    Fin.ext (by show win0_6.index t (2 : Fin 3) * 2048 + 1 * q.val = q.val; omega)
  exact (congr (congrArg (out (X m c) (U m c) (D m c) (G m c) (B m c)) e1) e2).symm

theorem flushed7 (c : Dev nD) (t : Fin cfg0.N) (hf : (cfg0.win 7).flush t = true) :
    (dats m 0 c).flushed 7 t = ((cfg0.win 7).blk t).view.read (Elt Ideal) (R7 m c) := by
  have h7 := (flush0_7 t).mp hf
  rw [Cert.MlpIdeal.Value.flushed7, out7 m c t h7]
  obtain ⟨-, -, h0, h1⟩ := idx6 t
  have hN : t.val < 256 := lt_of_lt_of_eq t.isLt N_0
  funext y
  obtain ⟨p, q, rfl⟩ : ∃ p q, y = ix2 p q := ⟨_, _, eq_ix2 y⟩
  have hr : t.val / 8 * 512 + p.val < 16384 := by have := p.isLt; omega
  refine (pay5_apply _ _ _ _ p q).trans ((norm_eq m c t h7 p q ⟨_, hr⟩ rfl).trans ?_)
  show _ = R7 m c (((cfg0.win 7).blk t).view.emb (ix2 p q))
  unfold R7
  have e1 : (((cfg0.win 7).blk t).view.emb (ix2 p q) : S16384x2048.Idx) 0 = (⟨_, hr⟩ : Fin 16384) :=
    Fin.ext (by show win0_7.index t (0 : Fin 2) * 512 + 1 * p.val = t.val / 8 * 512 + p.val; omega)
  have e2 : (((cfg0.win 7).blk t).view.emb (ix2 p q) : S16384x2048.Idx) 1 = q :=
    Fin.ext (by show win0_7.index t (1 : Fin 2) * 2048 + 1 * q.val = q.val; omega)
  exact (congr (congrArg (out (X m c) (U m c) (D m c) (G m c) (B m c)) e1) e2).symm

theorem final6 (c : Dev nD) : (dats m 0 c).arrAt 6 cfg0.N = R6 m c :=
  (dats m 0 c).arrAt_eq_of_cover 6 _ (fun t hf => flushed6 m c t hf) (fun i => (Cert.MlpIdeal.Value.covered_iff6 i).2 (by
    have h0 : (i 0).val < 1 := (i 0).isLt; have h1 : (i 1).val < 16384 := (i 1).isLt; have h2 : (i 2).val < 2048 := (i 2).isLt; omega))

theorem final7 (c : Dev nD) : (dats m 0 c).arrAt 7 cfg0.N = R7 m c :=
  (dats m 0 c).arrAt_eq_of_cover 7 _ (fun t hf => flushed7 m c t hf) (fun i => (Cert.MlpIdeal.Value.covered_iff7 i).2 (by
    have h0 : (i 0).val < 16384 := (i 0).isLt; have h1 : (i 1).val < 2048 := (i 1).isLt; omega))

/-- The run: both result arrays at the block's rows, the arguments unchanged. -/
theorem run : θ_run defs (onTc (τ := τ) (main (F := Ideal))) ⟨m, fun _ => 0, ρ⟩ fun r => ∀ c : Dev nD,
      r.2.mem ((c : Thread nD τ).loc main_v13_0) = R6 m c
      ∧ r.2.mem ((c : Thread nD τ).loc main_v13_1) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h6, h7, ha⟩ := h c
    exact ⟨h6.trans ((Cert.MlpIdeal.Value.final6 m c).symm.trans (final6 m c)),
      h7.trans ((Cert.MlpIdeal.Value.final7 m c).symm.trans (final7 m c)), ha⟩)
    (Cert.MlpIdeal.Value.run m ρ)

end Cert.Proof.MlpRun

end
-- ==== Proof.MlpRefRead.lean ====
/- The feed-forward block's reference, read at an index. -/
module

public import proofs.«01_k».proof.Proof.Gen.MlpRefIdeal.Read
public import proofs.«01_k».proof.Proof.MlpRun

@[expose] public section

noncomputable section

namespace Cert.Proof.MlpRefRead

open Cert.MlpRefIdeal Cert.MlpRefIdeal.Gen Cert.MlpRefIdeal.Read Idealize.ShloMosaic Idealize.ShloMosaic.TcCoe Idealize.SL.Sem Idealize.ShloMosaic.ValueIdx
open Cert.Proof.MlpRun (hid mix out)
open Cert.Proof.MlpPayload (act)
open scoped BigOperators

variable (x : S16384x2048.Idx → EReal) (u : S2x2048x8192.Idx → EReal) (d : S2x8192x2048.Idx → EReal)
  (g b : S2x2048.Idx → EReal)

theorem hid_eq (r : Fin 16384) (l : Fin 8192) : val_main_v4 (F := Ideal) x u (ix2 r l) = hid x u r l := by
  have h : val_main_v2 (F := Ideal) x u (ix2 r l) = ∑ k : Fin 2048, x (ix2 r k) * u (ix3 1 k l) := by
    rw [val_main_v2_apply]
    refine Finset.sum_congr rfl fun k _ => congr (congrArg _ ?_) ?_
    · refine congrArg x (funext fun a => ?_)
      match a with | ⟨0, _⟩ => rfl | ⟨1, _⟩ => rfl
    · rw [val_main_v1_apply, val_main_v0_apply]
      refine congrArg u (funext fun a => Fin.ext ?_)
      have := k.isLt; have := l.isLt
      match a with
      | ⟨0, _⟩ => rfl
      | ⟨1, _⟩ => show (k.val * 8192 + l.val) / 8192 % 2048 = k.val; omega
      | ⟨2, _⟩ => show (k.val * 8192 + l.val) % 8192 = l.val; omega
  rw [val_main_v4_apply, val_main_v3_apply, h, val_main_call0_v0_apply, val_main_call0_cst_apply]
  show max _ (Ideal.ofBits .f32 0x00000000#32) * max _ (Ideal.ofBits .f32 0x00000000#32) = _
  rw [Ideal.ofBits_zero_f32]; rfl

theorem mix_eq (r : Fin 16384) (q : Fin 2048) : val_main_v10 (F := Ideal) x u d (ix2 r q) = mix x u d r q := by
  have h : val_main_v7 (F := Ideal) x u d (ix2 r q) = ∑ l : Fin 8192, hid x u r l * d (ix3 1 l q) := by
    rw [val_main_v7_apply]
    refine Finset.sum_congr rfl fun l _ => congr (congrArg _ ?_) ?_
    · refine Eq.trans (congrArg _ (funext fun a => ?_)) (hid_eq x u r l)
      match a with | ⟨0, _⟩ => rfl | ⟨1, _⟩ => rfl
    · rw [val_main_v6_apply, val_main_v5_apply]
      refine congrArg d (funext fun a => Fin.ext ?_)
      have := q.isLt; have := l.isLt
      match a with
      | ⟨0, _⟩ => rfl
      | ⟨1, _⟩ => show (l.val * 2048 + q.val) / 2048 % 8192 = l.val; omega
      | ⟨2, _⟩ => show (l.val * 2048 + q.val) % 2048 = q.val; omega
  rw [val_main_v10_apply, val_main_v9_apply, h, val_main_v8_apply, val_main_cst_apply]
  rfl

theorem mean_eq (r : Fin 16384) (e : Fin 1) : val_main_v18 (F := Ideal) x u d (ix2 r e) = LayerNorm.mean (mix x u d r) := by
  rw [val_main_v18_apply, val_main_v16_apply, val_main_v15_apply, val_main_v17_apply, val_main_cst_1_apply, val_main_cst_0_apply]
  unfold LayerNorm.mean
  refine congrArg (Ideal.div · _) ?_
  refine (congrArg (· + _) Ideal.ofBits_zero_f32).trans ((zero_add _).trans (Finset.sum_congr rfl fun k _ => ?_))
  refine Eq.trans (congrArg _ (funext fun a => ?_)) (mix_eq x u d r k)
  match a with | ⟨0, _⟩ => rfl | ⟨1, _⟩ => rfl

theorem centred_eq (r : Fin 16384) (q : Fin 2048) :
    val_main_v20 (F := Ideal) x u d (ix2 r q) = mix x u d r q - LayerNorm.mean (mix x u d r) := by
  rw [val_main_v20_apply, val_main_v19_apply, mix_eq]
  refine congrArg (mix x u d r q - ·) (Eq.trans (congrArg _ (funext fun a => ?_)) (mean_eq x u d r 0))
  match a with | ⟨0, _⟩ => rfl | ⟨1, _⟩ => rfl

theorem var_eq (r : Fin 16384) (e : Fin 1) : val_main_v25 (F := Ideal) x u d (ix2 r e) = LayerNorm.var (mix x u d r) := by
  rw [val_main_v25_apply, val_main_v23_apply, val_main_v22_apply, val_main_v24_apply, val_main_cst_3_apply, val_main_cst_2_apply]
  unfold LayerNorm.var
  refine congrArg (Ideal.div · _) ?_
  refine (congrArg (· + _) Ideal.ofBits_zero_f32).trans ((zero_add _).trans (Finset.sum_congr rfl fun k _ => ?_))
  rw [val_main_v21_apply]
  have h : val_main_v20 (F := Ideal) x u d (idx_main_v22 (idx_main_v23 (ix2 r e)) k) = mix x u d r k - LayerNorm.mean (mix x u d r) := by
    refine Eq.trans (congrArg _ (funext fun a => ?_)) (centred_eq x u d r k)
    match a with | ⟨0, _⟩ => rfl | ⟨1, _⟩ => rfl
  rw [h]; rfl

theorem out_eq (r : Fin 16384) (q : Fin 2048) : val_main_v38 (F := Ideal) x u d g b (ix2 r q) = out x u d g b r q := by
  have h27 : val_main_v27 (F := Ideal) x u d (ix2 r q) = mix x u d r q - LayerNorm.mean (mix x u d r) := by
    rw [val_main_v27_apply, val_main_v26_apply, mix_eq]
    refine congrArg (mix x u d r q - ·) (Eq.trans (congrArg _ (funext fun a => ?_)) (mean_eq x u d r 0))
    match a with | ⟨0, _⟩ => rfl | ⟨1, _⟩ => rfl
  have h30 : val_main_v31 (F := Ideal) x u d (ix2 r q) = Ideal.rsqrt (LayerNorm.var (mix x u d r) + Ideal.ofBits .f32 0x3727C5AC#32) := by
    rw [val_main_v31_apply, val_main_v30_apply, val_main_v29_apply, val_main_v28_apply, val_main_cst_4_apply]
    refine congrArg (fun v => Ideal.rsqrt (v + _)) (Eq.trans (congrArg _ (funext fun a => ?_)) (var_eq x u d r 0))
    match a with | ⟨0, _⟩ => rfl | ⟨1, _⟩ => rfl
  have h34 : val_main_v34 (F := Ideal) g (ix2 r q) = g (ix2 1 q) := by
    rw [val_main_v34_apply, val_main_v33_apply, val_main_v12_apply, val_main_v11_apply]
    refine congrArg g (funext fun a => Fin.ext ?_)
    have := q.isLt
    match a with
    | ⟨0, _⟩ => rfl
    | ⟨1, _⟩ => show q.val % 2048 = q.val; omega
  have h37 : val_main_v37 (F := Ideal) b (ix2 r q) = b (ix2 1 q) := by
    rw [val_main_v37_apply, val_main_v36_apply, val_main_v14_apply, val_main_v13_apply]
    refine congrArg b (funext fun a => Fin.ext ?_)
    have := q.isLt
    match a with
    | ⟨0, _⟩ => rfl
    | ⟨1, _⟩ => show q.val % 2048 = q.val; omega
  rw [val_main_v38_apply, val_main_v35_apply, val_main_v32_apply, h27, h30, h34, h37]
  rfl

theorem rows_eq (i : S1x16384x2048.Idx) : val_main_v39 (F := Ideal) x u d g b i = out x u d g b (i 1) (i 2) := by
  rw [val_main_v39_apply]
  refine Eq.trans (congrArg _ (funext fun a => ?_)) (out_eq x u d g b (i 1) (i 2))
  match a with | ⟨0, _⟩ => rfl | ⟨1, _⟩ => rfl

theorem rows16_eq (i : S16384x2048.Idx) : val_main_v40 (F := Ideal) x u d g b i = out x u d g b (i 0) (i 1) := by
  rw [val_main_v40_apply]
  exact (congrArg (val_main_v38 (F := Ideal) x u d g b) (eq_ix2 i)).trans (out_eq x u d g b (i 0) (i 1))

end Cert.Proof.MlpRefRead

end
-- ==== Proof.MlpClaims.lean ====
/- The feed-forward block's claims: the reference's frame and the two programs' equal results. -/
module

public import proofs.«01_k».proof.Proof.MlpRefRead
public import proofs.«01_k».proof.Defs

@[expose] public section

noncomputable section

namespace Cert.Proof.MlpClaims

open Idealize.ShloMosaic Idealize.ShloMosaic.TcCoe Idealize.SL.Sem

theorem frame_ref : Cert.quiescent_MlpRefIdeal (hMlpRefIdeal := Cert.MlpRefIdeal.Gen.facts) := fun m ρ _ =>
  (θ_run Cert.MlpRefIdeal.defs _ _).mono
    (fun r h => ⟨fun c => (h c).2.2, Idealize.ShloMosaic.sem_eq_zero_of_no_sems (by decide) r.2⟩)
    (Cert.MlpRefIdeal.Value.run (F := Ideal) m ρ)

theorem preserves : Cert.preserves_Mlp_MlpIdeal := trivial

theorem algebraic : Cert.algebraic_MlpIdeal_MlpRefIdeal (hMlpIdeal := Cert.MlpIdeal.Gen.facts) (hMlpRefIdeal := Cert.MlpRefIdeal.Gen.facts) := by
  intro m ρ m' ρ' _ hagree
  refine ⟨fun c => _, fun c => _, Cert.Proof.MlpRun.run m ρ, ?_⟩
  refine (θ_run Cert.MlpRefIdeal.defs _ _).mono (fun r h c => ?_) (Cert.MlpRefIdeal.Value.run (F := Ideal) m' ρ')
  obtain ⟨e0, e1, e2, e3, e4⟩ := hagree c
  obtain ⟨r0, r1, ha⟩ := h c
  refine ⟨r0.trans ?_, r1.trans ?_, ha⟩
  · rw [Cert.MlpRefIdeal.Read.val_main_v39_eq, e0, e1, e2, e3, e4]
    exact funext fun i => Cert.Proof.MlpRefRead.rows_eq _ _ _ _ _ i
  · rw [Cert.MlpRefIdeal.Read.val_main_v40_eq, e0, e1, e2, e3, e4]
    exact funext fun i => Cert.Proof.MlpRefRead.rows16_eq _ _ _ _ _ i

end Cert.Proof.MlpClaims

end
-- ==== Proof.FoxUnit.lean ====
/- The attention kernel's unit of work — one block of keys against one column block of queries — and the lists of stores a
   run of such units leaves in the running maximum and in the running accumulator, each unit reading the column it is
   about to overwrite. -/
module

public import proofs.«01_k».proof.Proof.Gen.FoxIdeal.Loops
public import Idealize.ShloMosaic.Lib.Pipeline.ReadBack

@[expose] public section

noncomputable section

namespace Cert.Proof.FoxUnit

open Cert.FoxIdeal Cert.FoxIdeal.Gen Idealize.ShloMosaic Idealize.ShloMosaic.TcCoe Idealize.SL.Sem

variable {F : FTy → Type} [FloatOps F] [Named F]

theorem slices (c : Fin 5) : S256x1280.Slices ![0, 256 * c.val] S256x256 := by
  revert c; decide

theorem inb9 (c : Fin 5) : ∀ a, (![0, 256 * c.val] : Fin 2 → Nat) a + S1x256.size a ≤ S1x1280.size a := by
  revert c; decide

theorem inb10 (c : Fin 5) : ∀ a, (![0, 256 * c.val] : Fin 2 → Nat) a + S144x256.size a ≤ S144x1280.size a := by
  revert c; decide

/-- Column block `c` of the running maximum. -/
abbrev rect9 (c : Fin 5) : Rect S1x1280 := Rect.unit (s := S1x1280) ![0, 256 * c.val] S1x256.size (inb9 c)

/-- Column block `c` of the running accumulator. -/
abbrev rect10 (c : Fin 5) : Rect S144x1280 := Rect.unit (s := S144x1280) ![0, 256 * c.val] S144x256.size (inb10 c)

/-- Scores of a block of keys (with their bias rows) against column block `c` of the queries. -/
def score (q : FVec F S256x1280 .bf16) (c : Fin 5) (k kb : Vec F S1x256x128 .bf16) : FVec F S256x256 .f32 :=
  matmul dot_S256x256_S256x256_S256x256_1_0_0_1_n_n none
    (concatenate S256x256 1 [⟨S256x128, shapeCast S256x128 k shapeCasts_S1x256x128_S256x128⟩,
      ⟨S256x128, shapeCast S256x128 kb shapeCasts_S1x256x128_S256x128⟩] concatenates_S256x128_S256x128_S256x256_d1)
    (extractStridedSlice S256x256 ![0, 256 * c.val] q (slices c)) (constant S256x256 .f32 0x00000000#32)

/-- The same with every key after the query masked: keys from `start`, queries from `256·c` in grid row `b`. -/
def scoreMasked (q : FVec F S256x1280 .bf16) (c : Fin 5) (b start : BitVec 32) (k kb : Vec F S1x256x128 .bf16) :
    FVec F S256x256 .f32 :=
  select
    (cmpi .sle
      (broadcastTo S256x256 (addi (broadcast S256x1 start) (iota .tc S256x1 32 [0] iota_S256x1_d0_w32)) broadcasts_S256x1_S256x256)
      (broadcastTo S256x256
        (addi (broadcast S1x256 (Scalar.addi (Scalar.muli b 1280#32) (BitVec.ofNat 32 (256 * c.val)))) (iota .tc S1x256 32 [1] iota_S1x256_d1_w32))
        broadcasts_S1x256_S256x256))
    (score q c k kb) (broadcast S256x256 (Named.named κ "mask" 0xF149F2CA#32))

/-- The maximum after a unit. -/
def top (s : FVec F S256x256 .f32) (m : Vec F S1x256 .f32) : FVec F S1x256 .f32 :=
  maximumf m (shapeCast S1x256 (multiReduction .maximumf [0] S256 s 0xFF800000#32 reduces_S256x256_S256 (.inl rfl) rfl)
    shapeCasts_S256_S1x256)

/-- The maximum as a unit stores it. -/
def store9 (s : FVec F S256x256 .f32) (m : Vec F S1x256 .f32) : FVec F S1x256 .f32 :=
  shapeCast S1x256 (top s m) shapeCasts_S1x256_S1x256

/-- The accumulator as a unit stores it: the old one rescaled plus the values (and a row of ones) against the exponentials. -/
def store10 (s : FVec F S256x256 .f32) (m : Vec F S1x256 .f32) (v : Vec F S1x128x256 .bf16) (a : Vec F S144x256 .f32) :
    FVec F S144x256 .f32 :=
  shapeCast S144x256
    (addf (mulf (broadcastTo S144x256 (exp2 (subf m (top s m))) broadcasts_S1x256_S144x256) a)
      (matmul dot_S144x256_S256x256_S144x256_1_0_0_1_n_n none
        (concatenate S144x256 0 [⟨S128x256, shapeCast S128x256 v shapeCasts_S1x128x256_S128x256⟩, ⟨S16x256, k0_pay617⟩]
          concatenates_S128x256_S16x256_S144x256_d0)
        (truncf .bf16 (exp2 (subf s (broadcastTo S256x256 (top s m) broadcasts_S1x256_S256x256))) bitsLt_bf16_f32)
        (constant S144x256 .f32 0x00000000#32)))
    shapeCasts_S144x256_S144x256

/-- The stores of the first `n` units to the running maximum, the last one first: unit `j` works on column `col j` with
    scores `sc j` and reads the maximum by `rd j` from the stores before it. -/
def list9 (col : ℕ → Fin 5) (sc : ℕ → FVec F S256x256 .f32)
    (rd : ℕ → List (View.Piece (Elt F) S1x1280 .f32) → Vec F S1x256 .f32) (base : List (View.Piece (Elt F) S1x1280 .f32)) (n : ℕ) :
    List (View.Piece (Elt F) S1x1280 .f32) :=
  Nat.rec base (fun j L => (⟨rect9 (col j), store9 (sc j) (rd j L)⟩ : View.Piece (Elt F) S1x1280 .f32) :: L) n

/-- The stores of the first `n` units to the accumulator, the last one first. -/
def list10 (col : ℕ → Fin 5) (sc : ℕ → FVec F S256x256 .f32) (vs : ℕ → Vec F S1x128x256 .bf16) (mx : ℕ → Vec F S1x256 .f32)
    (rd : ℕ → List (View.Piece (Elt F) S144x1280 .f32) → Vec F S144x256 .f32) (base : List (View.Piece (Elt F) S144x1280 .f32)) (n : ℕ) :
    List (View.Piece (Elt F) S144x1280 .f32) :=
  Nat.rec base (fun j L => (⟨rect10 (col j), store10 (sc j) (mx j) (vs j) (rd j L)⟩ : View.Piece (Elt F) S144x1280 .f32) :: L) n

/-- Unit `n` of a sweep of whole key blocks works on column `n mod 5`. -/
def colW (n : ℕ) : Fin 5 := ⟨n % 5, Nat.mod_lt _ (by omega)⟩

/-- The diagonal sweep's key block of unit `n`. -/
def rowD (n : ℕ) : Fin 5 :=
  bif Nat.blt n 5 then 0 else bif Nat.blt n 9 then 1 else bif Nat.blt n 12 then 2 else bif Nat.blt n 14 then 3 else 4

/-- The diagonal sweep's column of unit `n`: from its key block on. -/
def colD (n : ℕ) : Fin 5 :=
  bif Nat.blt n 5 then ⟨n % 5, Nat.mod_lt _ (by omega)⟩ else bif Nat.blt n 9 then ⟨(n - 4) % 5, Nat.mod_lt _ (by omega)⟩
  else bif Nat.blt n 12 then ⟨(n - 7) % 5, Nat.mod_lt _ (by omega)⟩ else bif Nat.blt n 14 then ⟨(n - 9) % 5, Nat.mod_lt _ (by omega)⟩ else 4

end Cert.Proof.FoxUnit
-- ==== Proof.FoxTail.lean ====
/- The attention kernel's stores outside its loop: the two buffers' first fill, the odd row's five extra key blocks, and the
   sweep over the diagonal's key blocks. -/
module

public import proofs.«01_k».proof.Proof.FoxUnit

@[expose] public section

noncomputable section

namespace Cert.Proof.FoxTail

open Cert.FoxIdeal Cert.FoxIdeal.Gen Idealize.ShloMosaic Idealize.ShloMosaic.TcCoe Idealize.SL.Sem Cert.Proof.FoxUnit

variable {F : FTy → Type} [FloatOps F] [Named F]

/-- The maximum's first fill. -/
def fill9 : List (View.Piece (Elt F) S1x1280 .f32) :=
  [⟨Rect.unit (s := S1x1280) ![0, 0] S1x1280.size inb_S1x1280_S1x1280_0_0, k0_pay615⟩]

/-- The accumulator's first fill. -/
def fill10 : List (View.Piece (Elt F) S144x1280 .f32) :=
  [⟨Rect.unit (s := S144x1280) ![0, 0] S144x1280.size inb_S144x1280_S144x1280_0_0, k0_pay616⟩]

section
variable (c : Dev nD) (i : grid0.Coords) (arg2 : Memref sig .tc .vmem S1x128x1280 .bf16) (harg2 : arg2.IsWhole) (arg3 : Memref sig .tc .vmem S1x128x1280 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x128x16640 .bf16) (harg6 : arg6.IsWhole) (arg7 : Memref sig .tc .vmem S1x1x128 .f32) (harg7 : arg7.IsWhole) (arg8 : Memref sig .tc .vmem S1280x128 .bf16) (harg8 : arg8.IsWhole) (arg9 : Memref sig .tc .vmem S1x1280 .f32) (harg9 : arg9.IsWhole) (arg10 : Memref sig .tc .vmem S144x1280 .f32) (harg10 : arg10.IsWhole)
  (x0 : Vec F S1x128x1280 .bf16) (x1 : Vec F S1x128x1280 .bf16) (x2 : Vec F S1x16640x128 .bf16) (x3 : Vec F S1x16640x128 .bf16) (x4 : Vec F S1x128x16640 .bf16)

/-- The queries with their bias rows. -/
def query : FVec F S256x1280 .bf16 :=
  k0_pay614 (View.readAt (Elt F) arg2.view (Rect.unit (s := S1x128x1280) ![0, 0, 0] S1x128x1280.size inb_S1x128x1280_S1x128x1280_0_0_0).toLoadRect (harg2.unread x0))
    (View.readAt (Elt F) arg3.view (Rect.unit (s := S1x128x1280) ![0, 0, 0] S1x128x1280.size inb_S1x128x1280_S1x128x1280_0_0_0).toLoadRect (harg3.unread x1))

/-- The main loop's stores before trip `n`. -/
def loop1 (n : ℕ) : List (View.Piece (Elt F) S1x1280 .f32) × List (View.Piece (Elt F) S144x1280 .f32) :=
  pb_k0_t1 (F := F) Variants.none c none i arg2 harg2 arg3 harg3 arg4 harg4 arg5 harg5 arg6 harg6 arg7 harg7 arg8 harg8 arg9 harg9 arg10 harg10 (BitVec.ofNat 32 (i 1).val)
    (query arg2 harg2 arg3 harg3 x0 x1) k0_pay617 0#32 (k0_t1_loop i).ub 1#32 (harg4.unread x2) (harg5.unread x3) (harg6.unread x4)
    (arg9.view.writes (Elt F) arg9.view.junk fill9) (arg10.view.writes (Elt F) arg10.view.junk fill10) n

/-- The stores after the main loop. -/
def loop9 : List (View.Piece (Elt F) S1x1280 .f32) := (loop1 c i arg2 harg2 arg3 harg3 arg4 harg4 arg5 harg5 arg6 harg6 arg7 harg7 arg8 harg8 arg9 harg9 arg10 harg10 x0 x1 x2 x3 x4 (Scf.trips (k0_t1_loop i).lb (k0_t1_loop i).ub (k0_t1_loop i).st)).1 ++ fill9
def loop10 : List (View.Piece (Elt F) S144x1280 .f32) := (loop1 c i arg2 harg2 arg3 harg3 arg4 harg4 arg5 harg5 arg6 harg6 arg7 harg7 arg8 harg8 arg9 harg9 arg10 harg10 x0 x1 x2 x3 x4 (Scf.trips (k0_t1_loop i).lb (k0_t1_loop i).ub (k0_t1_loop i).st)).2 ++ fill10

/-- The second loop's stores (it makes no trip). -/
def loop2 (n : ℕ) : List (View.Piece (Elt F) S1x1280 .f32) × List (View.Piece (Elt F) S144x1280 .f32) :=
  pb_k0_t2 (F := F) Variants.none c none i arg2 harg2 arg3 harg3 arg4 harg4 arg5 harg5 arg6 harg6 arg7 harg7 arg8 harg8 arg9 harg9 arg10 harg10 (BitVec.ofNat 32 (i 1).val)
    (query arg2 harg2 arg3 harg3 x0 x1) k0_pay617 0#32 (k0_t1_loop i).ub 1#32 (k0_t2_loop i).lb (harg4.unread x2) (harg5.unread x3) (harg6.unread x4)
    (arg9.view.writes (Elt F) arg9.view.junk (loop9 c i arg2 harg2 arg3 harg3 arg4 harg4 arg5 harg5 arg6 harg6 arg7 harg7 arg8 harg8 arg9 harg9 arg10 harg10 x0 x1 x2 x3 x4))
    (arg10.view.writes (Elt F) arg10.view.junk (loop10 c i arg2 harg2 arg3 harg3 arg4 harg4 arg5 harg5 arg6 harg6 arg7 harg7 arg8 harg8 arg9 harg9 arg10 harg10 x0 x1 x2 x3 x4)) n

def base9 : List (View.Piece (Elt F) S1x1280 .f32) :=
  (loop2 c i arg2 harg2 arg3 harg3 arg4 harg4 arg5 harg5 arg6 harg6 arg7 harg7 arg8 harg8 arg9 harg9 arg10 harg10 x0 x1 x2 x3 x4 (Scf.trips (k0_t2_loop i).lb (k0_t2_loop i).ub (k0_t2_loop i).st)).1 ++ loop9 c i arg2 harg2 arg3 harg3 arg4 harg4 arg5 harg5 arg6 harg6 arg7 harg7 arg8 harg8 arg9 harg9 arg10 harg10 x0 x1 x2 x3 x4
def base10 : List (View.Piece (Elt F) S144x1280 .f32) :=
  (loop2 c i arg2 harg2 arg3 harg3 arg4 harg4 arg5 harg5 arg6 harg6 arg7 harg7 arg8 harg8 arg9 harg9 arg10 harg10 x0 x1 x2 x3 x4 (Scf.trips (k0_t2_loop i).lb (k0_t2_loop i).ub (k0_t2_loop i).st)).2 ++ loop10 c i arg2 harg2 arg3 harg3 arg4 harg4 arg5 harg5 arg6 harg6 arg7 harg7 arg8 harg8 arg9 harg9 arg10 harg10 x0 x1 x2 x3 x4

/-- The second loop makes no trip. -/
theorem trips2 : Scf.trips (k0_t2_loop i).lb (k0_t2_loop i).ub (k0_t2_loop i).st = 0 := Nat.le_zero.1 (k0_t2_abs i).2.1

theorem base9_eq : base9 c i arg2 harg2 arg3 harg3 arg4 harg4 arg5 harg5 arg6 harg6 arg7 harg7 arg8 harg8 arg9 harg9 arg10 harg10 x0 x1 x2 x3 x4 = loop9 c i arg2 harg2 arg3 harg3 arg4 harg4 arg5 harg5 arg6 harg6 arg7 harg7 arg8 harg8 arg9 harg9 arg10 harg10 x0 x1 x2 x3 x4 := by
  unfold base9; rw [trips2]; rfl

theorem base10_eq : base10 c i arg2 harg2 arg3 harg3 arg4 harg4 arg5 harg5 arg6 harg6 arg7 harg7 arg8 harg8 arg9 harg9 arg10 harg10 x0 x1 x2 x3 x4 = loop10 c i arg2 harg2 arg3 harg3 arg4 harg4 arg5 harg5 arg6 harg6 arg7 harg7 arg8 harg8 arg9 harg9 arg10 harg10 x0 x1 x2 x3 x4 := by
  unfold base10; rw [trips2]; rfl
end

section
variable (i : grid0.Coords) (arg4 : Memref sig .tc .vmem S1x16640x128 .bf16) (arg5 : Memref sig .tc .vmem S1x16640x128 .bf16)
  (arg6 : Memref sig .tc .vmem S1x128x16640 .bf16) (arg9 : Memref sig .tc .vmem S1x1280 .f32)
  (arg10 : Memref sig .tc .vmem S144x1280 .f32) (v4 : FVec F S256x1280 .bf16)
  (X_arg4 : BufTy.Contents (Elt F) arg4.view.ty) (X_arg5 : BufTy.Contents (Elt F) arg5.view.ty)
  (X_arg6 : BufTy.Contents (Elt F) arg6.view.ty)
  (b9 : List (View.Piece (Elt F) S1x1280 .f32)) (b10 : List (View.Piece (Elt F) S144x1280 .f32))

/-! ## The diagonal sweep -/

def keysD (d : Fin 5) : Vec F S1x256x128 .bf16 :=
  View.readAt (Elt F) arg4.view (Rect.unit (s := S1x16640x128) (k0_off7 i (BitVec.ofNat 32 (256 * d.val))) S1x256x128.size (k0_off7_inb i d)).toLoadRect X_arg4

def biasD (d : Fin 5) : Vec F S1x256x128 .bf16 :=
  View.readAt (Elt F) arg5.view (Rect.unit (s := S1x16640x128) (k0_off7 i (BitVec.ofNat 32 (256 * d.val))) S1x256x128.size (k0_off7_inb i d)).toLoadRect X_arg5

def valsD (d : Fin 5) : Vec F S1x128x256 .bf16 :=
  View.readAt (Elt F) arg6.view (Rect.unit (s := S1x128x16640) (k0_off8 i (BitVec.ofNat 32 (256 * d.val))) S1x128x256.size (k0_off8_inb i d)).toLoadRect X_arg6

/-- Masked on the diagonal, plain before it. -/
def scoreD (d c : Fin 5) : FVec F S256x256 .f32 :=
  bif Nat.beq d.val c.val then
    scoreMasked v4 c (BitVec.ofNat 32 (i 1).val) (Scalar.addi (Scalar.muli (BitVec.ofNat 32 (i 1).val) 1280#32) (BitVec.ofNat 32 (256 * d.val)))
      (keysD i arg4 X_arg4 d) (biasD i arg5 X_arg5 d)
  else score v4 c (keysD i arg4 X_arg4 d) (biasD i arg5 X_arg5 d)

def rd9D (n : ℕ) (L : List (View.Piece (Elt F) S1x1280 .f32)) : Vec F S1x256 .f32 := arg9.view.readCov L (rect9 (colD n)).toLoadRect

def rd10D (n : ℕ) (L : List (View.Piece (Elt F) S144x1280 .f32)) : Vec F S144x256 .f32 := arg10.view.readCov L (rect10 (colD n)).toLoadRect

def list9D (n : ℕ) : List (View.Piece (Elt F) S1x1280 .f32) :=
  list9 colD (fun j => scoreD i arg4 arg5 v4 X_arg4 X_arg5 (rowD j) (colD j)) (rd9D arg9) b9 n

def list10D (n : ℕ) : List (View.Piece (Elt F) S144x1280 .f32) :=
  list10 colD (fun j => scoreD i arg4 arg5 v4 X_arg4 X_arg5 (rowD j) (colD j)) (fun j => valsD i arg6 X_arg6 (rowD j))
    (fun j => rd9D arg9 j (list9D i arg4 arg5 arg9 v4 X_arg4 X_arg5 b9 j)) (rd10D arg10) b10 n

/-! ## The odd row's extra key blocks -/

variable (hc0 : k0_cond1 i = 1#1)

/-- Key block of unit `n`. -/
def rowR (n : ℕ) : Fin 5 := ⟨n / 5 % 5, Nat.mod_lt _ (by omega)⟩

def keysR (d : Fin 5) : Vec F S1x256x128 .bf16 :=
  View.readAt (Elt F) arg4.view (Rect.unit (s := S1x16640x128) (k0_off5 i (BitVec.ofNat 32 (256 * d.val))) S1x256x128.size (k0_off5_inb i hc0 d)).toLoadRect X_arg4

def biasR (d : Fin 5) : Vec F S1x256x128 .bf16 :=
  View.readAt (Elt F) arg5.view (Rect.unit (s := S1x16640x128) (k0_off5 i (BitVec.ofNat 32 (256 * d.val))) S1x256x128.size (k0_off5_inb i hc0 d)).toLoadRect X_arg5

def valsR (d : Fin 5) : Vec F S1x128x256 .bf16 :=
  View.readAt (Elt F) arg6.view (Rect.unit (s := S1x128x16640) (k0_off6 i (BitVec.ofNat 32 (256 * d.val))) S1x128x256.size (k0_off6_inb i hc0 d)).toLoadRect X_arg6

def scoreR (d c : Fin 5) : FVec F S256x256 .f32 :=
  score v4 c (keysR i arg4 X_arg4 hc0 d) (biasR i arg5 X_arg5 hc0 d)

def rd9R (n : ℕ) (L : List (View.Piece (Elt F) S1x1280 .f32)) : Vec F S1x256 .f32 := arg9.view.readCov L (rect9 (colW n)).toLoadRect

def rd10R (n : ℕ) (L : List (View.Piece (Elt F) S144x1280 .f32)) : Vec F S144x256 .f32 := arg10.view.readCov L (rect10 (colW n)).toLoadRect

def list9R (n : ℕ) : List (View.Piece (Elt F) S1x1280 .f32) :=
  list9 colW (fun j => scoreR i arg4 arg5 v4 X_arg4 X_arg5 hc0 (rowR j) (colW j)) (rd9R arg9) b9 n

def list10R (n : ℕ) : List (View.Piece (Elt F) S144x1280 .f32) :=
  list10 colW (fun j => scoreR i arg4 arg5 v4 X_arg4 X_arg5 hc0 (rowR j) (colW j)) (fun j => valsR i arg6 X_arg6 hc0 (rowR j))
    (fun j => rd9R arg9 j (list9R i arg4 arg5 arg9 v4 X_arg4 X_arg5 b9 hc0 j)) (rd10R arg10) b10 n
end

/-- The stored block, from the finished accumulator and the norm's weights. -/
def finish (arg7 : Memref sig .tc .vmem S1x1x128 .f32) (harg7 : arg7.IsWhole) (x5 : Vec F S1x1x128 .f32) (acc : Vec F S144x1280 .f32) :
    List (View.Piece (Elt F) S1280x128 .bf16) :=
  [⟨Rect.unit (s := S1280x128) ![0, 0] S1280x128.size inb_S1280x128_S1280x128_0_0,
    k0_pay1 (k0_pay700 acc) (k0_pay701 acc)
      (View.readAt (Elt F) arg7.view (Rect.unit (s := S1x1x128) ![0, 0, 0] S1x1x128.size inb_S1x1x128_S1x1x128_0_0_0).toLoadRect (harg7.unread x5))⟩]

/-- The whole accumulator after a list of stores. -/
def whole10 (arg10 : Memref sig .tc .vmem S144x1280 .f32) (L : List (View.Piece (Elt F) S144x1280 .f32)) : Vec F S144x1280 .f32 :=
  arg10.view.readCov L (Rect.unit (s := S144x1280) ![0, 0] S144x1280.size inb_S144x1280_S144x1280_0_0).toLoadRect

end Cert.Proof.FoxTail
-- ==== Proof.FoxTrip.lean ====
/- The stores of one trip of the attention kernel's loop over whole key blocks: ten key blocks, each against the five column
   blocks of the queries. -/
module

public import proofs.«01_k».proof.Proof.FoxUnit
import all proofs.«01_k».proof.Proof.Gen.FoxIdeal.Loops

@[expose] public section

noncomputable section

namespace Cert.Proof.FoxTrip

open Cert.FoxIdeal Cert.FoxIdeal.Gen Idealize.ShloMosaic Idealize.ShloMosaic.TcCoe Idealize.SL.Sem Cert.Proof.FoxUnit

variable {F : FTy → Type} [FloatOps F] [Named F]

/-- Key block of unit `n` of a trip. -/
def rowT (n : ℕ) : Fin 10 := ⟨n / 5 % 10, Nat.mod_lt _ (by omega)⟩

section
variable (i : grid0.Coords) (arg4 : Memref sig .tc .vmem S1x16640x128 .bf16) (arg5 : Memref sig .tc .vmem S1x16640x128 .bf16)
  (arg6 : Memref sig .tc .vmem S1x128x16640 .bf16) (arg9 : Memref sig .tc .vmem S1x1280 .f32)
  (arg10 : Memref sig .tc .vmem S144x1280 .f32) (v4 : FVec F S256x1280 .bf16)
  (X_arg4 : BufTy.Contents (Elt F) arg4.view.ty) (X_arg5 : BufTy.Contents (Elt F) arg5.view.ty)
  (X_arg6 : BufTy.Contents (Elt F) arg6.view.ty) (k : Fin (k0_t1_loop i).trips)
  (f9 : BufTy.Contents (Elt F) arg9.view.ty) (f10 : BufTy.Contents (Elt F) arg10.view.ty)

def keysT (n : ℕ) : Vec F S1x256x128 .bf16 :=
  View.readAt (Elt F) arg4.view (Rect.unit (s := S1x16640x128) (k0_off1 i k (BitVec.ofNat 32 (256 * (rowT n).val))) S1x256x128.size (k0_off1_inb i k (rowT n))).toLoadRect X_arg4

def biasT (n : ℕ) : Vec F S1x256x128 .bf16 :=
  View.readAt (Elt F) arg5.view (Rect.unit (s := S1x16640x128) (k0_off1 i k (BitVec.ofNat 32 (256 * (rowT n).val))) S1x256x128.size (k0_off1_inb i k (rowT n))).toLoadRect X_arg5

def valsT (n : ℕ) : Vec F S1x128x256 .bf16 :=
  View.readAt (Elt F) arg6.view (Rect.unit (s := S1x128x16640) (k0_off2 i k (BitVec.ofNat 32 (256 * (rowT n).val))) S1x128x256.size (k0_off2_inb i k (rowT n))).toLoadRect X_arg6

def scoreT (n : ℕ) : FVec F S256x256 .f32 :=
  score v4 (colW n) (keysT i arg4 X_arg4 k n) (biasT i arg5 X_arg5 k n)

/-- The first five units find what the trip found, the later ones what the trip stored. -/
def rd9T (n : ℕ) (L : List (View.Piece (Elt F) S1x1280 .f32)) : Vec F S1x256 .f32 :=
  bif Nat.blt n 5 then View.readAt (Elt F) arg9.view (rect9 (colW n)).toLoadRect f9
  else arg9.view.readCov L (rect9 (colW n)).toLoadRect

def rd10T (n : ℕ) (L : List (View.Piece (Elt F) S144x1280 .f32)) : Vec F S144x256 .f32 :=
  bif Nat.blt n 5 then View.readAt (Elt F) arg10.view (rect10 (colW n)).toLoadRect f10
  else arg10.view.readCov L (rect10 (colW n)).toLoadRect

def list9T (n : ℕ) : List (View.Piece (Elt F) S1x1280 .f32) :=
  list9 colW (scoreT i arg4 arg5 v4 X_arg4 X_arg5 k) (rd9T arg9 f9) [] n

def list10T (n : ℕ) : List (View.Piece (Elt F) S144x1280 .f32) :=
  list10 colW (scoreT i arg4 arg5 v4 X_arg4 X_arg5 k) (valsT i arg6 X_arg6 k)
    (fun j => rd9T arg9 f9 j (list9T i arg4 arg5 arg9 v4 X_arg4 X_arg5 k f9 j)) (rd10T arg10 f10) [] n
end

theorem trip_eq9 (𝒱 : Variants) (c : Dev nD) (bd : Option 𝒱.V) (i : grid0.Coords) (arg2 : Memref sig .tc .vmem S1x128x1280 .bf16) (harg2 : arg2.IsWhole) (arg3 : Memref sig .tc .vmem S1x128x1280 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x128x16640 .bf16) (harg6 : arg6.IsWhole) (arg7 : Memref sig .tc .vmem S1x1x128 .f32) (harg7 : arg7.IsWhole) (arg8 : Memref sig .tc .vmem S1280x128 .bf16) (harg8 : arg8.IsWhole) (arg9 : Memref sig .tc .vmem S1x1280 .f32) (harg9 : arg9.IsWhole) (arg10 : Memref sig .tc .vmem S144x1280 .f32) (harg10 : arg10.IsWhole) (arg1 : BitVec 32) (v4 : FVec F S256x1280 .bf16) (c0 v31 c1 : BitVec 32) (X_arg4 : BufTy.Contents (Elt F) arg4.view.ty) (X_arg5 : BufTy.Contents (Elt F) arg5.view.ty) (X_arg6 : BufTy.Contents (Elt F) arg6.view.ty) (k : Fin (k0_t1_loop i).trips)
    (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg1 v4 k0_pay617 c0 v31 c1 X_arg4 X_arg5 X_arg6 k).1 f9 f10
      = list9T i arg4 arg5 arg9 v4 X_arg4 X_arg5 k f9 50 := by
  unfold trip_k0_t1
  dsimp only
  sl_kernel_rfl

theorem trip_eq10 (𝒱 : Variants) (c : Dev nD) (bd : Option 𝒱.V) (i : grid0.Coords) (arg2 : Memref sig .tc .vmem S1x128x1280 .bf16) (harg2 : arg2.IsWhole) (arg3 : Memref sig .tc .vmem S1x128x1280 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x128x16640 .bf16) (harg6 : arg6.IsWhole) (arg7 : Memref sig .tc .vmem S1x1x128 .f32) (harg7 : arg7.IsWhole) (arg8 : Memref sig .tc .vmem S1280x128 .bf16) (harg8 : arg8.IsWhole) (arg9 : Memref sig .tc .vmem S1x1280 .f32) (harg9 : arg9.IsWhole) (arg10 : Memref sig .tc .vmem S144x1280 .f32) (harg10 : arg10.IsWhole) (arg1 : BitVec 32) (v4 : FVec F S256x1280 .bf16) (c0 v31 c1 : BitVec 32) (X_arg4 : BufTy.Contents (Elt F) arg4.view.ty) (X_arg5 : BufTy.Contents (Elt F) arg5.view.ty) (X_arg6 : BufTy.Contents (Elt F) arg6.view.ty) (k : Fin (k0_t1_loop i).trips)
    (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg1 v4 k0_pay617 c0 v31 c1 X_arg4 X_arg5 X_arg6 k).2.1 f9 f10
      = list10T i arg4 arg5 arg6 arg9 arg10 v4 X_arg4 X_arg5 X_arg6 k f9 f10 50 := by
  unfold trip_k0_t1
  dsimp only
  sl_kernel_rfl

end Cert.Proof.FoxTrip
-- ==== Proof.FoxBlocks.lean ====
/- The key blocks a grid point reads, by their number among all the key blocks. -/
module

public import proofs.«01_k».proof.Proof.FoxTail
public import proofs.«01_k».proof.Proof.FoxTrip
public import Idealize.ShloMosaic.Lib.WholeRead
public import Idealize.ShloMosaic.Lib.ValueIdx
public import Idealize.ShloMosaic.Lib.ValueLayout

@[expose] public section

noncomputable section

namespace Cert.Proof.FoxBlocks

open Cert.FoxIdeal Cert.FoxIdeal.Gen Idealize.ShloMosaic Idealize.ShloMosaic.TcCoe Idealize.ShloMosaic.ValueIdx Idealize.SL.Sem Cert.Proof.FoxUnit

variable {F : FTy → Type} [FloatOps F] [Named F]
open Cert.Proof.FoxTail Cert.Proof.FoxTrip

/-- Key block `j`'s rows. -/
def rows (X : Vec F S1x16640x128 .bf16) (j : ℕ) : Vec F S1x256x128 .bf16 :=
  fun y => X (ix3 0 ⟨(256 * j + (y 1).val) % 16640, Nat.mod_lt _ (by omega)⟩ (y 2))

/-- Key block `j`'s columns of the values. -/
def cols (X : Vec F S1x128x16640 .bf16) (j : ℕ) : Vec F S1x128x256 .bf16 :=
  fun y => X (ix3 0 (y 1) ⟨(256 * j + (y 2).val) % 16640, Nat.mod_lt _ (by omega)⟩)

theorem read_rows (m : Memref sig .tc .vmem S1x16640x128 .bf16) (h : m.IsWhole) (X : Vec F S1x16640x128 .bf16) (off : Fin 3 → ℕ)
    (inb : ∀ a, off a + S1x256x128.size a ≤ S1x16640x128.size a) (j : ℕ) (hj : j < 65) (e : off = ![0, 256 * j, 0]) :
    View.readAt (Elt F) m.view (Rect.unit (s := S1x16640x128) off S1x256x128.size inb).toLoadRect (h.unread X) = rows X j := by
  subst e
  funext y
  rw [Memref.IsWhole.readAt_unread h]
  have h1 : (y 1).val < 256 := (y 1).isLt
  refine congrArg X (funext fun a => Fin.ext ?_)
  match a with
  | ⟨0, _⟩ => show 0 + 1 * (y 0).val = 0; have := (y 0).isLt; have : (y 0).val < 1 := this; omega
  | ⟨1, _⟩ => show 256 * j + 1 * (y 1).val = (256 * j + (y 1).val) % 16640; omega
  | ⟨2, _⟩ => show 0 + 1 * (y 2).val = (y 2).val; omega

theorem read_cols (m : Memref sig .tc .vmem S1x128x16640 .bf16) (h : m.IsWhole) (X : Vec F S1x128x16640 .bf16) (off : Fin 3 → ℕ)
    (inb : ∀ a, off a + S1x128x256.size a ≤ S1x128x16640.size a) (j : ℕ) (hj : j < 65) (e : off = ![0, 0, 256 * j]) :
    View.readAt (Elt F) m.view (Rect.unit (s := S1x128x16640) off S1x128x256.size inb).toLoadRect (h.unread X) = cols X j := by
  subst e
  funext y
  rw [Memref.IsWhole.readAt_unread h]
  have h1 : (y 2).val < 256 := (y 2).isLt
  refine congrArg X (funext fun a => Fin.ext ?_)
  match a with
  | ⟨0, _⟩ => show 0 + 1 * (y 0).val = 0; have := (y 0).isLt; have : (y 0).val < 1 := this; omega
  | ⟨1, _⟩ => show 0 + 1 * (y 1).val = (y 1).val; omega
  | ⟨2, _⟩ => show 256 * j + 1 * (y 2).val = (256 * j + (y 2).val) % 16640; omega

/-- The grid point of head 0 and query block `b`. -/
def at1 (b : Fin 13) : grid0.Coords := fun a => match a with | ⟨0, _⟩ => ⟨0, by show 0 < 8; omega⟩ | ⟨1, _⟩ => b

theorem trips1 (i : grid0.Coords) : (k0_t1_loop i).trips = (i 1).val / 2 :=
  (by decide +kernel : ∀ b : Fin 13, (k0_t1_loop (at1 b)).trips = b.val / 2) (i 1)

theorem odd_of (i : grid0.Coords) (h : k0_cond1 i = 1#1) : (i 1).val % 2 = 1 :=
  (by decide +kernel : ∀ b : Fin 13, k0_cond1 (at1 b) = 1#1 → b.val % 2 = 1) (i 1) h

theorem even_of (i : grid0.Coords) (h : ¬(k0_cond1 i = 1#1)) : (i 1).val % 2 = 0 :=
  (by decide +kernel : ∀ b : Fin 13, ¬(k0_cond1 (at1 b) = 1#1) → b.val % 2 = 0) (i 1) h

theorem off1 (i : grid0.Coords) (k : Fin (k0_t1_loop i).trips) (r : Fin 10) :
    k0_off1 i k (BitVec.ofNat 32 (256 * r.val)) = ![0, 256 * (10 * k.val + r.val), 0] := by
  have hk : k.val < 6 := Nat.lt_of_lt_of_le k.isLt (k0_t1_abs i).2.1
  have h := (by decide +kernel : ∀ k : Fin 6, ∀ r : Fin 10,
    (Scalar.addi (Scalar.muli (Scf.iv 0#32 1#32 k.val) 2560#32) (BitVec.ofNat 32 (256 * r.val))).toNat = 256 * (10 * k.val + r.val)) ⟨k.val, hk⟩ r
  exact congrArg (fun n => ![0, n, 0]) h

theorem off2 (i : grid0.Coords) (k : Fin (k0_t1_loop i).trips) (r : Fin 10) :
    k0_off2 i k (BitVec.ofNat 32 (256 * r.val)) = ![0, 0, 256 * (10 * k.val + r.val)] := by
  have hk : k.val < 6 := Nat.lt_of_lt_of_le k.isLt (k0_t1_abs i).2.1
  have h := (by decide +kernel : ∀ k : Fin 6, ∀ r : Fin 10,
    (Scalar.addi (Scalar.muli (Scf.iv 0#32 1#32 k.val) 2560#32) (BitVec.ofNat 32 (256 * r.val))).toNat = 256 * (10 * k.val + r.val)) ⟨k.val, hk⟩ r
  exact congrArg (fun n => ![0, 0, n]) h

theorem off5 (i : grid0.Coords) (h : k0_cond1 i = 1#1) (r : Fin 5) :
    k0_off5 i (BitVec.ofNat 32 (256 * r.val)) = ![0, 256 * (5 * ((i 1).val - 1) + r.val), 0] :=
  (by decide +kernel : ∀ b : Fin 13, ∀ r : Fin 5, k0_cond1 (at1 b) = 1#1 →
    k0_off5 (at1 b) (BitVec.ofNat 32 (256 * r.val)) = ![0, 256 * (5 * (b.val - 1) + r.val), 0]) (i 1) r h

theorem off6 (i : grid0.Coords) (h : k0_cond1 i = 1#1) (r : Fin 5) :
    k0_off6 i (BitVec.ofNat 32 (256 * r.val)) = ![0, 0, 256 * (5 * ((i 1).val - 1) + r.val)] :=
  (by decide +kernel : ∀ b : Fin 13, ∀ r : Fin 5, k0_cond1 (at1 b) = 1#1 →
    k0_off6 (at1 b) (BitVec.ofNat 32 (256 * r.val)) = ![0, 0, 256 * (5 * (b.val - 1) + r.val)]) (i 1) r h

theorem off7 (i : grid0.Coords) (r : Fin 5) :
    k0_off7 i (BitVec.ofNat 32 (256 * r.val)) = ![0, 256 * (5 * (i 1).val + r.val), 0] :=
  (by decide +kernel : ∀ b : Fin 13, ∀ r : Fin 5,
    k0_off7 (at1 b) (BitVec.ofNat 32 (256 * r.val)) = ![0, 256 * (5 * b.val + r.val), 0]) (i 1) r

theorem off8 (i : grid0.Coords) (r : Fin 5) :
    k0_off8 i (BitVec.ofNat 32 (256 * r.val)) = ![0, 0, 256 * (5 * (i 1).val + r.val)] :=
  (by decide +kernel : ∀ b : Fin 13, ∀ r : Fin 5,
    k0_off8 (at1 b) (BitVec.ofNat 32 (256 * r.val)) = ![0, 0, 256 * (5 * b.val + r.val)]) (i 1) r

/-- A column's scores of key block `j`: masked at the diagonal block, plain elsewhere. -/
def scores (b : ℕ) (q : FVec F S256x1280 .bf16) (x2 x3 : Vec F S1x16640x128 .bf16) (c : Fin 5) (j : ℕ) : FVec F S256x256 .f32 :=
  bif Nat.beq j (5 * b + c.val) then
    scoreMasked q c (BitVec.ofNat 32 b) (Scalar.addi (Scalar.muli (BitVec.ofNat 32 b) 1280#32) (BitVec.ofNat 32 (256 * c.val))) (rows x2 j) (rows x3 j)
  else score q c (rows x2 j) (rows x3 j)

theorem scores_before (b : ℕ) (q : FVec F S256x1280 .bf16) (x2 x3 : Vec F S1x16640x128 .bf16) (c : Fin 5) (j : ℕ) (h : j < 5 * b + c.val) :
    scores b q x2 x3 c j = score q c (rows x2 j) (rows x3 j) := by
  unfold scores
  rw [show Nat.beq j (5 * b + c.val) = false from Bool.eq_false_iff.2 fun e => by have := Nat.eq_of_beq_eq_true e; omega]
  rfl

theorem scores_at (b : ℕ) (q : FVec F S256x1280 .bf16) (x2 x3 : Vec F S1x16640x128 .bf16) (c : Fin 5) :
    scores b q x2 x3 c (5 * b + c.val) = scoreMasked q c (BitVec.ofNat 32 b)
      (Scalar.addi (Scalar.muli (BitVec.ofNat 32 b) 1280#32) (BitVec.ofNat 32 (256 * c.val)))
      (rows x2 (5 * b + c.val)) (rows x3 (5 * b + c.val)) := by
  unfold scores
  rw [show Nat.beq (5 * b + c.val) (5 * b + c.val) = true from Nat.beq_refl _]
  rfl

end Cert.Proof.FoxBlocks
-- ==== Proof.FoxMath.lean ====
/- The running softmax over the extended reals: a weighted sum of base-2 exponentials taken below a running maximum, rescaled
   whenever the maximum grows, is the sum below the final maximum. -/
module

public import Idealize.ShloMosaic.Lib.IdealHost
public import Idealize.ShloMosaic.PureOps.Ideal

@[expose] public section

noncomputable section

namespace Cert.Proof.FoxMath

open Idealize.ShloMosaic
open scoped BigOperators

/-- The base-2 exponential of a difference. -/
def w (s m : EReal) : EReal := Ideal.exp2 (s - m)

theorem w_bot (m : EReal) : w ⊥ m = 0 := by
  unfold w; rw [EReal.bot_sub]; rfl

theorem w_top (s : EReal) : w s ⊤ = 0 := by
  unfold w; rw [EReal.sub_top]; rfl

theorem w_coe (s m : ℝ) : w s m = ((2 : ℝ) ^ (s - m) : ℝ) := rfl

theorem w_mul {s m m' : EReal} (h : s ≤ m) (h' : m ≤ m') : w m m' * w s m = w s m' := by
  induction m' using EReal.rec with
  | bot => rw [le_bot_iff.1 h'] at h; rw [le_bot_iff.1 h, w_bot, mul_zero]; exact (w_bot _).symm
  | top => rw [w_top, w_top, zero_mul]
  | coe m' =>
    induction m using EReal.rec with
    | bot => rw [le_bot_iff.1 h, w_bot, w_bot, mul_zero]
    | top => exact absurd h' (by simp)
    | coe m =>
      induction s using EReal.rec with
      | bot => rw [w_bot, w_bot, mul_zero]
      | top => exact absurd h (by simp)
      | coe s =>
        rw [w_coe, w_coe, w_coe, ← EReal.coe_mul, ← Real.rpow_add (by norm_num)]
        congr 2; ring

theorem w_real {s m : EReal} (h : s ≤ m) : ∃ r : ℝ, 0 ≤ r ∧ w s m = r := by
  induction m using EReal.rec with
  | bot => exact ⟨0, le_rfl, by rw [le_bot_iff.1 h, w_bot]; rfl⟩
  | top => exact ⟨0, le_rfl, by rw [w_top]; rfl⟩
  | coe m =>
    induction s using EReal.rec with
    | bot => exact ⟨0, le_rfl, by rw [w_bot]; rfl⟩
    | top => exact absurd h (by simp)
    | coe s => exact ⟨_, Real.rpow_nonneg (by norm_num) _, w_coe s m⟩

theorem mul_sum' {ι : Type} (r : ℝ) (hr : 0 ≤ r) (S : Finset ι) (f : ι → EReal) :
    (r : EReal) * ∑ k ∈ S, f k = ∑ k ∈ S, (r : EReal) * f k := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

/-- The maximum of the first `n` scores. -/
def mx (s : ℕ → EReal) (n : ℕ) : EReal := (Finset.range n).sup s

/-- The weighted sum below it. -/
def acc (s v : ℕ → EReal) (n : ℕ) : EReal := ∑ k ∈ Finset.range n, v k * w (s k) (mx s n)

theorem mx_zero (s : ℕ → EReal) : mx s 0 = ⊥ := rfl

theorem acc_zero (s v : ℕ → EReal) : acc s v 0 = 0 := rfl

theorem mx_add (s : ℕ → EReal) (a b : ℕ) : mx s (a + b) = max (mx s a) (mx (fun j => s (a + j)) b) := by
  refine le_antisymm (Finset.sup_le fun k hk => ?_) (max_le ?_ ?_)
  · by_cases h : k < a
    · exact le_max_of_le_left (Finset.le_sup (Finset.mem_range.2 h))
    · refine le_max_of_le_right ?_
      have h2 : s k = (fun j => s (a + j)) (k - a) := congrArg s (by omega)
      rw [h2]
      exact Finset.le_sup (f := fun j => s (a + j)) (Finset.mem_range.2 (by have := Finset.mem_range.1 hk; omega))
  · exact Finset.sup_mono (Finset.range_mono (by omega))
  · exact Finset.sup_le fun j hj => Finset.le_sup (Finset.mem_range.2 (by have := Finset.mem_range.1 hj; omega))

theorem le_mx (s : ℕ → EReal) {k n : ℕ} (h : k < n) : s k ≤ mx s n := Finset.le_sup (Finset.mem_range.2 h)

/-- One block more: the old sum rescaled, plus the block's own. -/
theorem acc_add (s v : ℕ → EReal) (a b : ℕ) :
    acc s v (a + b) = w (mx s a) (mx s (a + b)) * acc s v a + ∑ j ∈ Finset.range b, v (a + j) * w (s (a + j)) (mx s (a + b)) := by
  unfold acc
  rw [Finset.sum_range_add]
  refine congrArg (· + _) ?_
  have hle : mx s a ≤ mx s (a + b) := by rw [mx_add]; exact le_max_left _ _
  obtain ⟨r, hr, he⟩ := w_real hle
  have h1 := mul_sum' r hr (Finset.range a) fun k => v k * w (s k) (mx s a)
  rw [← he] at h1
  rw [h1]
  refine Finset.sum_congr rfl fun k hk => ?_
  rw [← w_mul (le_mx s (Finset.mem_range.1 hk)) hle, mul_left_comm]

/-- Masked keys at the end change neither. -/
theorem mx_tail (s : ℕ → EReal) (n b : ℕ) (h : ∀ j, s (n + j) = ⊥) : mx s (n + b) = mx s n := by
  rw [mx_add]
  exact max_eq_left ((Finset.sup_le fun j _ => (h j).le).trans bot_le)

theorem acc_tail (s v : ℕ → EReal) (n b : ℕ) (h : ∀ j, s (n + j) = ⊥) : acc s v (n + b) = acc s v n := by
  have h0 : acc s v (n + b) = ∑ k ∈ Finset.range (n + b), v k * w (s k) (mx s n) := by unfold acc; rw [mx_tail s n b h]
  rw [h0, Finset.sum_range_add]
  unfold acc
  rw [Finset.sum_eq_zero (s := Finset.range b) fun j _ => by rw [h j, w_bot, mul_zero], add_zero]

/-- The exponential of a multiple of log 2 is the base-2 exponential. -/
theorem exp_log2 (x : EReal) : Ideal.exp (((Real.log 2 : ℝ) : EReal) * x) = Ideal.exp2 x := by
  have h2 : (0 : ℝ) < Real.log 2 := Real.log_pos (by norm_num)
  induction x using EReal.rec with
  | bot => rw [EReal.coe_mul_bot_of_pos h2]; rfl
  | top => rw [EReal.coe_mul_top_of_pos h2]; rfl
  | coe x =>
    rw [← EReal.coe_mul]
    show ((Real.exp (Real.log 2 * x) : ℝ) : EReal) = (((2 : ℝ) ^ x : ℝ) : EReal)
    rw [Real.rpow_def_of_pos (by norm_num)]

end Cert.Proof.FoxMath
-- ==== Proof.FoxScore.lean ====
/- What a block of scores holds at an index: the query's logit against each key, masked after the query on the diagonal. -/
module

public import proofs.«01_k».proof.Proof.FoxBlocks
public import proofs.«01_k».proof.Proof.FoxMath
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.Lib.WordCmp
public import Idealize.ShloMosaic.Lib.Pipeline.ReadBack

@[expose] public section

noncomputable section

namespace Cert.Proof.FoxScore

open Cert.FoxIdeal Cert.FoxIdeal.Gen Idealize.ShloMosaic Idealize.ShloMosaic.TcCoe Idealize.SL.Sem Idealize.ShloMosaic.ValueIdx
open Cert.Proof.FoxUnit Cert.Proof.FoxBlocks
open scoped BigOperators

/-- A key's number among the rows. -/
def key (n : ℕ) : Fin 16640 := ⟨n % 16640, Nat.mod_lt _ (by omega)⟩

section
variable (x0 x1 : Vec Ideal S1x128x1280 .bf16) (x2 x3 : Vec Ideal S1x16640x128 .bf16) (x4 : Vec Ideal S1x128x16640 .bf16)

/-- The logit of the block's query `p` against key `n`: the product plus the bias product. -/
def logit (p : Fin 1280) (n : ℕ) : EReal :=
  (∑ d : Fin 128, x2 (ix3 0 (key n) d) * x0 (ix3 0 d p)) + ∑ e : Fin 128, x3 (ix3 0 (key n) e) * x1 (ix3 0 e p)

/-- A column's query. -/
def qry (c : Fin 5) (x : Fin 256) : Fin 1280 := ⟨256 * c.val + x.val, by have := c.isLt; have := x.isLt; omega⟩

theorem query_left (d : Fin 128) (p : Fin 1280) :
    k0_pay614 (F := Ideal) x0 x1 (ix2 (⟨d.val, by have := d.isLt; omega⟩ : Fin 256) p) = x0 (ix3 0 d p) := by
  unfold k0_pay614
  refine (concatenate_pair_apply_left (t := S256x1280) (s₁ := S128x1280) (s₂ := S128x1280) (0 : Fin 2) _ _ concatenates_S128x1280_S128x1280_S256x1280_d0 (ix2 (⟨d.val, by have := d.isLt; omega⟩ : Fin 256) p) rfl (ix2 d p) fun b => match b with | ⟨0, _⟩ => rfl | ⟨1, _⟩ => rfl).trans ?_
  exact shapeCast_1ab_ab_apply _ _ d p

theorem query_right (d : Fin 128) (p : Fin 1280) :
    k0_pay614 (F := Ideal) x0 x1 (ix2 (⟨128 + d.val, by have := d.isLt; omega⟩ : Fin 256) p) = x1 (ix3 0 d p) := by
  unfold k0_pay614
  refine (concatenate_pair_apply_right (t := S256x1280) (s₁ := S128x1280) (s₂ := S128x1280) (0 : Fin 2) _ _ concatenates_S128x1280_S128x1280_S256x1280_d0 (ix2 (⟨128 + d.val, by have := d.isLt; omega⟩ : Fin 256) p) rfl rfl (ix2 d p)
    (fun b => match b with | ⟨0, _⟩ => fun h => absurd rfl h | ⟨1, _⟩ => fun _ => rfl) (Nat.add_comm _ _)).trans ?_
  exact shapeCast_1ab_ab_apply _ _ d p

theorem keys_left (k kb : Vec Ideal S1x256x128 .bf16) (r : Fin 256) (d : Fin 128) :
    concatenate S256x256 1 [⟨S256x128, shapeCast S256x128 k shapeCasts_S1x256x128_S256x128⟩,
      ⟨S256x128, shapeCast S256x128 kb shapeCasts_S1x256x128_S256x128⟩] concatenates_S256x128_S256x128_S256x256_d1
      (ix2 r (⟨d.val, by have := d.isLt; omega⟩ : Fin 256)) = k (ix3 0 r d) := by
  refine (concatenate_pair_apply_left (t := S256x256) (s₁ := S256x128) (s₂ := S256x128) (1 : Fin 2) _ _ concatenates_S256x128_S256x128_S256x256_d1 (ix2 r (⟨d.val, by have := d.isLt; omega⟩ : Fin 256)) rfl (ix2 r d) fun b => match b with | ⟨0, _⟩ => rfl | ⟨1, _⟩ => rfl).trans ?_
  exact shapeCast_1ab_ab_apply _ _ r d

theorem keys_right (k kb : Vec Ideal S1x256x128 .bf16) (r : Fin 256) (d : Fin 128) :
    concatenate S256x256 1 [⟨S256x128, shapeCast S256x128 k shapeCasts_S1x256x128_S256x128⟩,
      ⟨S256x128, shapeCast S256x128 kb shapeCasts_S1x256x128_S256x128⟩] concatenates_S256x128_S256x128_S256x256_d1
      (ix2 r (⟨128 + d.val, by have := d.isLt; omega⟩ : Fin 256)) = kb (ix3 0 r d) := by
  refine (concatenate_pair_apply_right (t := S256x256) (s₁ := S256x128) (s₂ := S256x128) (1 : Fin 2) _ _ concatenates_S256x128_S256x128_S256x256_d1 (ix2 r (⟨128 + d.val, by have := d.isLt; omega⟩ : Fin 256)) rfl rfl (ix2 r d)
    (fun b => match b with | ⟨0, _⟩ => fun _ => rfl | ⟨1, _⟩ => fun h => absurd rfl h) (Nat.add_comm _ _)).trans ?_
  exact shapeCast_1ab_ab_apply _ _ r d

theorem score_apply (c : Fin 5) (j : ℕ) (k x : Fin 256) :
    score (k0_pay614 (F := Ideal) x0 x1) c (rows x2 j) (rows x3 j) (ix2 k x) = logit x0 x1 x2 x3 (qry c x) (256 * j + k.val) := by
  unfold score logit
  refine (Ideal.matmul_plain_apply (M := 256) (K := 256) (N := 256) (φ₁ := .bf16) (φ₂ := .bf16) none _ _ _ k x).trans ?_
  have h0 : (constant S256x256 .f32 0x00000000#32 : FVec Ideal S256x256 .f32) (ix2 k x) = (0 : EReal) := Ideal.ofBits_zero_f32
  rw [h0, zero_add]
  refine (Fin.sum_univ_add (a := 128) (b := 128) _).trans ?_
  have hq : ∀ e : Fin 256, extractStridedSlice S256x256 ![0, 256 * c.val] (k0_pay614 (F := Ideal) x0 x1) (slices c) (ix2 e x)
      = k0_pay614 (F := Ideal) x0 x1 (ix2 e (qry c x)) := fun e =>
    extractStridedSlice_apply _ _ _ _ _ fun a => match a with
      | ⟨0, _⟩ => (Nat.zero_add _).symm
      | ⟨1, _⟩ => rfl
  refine congrArg₂ (· + ·) (Finset.sum_congr rfl fun d _ => ?_) (Finset.sum_congr rfl fun d _ => ?_)
  · exact congrArg₂ (· * ·) (keys_left _ _ k d) ((hq _).trans (query_left x0 x1 d _))
  · exact congrArg₂ (· * ·) (keys_right _ _ k d) ((hq _).trans (query_right x0 x1 d _))

/-- The masked logit: minus infinity at a key after the query, in query block `b`. -/
def masked (b : ℕ) (p : Fin 1280) (n : ℕ) : EReal := if n ≤ 1280 * b + p.val then logit x0 x1 x2 x3 p n else ⊥

theorem scores_apply (b : ℕ) (hb : b < 13) (c : Fin 5) (j : ℕ) (hj : j ≤ 5 * b + c.val) (k x : Fin 256) :
    scores b (k0_pay614 (F := Ideal) x0 x1) x2 x3 c j (ix2 k x) = masked x0 x1 x2 x3 b (qry c x) (256 * j + k.val) := by
  have hc := c.isLt; have hk := k.isLt; have hx := x.isLt
  rcases Nat.lt_or_ge j (5 * b + c.val) with h | h
  · rw [scores_before _ _ _ _ _ _ h, score_apply]
    unfold masked
    rw [if_pos]
    show 256 * j + k.val ≤ 1280 * b + (256 * c.val + x.val)
    omega
  · obtain rfl : j = 5 * b + c.val := by omega
    rw [scores_at]
    unfold scoreMasked masked
    have hs : Scalar.addi (Scalar.muli (BitVec.ofNat 32 b) 1280#32) (BitVec.ofNat 32 (256 * c.val)) = BitVec.ofNat 32 (256 * (5 * b + c.val)) := by
      show BitVec.ofNat 32 b * BitVec.ofNat 32 1280 + BitVec.ofNat 32 (256 * c.val) = _
      rw [← BitVec.ofNat_mul, ← BitVec.ofNat_add]
      exact congrArg _ (by omega)
    rw [hs]
    have hcond : (cmpi .sle
      (broadcastTo S256x256 (addi (broadcast S256x1 (BitVec.ofNat 32 (256 * (5 * b + c.val)))) (iota .tc S256x1 32 [0] iota_S256x1_d0_w32)) broadcasts_S256x1_S256x256)
      (broadcastTo S256x256
        (addi (broadcast S1x256 (BitVec.ofNat 32 (256 * (5 * b + c.val)))) (iota .tc S1x256 32 [1] iota_S1x256_d1_w32))
        broadcasts_S1x256_S256x256)) (ix2 k x)
        = IntOp.cmpi .sle (BitVec.ofNat 32 (256 * (5 * b + c.val) + k.val)) (BitVec.ofNat 32 (256 * (5 * b + c.val) + x.val)) := by
      have e1 : broadcastTo S256x256 (addi (broadcast S256x1 (BitVec.ofNat 32 (256 * (5 * b + c.val)))) (iota .tc S256x1 32 [0] iota_S256x1_d0_w32)) broadcasts_S256x1_S256x256 (ix2 k x)
          = BitVec.ofNat 32 (256 * (5 * b + c.val) + k.val) := by
        refine (broadcastTo_apply _ _ _ (ix2 k 0) fun a => match a with | ⟨0, _⟩ => rfl | ⟨1, _⟩ => rfl).trans ?_
        rw [BitVec.ofNat_add]
        show _ + BitVec.ofNat 32 (0 * 256 + k.val) = _
        rw [Nat.zero_mul, Nat.zero_add]; rfl
      have e2 : broadcastTo S256x256 (addi (broadcast S1x256 (BitVec.ofNat 32 (256 * (5 * b + c.val)))) (iota .tc S1x256 32 [1] iota_S1x256_d1_w32)) broadcasts_S1x256_S256x256 (ix2 k x)
          = BitVec.ofNat 32 (256 * (5 * b + c.val) + x.val) := by
        refine (broadcastTo_apply _ _ _ (ix2 0 x) fun a => match a with | ⟨0, _⟩ => rfl | ⟨1, _⟩ => rfl).trans ?_
        rw [BitVec.ofNat_add]
        show _ + BitVec.ofNat 32 (0 * 256 + x.val) = _
        rw [Nat.zero_mul, Nat.zero_add]; rfl
      exact congrArg₂ (IntOp.cmpi .sle) e1 e2
    show (if _ = 1#1 then _ else _) = _
    rw [hcond]
    have hiff : IntOp.cmpi .sle (BitVec.ofNat 32 (256 * (5 * b + c.val) + k.val)) (BitVec.ofNat 32 (256 * (5 * b + c.val) + x.val)) = 1#1
        ↔ 256 * (5 * b + c.val) + k.val ≤ 256 * (5 * b + c.val) + x.val :=
      WordCmp.cmpi_sle_ofNat_eq_one_iff (by show _ < 2 ^ 31; omega) (by show _ < 2 ^ 31; omega)
    by_cases hle : 256 * (5 * b + c.val) + k.val ≤ 256 * (5 * b + c.val) + x.val
    · rw [if_pos (hiff.2 hle), score_apply, if_pos]
      show 256 * (5 * b + c.val) + k.val ≤ 1280 * b + (256 * c.val + x.val)
      omega
    · rw [if_neg (fun e => hle (hiff.1 e)), if_neg]
      · rfl
      · show ¬(256 * (5 * b + c.val) + k.val ≤ 1280 * b + (256 * c.val + x.val))
        omega
end

end Cert.Proof.FoxScore

end
-- ==== Proof.FoxSweep.lean ====
/- What the running maximum and the running accumulator hold, column block by column block, after a list of units: each column
   holds its own units' updates in order, whatever the other columns did in between. -/
module

public import proofs.«01_k».proof.Proof.FoxUnit
public import Idealize.ShloMosaic.Lib.HeldBySlice
public import Idealize.ShloMosaic.Lib.WritesUnit

@[expose] public section

noncomputable section

namespace Cert.Proof.FoxSweep

open Cert.FoxIdeal Cert.FoxIdeal.Gen Idealize.ShloMosaic Idealize.ShloMosaic.TcCoe Idealize.SL.Sem Cert.Proof.FoxUnit

variable {F : FTy → Type} [FloatOps F] [Named F]

/-- What column `c` carries after `n` units, from `start`: unit `j` applies `step j` to column `col j`. -/
def carry {α : Type} (col : ℕ → Fin 5) (step : ℕ → α → α) (start : α) (c : Fin 5) (n : ℕ) : α :=
  Nat.rec start (fun j a => if col j = c then step j a else a) n

theorem carry_succ {α : Type} (col : ℕ → Fin 5) (step : ℕ → α → α) (start : α) (c : Fin 5) (n : ℕ) :
    carry col step start c (n + 1) = if col n = c then step n (carry col step start c n) else carry col step start c n := rfl

theorem carry_start {α : Type} (col : ℕ → Fin 5) (step : ℕ → α → α) (start : α) (c : Fin 5) (n : ℕ) (h : ∀ j < n, col j ≠ c) :
    carry col step start c n = start := by
  induction n with
  | zero => rfl
  | succ n ih => rw [carry_succ, if_neg (h n (by omega)), ih fun j hj => h j (by omega)]

/-- A read of column `c` after a store to column `c'`: the stored value, or what was there. -/
theorem read9_cons {sp : Space} {κ' : Kind} (v : View sig κ' sp S1x1280 .f32) (f : v.ty.Contents (Elt F))
    (c c' : Fin 5) (w : FVec F S1x256 .f32) (L : List (View.Piece (Elt F) S1x1280 .f32)) :
    View.readAt (Elt F) v (rect9 c).toLoadRect (v.writes (Elt F) f ((⟨rect9 c', w⟩ : View.Piece (Elt F) S1x1280 .f32) :: L))
      = if c' = c then w else View.readAt (Elt F) v (rect9 c).toLoadRect (v.writes (Elt F) f L) := by
  split
  · next h => subst h; exact funext fun x => View.read_writes_cons_emb v f (rect9 c') w L x
  · next h =>
    refine funext fun x => ?_
    refine View.read_writes_cons_unit_of_not_mem v f (inb9 c') w L ((rect9 c).emb x) rfl 1 ?_
    have h0 : (((rect9 c).emb x) 1).val = 256 * c.val + 1 * (x 1).val := rfl
    have h1 : (x 1).val < 256 := (x 1).isLt
    have h2 : c'.val ≠ c.val := fun e => h (Fin.ext e)
    have h3 : S1x256.size 1 = 256 := rfl
    have h4 : (![0, 256 * c'.val] : Fin 2 → ℕ) 1 = 256 * c'.val := rfl
    rw [h0]
    show _ < (![0, 256 * c'.val] : Fin 2 → ℕ) 1 ∨ (![0, 256 * c'.val] : Fin 2 → ℕ) 1 + S1x256.size 1 ≤ _
    rw [h4, h3]; omega

theorem read10_cons {sp : Space} {κ' : Kind} (v : View sig κ' sp S144x1280 .f32) (f : v.ty.Contents (Elt F))
    (c c' : Fin 5) (w : FVec F S144x256 .f32) (L : List (View.Piece (Elt F) S144x1280 .f32)) :
    View.readAt (Elt F) v (rect10 c).toLoadRect (v.writes (Elt F) f ((⟨rect10 c', w⟩ : View.Piece (Elt F) S144x1280 .f32) :: L))
      = if c' = c then w else View.readAt (Elt F) v (rect10 c).toLoadRect (v.writes (Elt F) f L) := by
  split
  · next h => subst h; exact funext fun x => View.read_writes_cons_emb v f (rect10 c') w L x
  · next h =>
    refine funext fun x => ?_
    refine View.read_writes_cons_unit_of_not_mem v f (inb10 c') w L ((rect10 c).emb x) rfl 1 ?_
    have h0 : (((rect10 c).emb x) 1).val = 256 * c.val + 1 * (x 1).val := rfl
    have h1 : (x 1).val < 256 := (x 1).isLt
    have h2 : c'.val ≠ c.val := fun e => h (Fin.ext e)
    have h3 : S144x256.size 1 = 256 := rfl
    have h4 : (![0, 256 * c'.val] : Fin 2 → ℕ) 1 = 256 * c'.val := rfl
    rw [h0]
    show _ < (![0, 256 * c'.val] : Fin 2 → ℕ) 1 ∨ (![0, 256 * c'.val] : Fin 2 → ℕ) 1 + S144x256.size 1 ≤ _
    rw [h4, h3]; omega

/-- One unit on the pair a column carries. -/
def unit (s : FVec F S256x256 .f32) (v : Vec F S1x128x256 .bf16) (p : Vec F S1x256 .f32 × Vec F S144x256 .f32) :
    Vec F S1x256 .f32 × Vec F S144x256 .f32 :=
  (store9 s p.1, store10 s p.1 v p.2)

section
variable {sp : Space} {κ' : Kind} (v9 : View sig κ' sp S1x1280 .f32) (v10 : View sig κ' sp S144x1280 .f32)
  (f9 : v9.ty.Contents (Elt F)) (f10 : v10.ty.Contents (Elt F)) (col : ℕ → Fin 5) (sc : ℕ → FVec F S256x256 .f32)
  (vs : ℕ → Vec F S1x128x256 .bf16) (rd9 : ℕ → List (View.Piece (Elt F) S1x1280 .f32) → Vec F S1x256 .f32)
  (rd10 : ℕ → List (View.Piece (Elt F) S144x1280 .f32) → Vec F S144x256 .f32)
  (b9 : List (View.Piece (Elt F) S1x1280 .f32)) (b10 : List (View.Piece (Elt F) S144x1280 .f32))

/-- The pair at column `c` when the buffers hold `g9` and `g10`. -/
def at' (g9 : v9.ty.Contents (Elt F)) (g10 : v10.ty.Contents (Elt F)) (c : Fin 5) : Vec F S1x256 .f32 × Vec F S144x256 .f32 :=
  (View.readAt (Elt F) v9 (rect9 c).toLoadRect g9, View.readAt (Elt F) v10 (rect10 c).toLoadRect g10)

/-- The units' reads see what the stores before them left. -/
theorem at_units (n : ℕ)
    (h9 : ∀ j < n, rd9 j (list9 col sc rd9 b9 j)
      = View.readAt (Elt F) v9 (rect9 (col j)).toLoadRect (v9.writes (Elt F) f9 (list9 col sc rd9 b9 j)))
    (h10 : ∀ j < n, rd10 j (list10 col sc vs (fun j => rd9 j (list9 col sc rd9 b9 j)) rd10 b10 j)
      = View.readAt (Elt F) v10 (rect10 (col j)).toLoadRect
        (v10.writes (Elt F) f10 (list10 col sc vs (fun j => rd9 j (list9 col sc rd9 b9 j)) rd10 b10 j))) (c : Fin 5) :
    at' v9 v10 (v9.writes (Elt F) f9 (list9 col sc rd9 b9 n))
        (v10.writes (Elt F) f10 (list10 col sc vs (fun j => rd9 j (list9 col sc rd9 b9 j)) rd10 b10 n)) c
      = carry col (fun j => unit (sc j) (vs j)) (at' v9 v10 (v9.writes (Elt F) f9 b9) (v10.writes (Elt F) f10 b10) c) c n := by
  induction n with
  | zero => rfl
  | succ n ih =>
    have ih' := ih (fun j hj => h9 j (by omega)) (fun j hj => h10 j (by omega))
    rw [carry_succ, ← ih']
    have e9 := read9_cons v9 f9 c (col n) (store9 (sc n) (rd9 n (list9 col sc rd9 b9 n))) (list9 col sc rd9 b9 n)
    have e10 := read10_cons v10 f10 c (col n) (store10 (sc n) (rd9 n (list9 col sc rd9 b9 n)) (vs n)
      (rd10 n (list10 col sc vs (fun j => rd9 j (list9 col sc rd9 b9 j)) rd10 b10 n)))
      (list10 col sc vs (fun j => rd9 j (list9 col sc rd9 b9 j)) rd10 b10 n)
    by_cases hc : col n = c
    · rw [if_pos hc] at e9 e10 ⊢
      refine (Prod.ext e9 e10 : _ = (_, _)).trans ?_
      subst hc
      rw [h9 n (by omega), h10 n (by omega)]
      rfl
    · rw [if_neg hc] at e9 e10 ⊢
      exact Prod.ext e9 e10

theorem mem9 (n j : ℕ) (h : j < n) : ∃ w, (⟨rect9 (col j), w⟩ : View.Piece (Elt F) S1x1280 .f32) ∈ list9 col sc rd9 b9 n := by
  induction n with
  | zero => omega
  | succ n ih =>
    by_cases e : j = n
    · subst e; exact ⟨_, List.mem_cons_self⟩
    · obtain ⟨w, hw⟩ := ih (by omega); exact ⟨w, List.mem_cons_of_mem _ hw⟩

theorem mem10 (mx : ℕ → Vec F S1x256 .f32) (n j : ℕ) (h : j < n) :
    ∃ w, (⟨rect10 (col j), w⟩ : View.Piece (Elt F) S144x1280 .f32) ∈ list10 col sc vs mx rd10 b10 n := by
  induction n with
  | zero => omega
  | succ n ih =>
    by_cases e : j = n
    · subst e; exact ⟨_, List.mem_cons_self⟩
    · obtain ⟨w, hw⟩ := ih (by omega); exact ⟨w, List.mem_cons_of_mem _ hw⟩

end

/-- Reads of a sweep that finds its first five columns as they were and every later one as stored. -/
theorem read_first9 {sp : Space} {κ' : Kind} (v9 : View sig κ' sp S1x1280 .f32) (f9 : v9.ty.Contents (Elt F))
    (sc : ℕ → FVec F S256x256 .f32) (rd9 : ℕ → List (View.Piece (Elt F) S1x1280 .f32) → Vec F S1x256 .f32)
    (hrd : ∀ j L, rd9 j L = bif Nat.blt j 5 then View.readAt (Elt F) v9 (rect9 (colW j)).toLoadRect f9
      else v9.readCov L (rect9 (colW j)).toLoadRect) (n : ℕ) :
    rd9 n (list9 colW sc rd9 [] n)
      = View.readAt (Elt F) v9 (rect9 (colW n)).toLoadRect (v9.writes (Elt F) f9 (list9 colW sc rd9 [] n)) := by
  rw [hrd]
  by_cases h : n < 5
  · rw [show Nat.blt n 5 = true from by simpa [Nat.blt_eq] using h]
    have key : ∀ m ≤ n, View.readAt (Elt F) v9 (rect9 (colW n)).toLoadRect (v9.writes (Elt F) f9 (list9 colW sc rd9 [] m))
        = View.readAt (Elt F) v9 (rect9 (colW n)).toLoadRect f9 := by
      intro m hm
      induction m with
      | zero => rfl
      | succ m ih =>
        refine (read9_cons v9 f9 (colW n) (colW m) (store9 (sc m) (rd9 m (list9 colW sc rd9 [] m))) (list9 colW sc rd9 [] m)).trans ?_
        rw [if_neg, ih (by omega)]
        intro e
        have := congrArg Fin.val e
        simp only [colW] at this
        omega
    exact (key n le_rfl).symm
  · rw [show Nat.blt n 5 = false from Bool.eq_false_iff.2 fun e => h (Nat.blt_eq.mp e)]
    refine View.readAt_writes_eq_of_cover v9 _ _ _ _ fun x => ?_
    obtain ⟨w, hw⟩ := mem9 colW sc rd9 [] n (n - 5) (by omega)
    refine ⟨_, hw, ?_⟩
    have hc : colW (n - 5) = colW n := Fin.ext (by simp only [colW]; omega)
    rw [hc]
    exact (Rect.map_emb_univ (rect9 (colW n))) ▸ (Finset.mem_map_of_mem (rect9 (colW n)).emb (Finset.mem_univ x))

theorem read_first10 {sp : Space} {κ' : Kind} (v10 : View sig κ' sp S144x1280 .f32) (f10 : v10.ty.Contents (Elt F))
    (sc : ℕ → FVec F S256x256 .f32) (vs : ℕ → Vec F S1x128x256 .bf16) (mx : ℕ → Vec F S1x256 .f32)
    (rd10 : ℕ → List (View.Piece (Elt F) S144x1280 .f32) → Vec F S144x256 .f32)
    (hrd : ∀ j L, rd10 j L = bif Nat.blt j 5 then View.readAt (Elt F) v10 (rect10 (colW j)).toLoadRect f10
      else v10.readCov L (rect10 (colW j)).toLoadRect) (n : ℕ) :
    rd10 n (list10 colW sc vs mx rd10 [] n)
      = View.readAt (Elt F) v10 (rect10 (colW n)).toLoadRect (v10.writes (Elt F) f10 (list10 colW sc vs mx rd10 [] n)) := by
  rw [hrd]
  by_cases h : n < 5
  · rw [show Nat.blt n 5 = true from by simpa [Nat.blt_eq] using h]
    have key : ∀ m ≤ n, View.readAt (Elt F) v10 (rect10 (colW n)).toLoadRect (v10.writes (Elt F) f10 (list10 colW sc vs mx rd10 [] m))
        = View.readAt (Elt F) v10 (rect10 (colW n)).toLoadRect f10 := by
      intro m hm
      induction m with
      | zero => rfl
      | succ m ih =>
        refine (read10_cons v10 f10 (colW n) (colW m) (store10 (sc m) (mx m) (vs m) (rd10 m (list10 colW sc vs mx rd10 [] m)))
          (list10 colW sc vs mx rd10 [] m)).trans ?_
        rw [if_neg, ih (by omega)]
        intro e
        have := congrArg Fin.val e
        simp only [colW] at this
        omega
    exact (key n le_rfl).symm
  · rw [show Nat.blt n 5 = false from Bool.eq_false_iff.2 fun e => h (Nat.blt_eq.mp e)]
    refine View.readAt_writes_eq_of_cover v10 _ _ _ _ fun x => ?_
    obtain ⟨w, hw⟩ := mem10 colW sc vs rd10 [] mx n (n - 5) (by omega)
    refine ⟨_, hw, ?_⟩
    have hc : colW (n - 5) = colW n := Fin.ext (by simp only [colW]; omega)
    rw [hc]
    exact (Rect.map_emb_univ (rect10 (colW n))) ▸ (Finset.mem_map_of_mem (rect10 (colW n)).emb (Finset.mem_univ x))

/-- A column's own updates over `n` key blocks, from a pair. -/
def sweep (S : ℕ → FVec F S256x256 .f32) (V : ℕ → Vec F S1x128x256 .bf16) (p : Vec F S1x256 .f32 × Vec F S144x256 .f32) (n : ℕ) :
    Vec F S1x256 .f32 × Vec F S144x256 .f32 :=
  Nat.rec p (fun d q => unit (S d) (V d) q) n

theorem sweep_succ (S : ℕ → FVec F S256x256 .f32) (V : ℕ → Vec F S1x128x256 .bf16) (p : Vec F S1x256 .f32 × Vec F S144x256 .f32)
    (n : ℕ) : sweep S V p (n + 1) = unit (S n) (V n) (sweep S V p n) := rfl

/-- Of `5·n` units over whole key blocks, column `c` sees units `5·d + c`. -/
theorem carry_whole (sc : ℕ → FVec F S256x256 .f32) (vs : ℕ → Vec F S1x128x256 .bf16)
    (p : Vec F S1x256 .f32 × Vec F S144x256 .f32) (c : Fin 5) (n : ℕ) :
    carry colW (fun j => unit (sc j) (vs j)) p c (5 * n) = sweep (fun d => sc (5 * d + c.val)) (fun d => vs (5 * d + c.val)) p n := by
  induction n with
  | zero => rfl
  | succ n ih =>
    rw [sweep_succ, ← ih]
    have e : ∀ r : Fin 5, colW (5 * n + r.val) = r := fun r => Fin.ext (by have := r.isLt; simp only [colW]; omega)
    show carry colW (fun j => unit (sc j) (vs j)) p c (5 * n + 0 + 1 + 1 + 1 + 1 + 1) = _
    have e0 := e 0; have e1 := e 1; have e2 := e 2; have e3 := e 3; have e4 := e 4
    rw [carry_succ, carry_succ, carry_succ, carry_succ, carry_succ]
    have h0 : colW (5 * n) = 0 := e0
    have h1 : colW (5 * n + 0 + 1) = 1 := e1
    have h2 : colW (5 * n + 0 + 1 + 1) = 2 := e2
    have h3 : colW (5 * n + 0 + 1 + 1 + 1) = 3 := e3
    have h4 : colW (5 * n + 0 + 1 + 1 + 1 + 1) = 4 := e4
    rw [h4, h3, h2, h1, h0]
    fin_cases c <;> rfl

/-- Of the fifteen units of the diagonal sweep, column `c` sees key blocks `0` to `c`. -/
theorem carry_diag (S : Fin 5 → Fin 5 → FVec F S256x256 .f32) (V : Fin 5 → Vec F S1x128x256 .bf16)
    (p : Vec F S1x256 .f32 × Vec F S144x256 .f32) (c : Fin 5) :
    carry colD (fun j => unit (S (rowD j) (colD j)) (V (rowD j))) p c 15
      = sweep (fun d => S (Fin.ofNat 5 d) c) (fun d => V (Fin.ofNat 5 d)) p (c.val + 1) := by
  fin_cases c <;> rfl

end Cert.Proof.FoxSweep
-- ==== Proof.FoxLoop.lean ====
/- What the accumulator holds when a grid point has made all its stores: each column's own sweep over its key blocks, from the
   first one to the diagonal's. -/
module

public import proofs.«01_k».proof.Proof.FoxBlocks
public import proofs.«01_k».proof.Proof.FoxSweep
public import proofs.«01_k».proof.Proof.Gen.FoxIdeal.Loops

@[expose] public section

noncomputable section

namespace Cert.Proof.FoxLoop

open Cert.FoxIdeal Cert.FoxIdeal.Gen Idealize.ShloMosaic Idealize.ShloMosaic.TcCoe Idealize.ShloMosaic.ValueIdx Idealize.SL.Sem Cert.Proof.FoxUnit

variable {F : FTy → Type} [FloatOps F] [Named F]
open Cert.Proof.FoxTail Cert.Proof.FoxTrip Cert.Proof.FoxBlocks Cert.Proof.FoxSweep

theorem sweep_add (S : ℕ → FVec F S256x256 .f32) (V : ℕ → Vec F S1x128x256 .bf16) (p : Vec F S1x256 .f32 × Vec F S144x256 .f32)
    (a b : ℕ) : sweep S V p (a + b) = sweep (fun d => S (a + d)) (fun d => V (a + d)) (sweep S V p a) b := by
  induction b with
  | zero => rfl
  | succ b ih => rw [← Nat.add_assoc, sweep_succ, ih, sweep_succ]

theorem sweep_zero (S : ℕ → FVec F S256x256 .f32) (V : ℕ → Vec F S1x128x256 .bf16) (p : Vec F S1x256 .f32 × Vec F S144x256 .f32) :
    sweep S V p 0 = p := rfl

theorem sweep_congr (S S' : ℕ → FVec F S256x256 .f32) (V V' : ℕ → Vec F S1x128x256 .bf16)
    (p : Vec F S1x256 .f32 × Vec F S144x256 .f32) (n : ℕ) (hS : ∀ j < n, S j = S' j) (hV : ∀ j < n, V j = V' j) :
    sweep S V p n = sweep S' V' p n := by
  induction n with
  | zero => rfl
  | succ n ih =>
    rw [sweep_succ, sweep_succ, ih (fun j h => hS j (by omega)) (fun j h => hV j (by omega)), hS n (by omega), hV n (by omega)]

/-- What a column starts from. -/
def start (arg9 : Memref sig .tc .vmem S1x1280 .f32) (arg10 : Memref sig .tc .vmem S144x1280 .f32) (c : Fin 5) :
    Vec F S1x256 .f32 × Vec F S144x256 .f32 :=
  at' arg9.view arg10.view (arg9.view.writes (Elt F) arg9.view.junk fill9) (arg10.view.writes (Elt F) arg10.view.junk fill10) c

section
variable (cd : Dev nD) (i : grid0.Coords) (arg2 : Memref sig .tc .vmem S1x128x1280 .bf16) (harg2 : arg2.IsWhole) (arg3 : Memref sig .tc .vmem S1x128x1280 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x128x16640 .bf16) (harg6 : arg6.IsWhole) (arg7 : Memref sig .tc .vmem S1x1x128 .f32) (harg7 : arg7.IsWhole) (arg8 : Memref sig .tc .vmem S1280x128 .bf16) (harg8 : arg8.IsWhole) (arg9 : Memref sig .tc .vmem S1x1280 .f32) (harg9 : arg9.IsWhole) (arg10 : Memref sig .tc .vmem S144x1280 .f32) (harg10 : arg10.IsWhole)
  (x0 : Vec F S1x128x1280 .bf16) (x1 : Vec F S1x128x1280 .bf16) (x2 : Vec F S1x16640x128 .bf16) (x3 : Vec F S1x16640x128 .bf16) (x4 : Vec F S1x128x16640 .bf16)

/-- One trip advances every column by ten key blocks. -/
theorem trip (q : FVec F S256x1280 .bf16) (k : Fin (k0_t1_loop i).trips) (f9 : BufTy.Contents (Elt F) arg9.view.ty)
    (f10 : BufTy.Contents (Elt F) arg10.view.ty) (c : Fin 5) :
    at' arg9.view arg10.view
        (arg9.view.writes (Elt F) f9 (list9T i arg4 arg5 arg9 q (harg4.unread x2) (harg5.unread x3) k f9 50))
        (arg10.view.writes (Elt F) f10 (list10T i arg4 arg5 arg6 arg9 arg10 q (harg4.unread x2) (harg5.unread x3) (harg6.unread x4) k f9 f10 50)) c
      = sweep (fun d => score q c (rows x2 (10 * k.val + d)) (rows x3 (10 * k.val + d))) (fun d => cols x4 (10 * k.val + d))
          (at' arg9.view arg10.view f9 f10 c) 10 := by
  have hk : k.val < 6 := Nat.lt_of_lt_of_le k.isLt (k0_t1_abs i).2.1
  refine (at_units arg9.view arg10.view f9 f10 colW (scoreT i arg4 arg5 q (harg4.unread x2) (harg5.unread x3) k) (valsT i arg6 (harg6.unread x4) k)
    (rd9T arg9 f9) (rd10T arg10 f10) [] [] 50 (fun j _ => read_first9 arg9.view f9 _ _ (fun _ _ => rfl) j)
    (fun j _ => read_first10 arg10.view f10 _ _ _ _ (fun _ _ => rfl) j) c).trans ?_
  refine (carry_whole _ _ _ c 10).trans ?_
  refine sweep_congr _ _ _ _ _ _ (fun d hd => ?_) (fun d hd => ?_)
  · have e : (rowT (5 * d + c.val)) = (⟨d, hd⟩ : Fin 10) := Fin.ext (by have := c.isLt; simp only [rowT]; omega)
    have e' : colW (5 * d + c.val) = c := Fin.ext (by have := c.isLt; simp only [colW]; omega)
    unfold scoreT keysT biasT
    rw [read_rows arg4 harg4 x2 _ _ (10 * k.val + (rowT (5 * d + c.val)).val) (by rw [e]; show 10 * k.val + d < 65; omega) (off1 i k _),
      read_rows arg5 harg5 x3 _ _ (10 * k.val + (rowT (5 * d + c.val)).val) (by rw [e]; show 10 * k.val + d < 65; omega) (off1 i k _), e, e']
  · have e : (rowT (5 * d + c.val)) = (⟨d, hd⟩ : Fin 10) := Fin.ext (by have := c.isLt; simp only [rowT]; omega)
    unfold valsT
    rw [read_cols arg6 harg6 x4 _ _ (10 * k.val + (rowT (5 * d + c.val)).val) (by rw [e]; show 10 * k.val + d < 65; omega) (off2 i k _), e]

/-- After `n` trips, from any contents. -/
theorem loop (q : FVec F S256x1280 .bf16) (w v31 w' : BitVec 32) (G9 : BufTy.Contents (Elt F) arg9.view.ty)
    (G10 : BufTy.Contents (Elt F) arg10.view.ty) (n : ℕ) (hn : n ≤ (k0_t1_loop i).trips) (c : Fin 5) :
    at' arg9.view arg10.view
        (arg9.view.writes (Elt F) G9 (pb_k0_t1 (F := F) Variants.none cd none i arg2 harg2 arg3 harg3 arg4 harg4 arg5 harg5 arg6 harg6 arg7 harg7 arg8 harg8 arg9 harg9 arg10 harg10 w q k0_pay617 0#32 v31 w' (harg4.unread x2) (harg5.unread x3) (harg6.unread x4) G9 G10 n).1)
        (arg10.view.writes (Elt F) G10 (pb_k0_t1 (F := F) Variants.none cd none i arg2 harg2 arg3 harg3 arg4 harg4 arg5 harg5 arg6 harg6 arg7 harg7 arg8 harg8 arg9 harg9 arg10 harg10 w q k0_pay617 0#32 v31 w' (harg4.unread x2) (harg5.unread x3) (harg6.unread x4) G9 G10 n).2) c
      = sweep (fun j => score q c (rows x2 j) (rows x3 j)) (cols x4) (at' arg9.view arg10.view G9 G10 c) (10 * n) := by
  induction n with
  | zero => rw [pb_k0_t1.eq_1, Nat.mul_zero, sweep_zero, View.writes_nil, View.writes_nil]
  | succ n ih =>
    rw [Nat.mul_succ, sweep_add, ← ih (by omega)]
    have h := pb_k0_t1_succ Variants.none cd none i arg2 harg2 arg3 harg3 arg4 harg4 arg5 harg5 arg6 harg6 arg7 harg7 arg8 harg8 arg9 harg9 arg10 harg10 w q k0_pay617 0#32 v31 w' (harg4.unread x2) (harg5.unread x3) (harg6.unread x4) G9 G10
      (⟨n, hn⟩ : Fin (k0_t1_loop i).trips)
    have h1 := congrArg Prod.fst h
    have h2 := congrArg Prod.snd h
    refine (congrArg₂ (fun a b => at' arg9.view arg10.view (arg9.view.writes (Elt F) G9 a) (arg10.view.writes (Elt F) G10 b) c) h1 h2).trans ?_
    generalize pb_k0_t1 Variants.none cd none i arg2 harg2 arg3 harg3 arg4 harg4 arg5 harg5 arg6 harg6 arg7 harg7 arg8 harg8 arg9 harg9 arg10 harg10 w q k0_pay617 0#32 v31 w' (harg4.unread x2) (harg5.unread x3) (harg6.unread x4) G9 G10 (Fin.val (⟨n, hn⟩ : Fin (k0_t1_loop i).trips)) = P
    have e9 := trip_eq9 Variants.none cd none i arg2 harg2 arg3 harg3 arg4 harg4 arg5 harg5 arg6 harg6 arg7 harg7 arg8 harg8 arg9 harg9 arg10 harg10 w q 0#32 v31 w' (harg4.unread x2) (harg5.unread x3) (harg6.unread x4) ⟨n, hn⟩ (arg9.view.writes (Elt F) G9 P.1) (arg10.view.writes (Elt F) G10 P.2)
    have e10 := trip_eq10 Variants.none cd none i arg2 harg2 arg3 harg3 arg4 harg4 arg5 harg5 arg6 harg6 arg7 harg7 arg8 harg8 arg9 harg9 arg10 harg10 w q 0#32 v31 w' (harg4.unread x2) (harg5.unread x3) (harg6.unread x4) ⟨n, hn⟩ (arg9.view.writes (Elt F) G9 P.1) (arg10.view.writes (Elt F) G10 P.2)
    have t := trip i arg4 harg4 arg5 harg5 arg6 harg6 arg9 arg10 x2 x3 x4 q ⟨n, hn⟩ (arg9.view.writes (Elt F) G9 P.1) (arg10.view.writes (Elt F) G10 P.2) c
    refine Eq.trans ?_ t
    refine congrArg₂ (fun a b => at' arg9.view arg10.view a b c) ?_ ?_
    · exact (congrArg (fun L => arg9.view.writes (Elt F) G9 (L ++ P.1)) e9).trans (View.writes_append _ _ _ _)
    · exact (congrArg (fun L => arg10.view.writes (Elt F) G10 (L ++ P.2)) e10).trans (View.writes_append _ _ _ _)

/-- After the main loop: every key block before the last even query block. -/
theorem after_loop (c : Fin 5) :
    at' arg9.view arg10.view (arg9.view.writes (Elt F) arg9.view.junk (base9 cd i arg2 harg2 arg3 harg3 arg4 harg4 arg5 harg5 arg6 harg6 arg7 harg7 arg8 harg8 arg9 harg9 arg10 harg10 x0 x1 x2 x3 x4))
        (arg10.view.writes (Elt F) arg10.view.junk (base10 cd i arg2 harg2 arg3 harg3 arg4 harg4 arg5 harg5 arg6 harg6 arg7 harg7 arg8 harg8 arg9 harg9 arg10 harg10 x0 x1 x2 x3 x4)) c
      = sweep (scores (i 1).val (query arg2 harg2 arg3 harg3 x0 x1) x2 x3 c) (cols x4) (start arg9 arg10 c) (10 * ((i 1).val / 2)) := by
  rw [base9_eq, base10_eq]
  unfold loop9 loop10
  rw [View.writes_append, View.writes_append]
  unfold loop1
  refine (loop cd i arg2 harg2 arg3 harg3 arg4 harg4 arg5 harg5 arg6 harg6 arg7 harg7 arg8 harg8 arg9 harg9 arg10 harg10 x2 x3 x4 _ _ _ _ _ _ _ le_rfl c).trans ?_
  have e : Scf.trips (k0_t1_loop i).lb (k0_t1_loop i).ub (k0_t1_loop i).st = (i 1).val / 2 := trips1 i
  rw [trips1]
  exact sweep_congr _ _ _ _ _ _ (fun j hj => (scores_before _ _ _ _ _ _ (by omega)).symm) fun _ _ => rfl

/-- The diagonal sweep, over whatever came before. -/
theorem diag (q : FVec F S256x1280 .bf16) (b9 : List (View.Piece (Elt F) S1x1280 .f32)) (b10 : List (View.Piece (Elt F) S144x1280 .f32))
    (c : Fin 5)
    (hb : at' arg9.view arg10.view (arg9.view.writes (Elt F) arg9.view.junk b9) (arg10.view.writes (Elt F) arg10.view.junk b10) c
      = sweep (scores (i 1).val q x2 x3 c) (cols x4) (start arg9 arg10 c) (5 * (i 1).val)) :
    at' arg9.view arg10.view
        (arg9.view.writes (Elt F) arg9.view.junk (list9D i arg4 arg5 arg9 q (harg4.unread x2) (harg5.unread x3) b9 15))
        (arg10.view.writes (Elt F) arg10.view.junk
          (list10D i arg4 arg5 arg6 arg9 arg10 q (harg4.unread x2) (harg5.unread x3) (harg6.unread x4) b9 b10 15)) c
      = sweep (scores (i 1).val q x2 x3 c) (cols x4) (start arg9 arg10 c) (5 * (i 1).val + (c.val + 1)) := by
  have hi : (i 1).val < 13 := (i 1).isLt
  have hc := c.isLt
  rw [sweep_add, ← hb]
  refine (at_units arg9.view arg10.view arg9.view.junk arg10.view.junk colD
    (fun j => scoreD i arg4 arg5 q (harg4.unread x2) (harg5.unread x3) (rowD j) (colD j)) (fun j => valsD i arg6 (harg6.unread x4) (rowD j))
    (rd9D arg9) (rd10D arg10) b9 b10 15 (fun _ _ => rfl) (fun _ _ => rfl) c).trans ?_
  refine (carry_diag (scoreD i arg4 arg5 q (harg4.unread x2) (harg5.unread x3)) (valsD i arg6 (harg6.unread x4)) _ c).trans ?_
  refine sweep_congr _ _ _ _ _ _ (fun d hd => ?_) (fun d hd => ?_)
  · have e : (Fin.ofNat 5 d) = (⟨d, by omega⟩ : Fin 5) := Fin.ext (Nat.mod_eq_of_lt (by omega))
    rw [e]
    unfold scoreD keysD biasD
    rw [read_rows arg4 harg4 x2 _ _ (5 * (i 1).val + d) (by omega) (off7 i ⟨d, by omega⟩),
      read_rows arg5 harg5 x3 _ _ (5 * (i 1).val + d) (by omega) (off7 i ⟨d, by omega⟩)]
    by_cases hdc : d = c.val
    · subst hdc
      rw [show Nat.beq c.val c.val = true from Nat.beq_refl _]
      exact (scores_at _ _ _ _ _).symm
    · rw [show Nat.beq d c.val = false from Bool.eq_false_iff.2 fun e => hdc (Nat.eq_of_beq_eq_true e)]
      exact (scores_before _ _ _ _ _ _ (by omega)).symm
  · have e : (Fin.ofNat 5 d) = (⟨d, by omega⟩ : Fin 5) := Fin.ext (Nat.mod_eq_of_lt (by omega))
    rw [e]
    exact read_cols arg6 harg6 x4 _ _ (5 * (i 1).val + d) (by omega) (off8 i ⟨d, by omega⟩)

/-- The odd row's extra five key blocks, over the main loop. -/
theorem rest (hc0 : k0_cond1 i = 1#1) (q : FVec F S256x1280 .bf16) (b9 : List (View.Piece (Elt F) S1x1280 .f32)) (b10 : List (View.Piece (Elt F) S144x1280 .f32))
    (c : Fin 5)
    (hb : at' arg9.view arg10.view (arg9.view.writes (Elt F) arg9.view.junk b9) (arg10.view.writes (Elt F) arg10.view.junk b10) c
      = sweep (scores (i 1).val q x2 x3 c) (cols x4) (start arg9 arg10 c) (5 * ((i 1).val - 1))) :
    at' arg9.view arg10.view
        (arg9.view.writes (Elt F) arg9.view.junk (list9R i arg4 arg5 arg9 q (harg4.unread x2) (harg5.unread x3) b9 hc0 25))
        (arg10.view.writes (Elt F) arg10.view.junk
          (list10R i arg4 arg5 arg6 arg9 arg10 q (harg4.unread x2) (harg5.unread x3) (harg6.unread x4) b9 b10 hc0 25)) c
      = sweep (scores (i 1).val q x2 x3 c) (cols x4) (start arg9 arg10 c) (5 * ((i 1).val - 1) + 5) := by
  have hi : (i 1).val < 13 := (i 1).isLt
  have ho := odd_of i hc0
  have hc := c.isLt
  rw [sweep_add, ← hb]
  refine (at_units arg9.view arg10.view arg9.view.junk arg10.view.junk colW
    (fun j => scoreR i arg4 arg5 q (harg4.unread x2) (harg5.unread x3) hc0 (rowR j) (colW j)) (fun j => valsR i arg6 (harg6.unread x4) hc0 (rowR j))
    (rd9R arg9) (rd10R arg10) b9 b10 25 (fun _ _ => rfl) (fun _ _ => rfl) c).trans ?_
  refine (carry_whole _ _ _ c 5).trans ?_
  refine sweep_congr _ _ _ _ _ _ (fun d hd => ?_) (fun d hd => ?_)
  · have e : (rowR (5 * d + c.val)) = (⟨d, hd⟩ : Fin 5) := Fin.ext (by simp only [rowR]; omega)
    have e' : colW (5 * d + c.val) = c := Fin.ext (by simp only [colW]; omega)
    rw [e, e']
    unfold scoreR keysR biasR
    rw [read_rows arg4 harg4 x2 _ _ (5 * ((i 1).val - 1) + d) (by omega) (off5 i hc0 ⟨d, by omega⟩),
      read_rows arg5 harg5 x3 _ _ (5 * ((i 1).val - 1) + d) (by omega) (off5 i hc0 ⟨d, by omega⟩)]
    exact (scores_before _ _ _ _ _ _ (by omega)).symm
  · have e : (rowR (5 * d + c.val)) = (⟨d, hd⟩ : Fin 5) := Fin.ext (by simp only [rowR]; omega)
    rw [e]
    exact read_cols arg6 harg6 x4 _ _ (5 * ((i 1).val - 1) + d) (by omega) (off6 i hc0 ⟨d, by omega⟩)
end

/-- The whole accumulator read at a column's place is that column. -/
theorem whole_at (arg9 : Memref sig .tc .vmem S1x1280 .f32) (arg10 : Memref sig .tc .vmem S144x1280 .f32)
    (L9 : List (View.Piece (Elt F) S1x1280 .f32)) (L : List (View.Piece (Elt F) S144x1280 .f32)) (c : Fin 5) (r : Fin 144) (x : Fin 256) :
    whole10 arg10 L (ix2 r ⟨256 * c.val + x.val, by have := c.isLt; have := x.isLt; omega⟩)
      = (at' arg9.view arg10.view (arg9.view.writes (Elt F) arg9.view.junk L9) (arg10.view.writes (Elt F) arg10.view.junk L) c).2 (ix2 r x) := by
  show arg10.view.read (Elt F) (arg10.view.writes (Elt F) arg10.view.junk L) _ = arg10.view.read (Elt F) (arg10.view.writes (Elt F) arg10.view.junk L) _
  refine congrArg (arg10.view.read (Elt F) (arg10.view.writes (Elt F) arg10.view.junk L)) (funext fun a => Fin.ext ?_)
  match a with
  | ⟨0, _⟩ => rfl
  | ⟨1, _⟩ => show 0 + 1 * (256 * c.val + x.val) = 256 * c.val + 1 * x.val; omega

end Cert.Proof.FoxLoop
-- ==== Proof.FoxState.lean ====
/- What a column carries: after the first `n` keys, the running maximum and the sums below it of those keys' masked logits. -/
module

public import proofs.«01_k».proof.Proof.FoxScore
public import proofs.«01_k».proof.Proof.FoxLoop

@[expose] public section

noncomputable section

namespace Cert.Proof.FoxState

open Cert.FoxIdeal Cert.FoxIdeal.Gen Idealize.ShloMosaic Idealize.ShloMosaic.TcCoe Idealize.SL.Sem Idealize.ShloMosaic.ValueIdx
open Cert.Proof.FoxUnit Cert.Proof.FoxBlocks Cert.Proof.FoxScore Cert.Proof.FoxSweep Cert.Proof.FoxMath
open scoped BigOperators

theorem negInf : Ideal.ofBits .f32 0xFF800000#32 = ⊥ := by
  unfold Ideal.ofBits; decide +kernel

/-- The column maximum of a block of scores. -/
theorem colMax (s : FVec Ideal S256x256 .f32) (f : ℕ → EReal) (x : Fin 256) (h : ∀ k : Fin 256, s (ix2 k x) = f k.val) :
    multiReduction .maximumf [0] S256 s 0xFF800000#32 reduces_S256x256_S256 (.inl rfl) rfl (ix1 x) = mx f 256 := by
  refine (Ideal.multiReduction_maximumf_single s _ reduces_S256x256_S256 _ _ (ix1 x)).trans ?_
  rw [show (FloatOps.ofBits (F := Ideal) .f32 0xFF800000#32 : EReal) = ⊥ from negInf]
  have e : (s ∘ (reduces_S256x256_S256).lift (ix1 x)) = fun k : Fin 256 => f k.val := by
    funext k
    refine Eq.trans (congrArg s ?_) (h k)
    funext a; apply Fin.ext
    match a with
    | ⟨0, _⟩ => rfl
    | ⟨1, _⟩ => rfl
  rw [e]
  show (Finset.univ : Finset (Fin 256)).sup (fun k : Fin 256 => f k.val) = mx f 256
  unfold mx
  refine le_antisymm (Finset.sup_le fun k _ => Finset.le_sup (f := f) (Finset.mem_range.2 k.isLt)) (Finset.sup_le fun k hk => ?_)
  exact Finset.le_sup (f := fun k : Fin 256 => f k.val) (Finset.mem_univ (⟨k, Finset.mem_range.1 hk⟩ : Fin 256))

theorem top_apply (s : FVec Ideal S256x256 .f32) (m : Vec Ideal S1x256 .f32) (f : ℕ → EReal) (x : Fin 256)
    (h : ∀ k : Fin 256, s (ix2 k x) = f k.val) : top s m (ix2 0 x) = max (m (ix2 0 x)) (mx f 256) := by
  unfold top
  show max (m (ix2 0 x)) (shapeCast S1x256 _ _ (ix2 0 x)) = _
  rw [← colMax s f x h]
  exact congrArg (max _) (shapeCast_a_1a_apply _ _ 0 x)

/-- The values' rows and below them rows of ones. -/
theorem vals_left (v : Vec Ideal S1x128x256 .bf16) (r : Fin 128) (k : Fin 256) :
    concatenate S144x256 0 [⟨S128x256, shapeCast S128x256 v shapeCasts_S1x128x256_S128x256⟩, ⟨S16x256, k0_pay617 (F := Ideal)⟩]
      concatenates_S128x256_S16x256_S144x256_d0 (ix2 (⟨r.val, by have := r.isLt; omega⟩ : Fin 144) k) = v (ix3 0 r k) := by
  refine (concatenate_pair_apply_left (t := S144x256) (s₁ := S128x256) (s₂ := S16x256) (0 : Fin 2) _ _ concatenates_S128x256_S16x256_S144x256_d0
    (ix2 (⟨r.val, by have := r.isLt; omega⟩ : Fin 144) k) rfl (ix2 r k) fun b => match b with | ⟨0, _⟩ => rfl | ⟨1, _⟩ => rfl).trans ?_
  exact shapeCast_1ab_ab_apply _ _ r k

theorem vals_right (v : Vec Ideal S1x128x256 .bf16) (k : Fin 256) :
    concatenate S144x256 0 [⟨S128x256, shapeCast S128x256 v shapeCasts_S1x128x256_S128x256⟩, ⟨S16x256, k0_pay617 (F := Ideal)⟩]
      concatenates_S128x256_S16x256_S144x256_d0 (ix2 (⟨128, by omega⟩ : Fin 144) k) = (1 : EReal) := by
  refine (concatenate_pair_apply_right (t := S144x256) (s₁ := S128x256) (s₂ := S16x256) (0 : Fin 2) _ _ concatenates_S128x256_S16x256_S144x256_d0
    (ix2 (⟨128, by omega⟩ : Fin 144) k) rfl rfl (ix2 (0 : Fin 16) k)
    (fun b => match b with | ⟨0, _⟩ => fun h => absurd rfl h | ⟨1, _⟩ => fun _ => rfl) rfl).trans ?_
  exact Ideal.ofBits_one_bf16

theorem store10_apply (s : FVec Ideal S256x256 .f32) (m : Vec Ideal S1x256 .f32) (v : Vec Ideal S1x128x256 .bf16) (a : Vec Ideal S144x256 .f32)
    (r : Fin 144) (x : Fin 256) :
    store10 s m v a (ix2 r x) = w (m (ix2 0 x)) (top s m (ix2 0 x)) * a (ix2 r x)
      + ∑ k : Fin 256, concatenate S144x256 0 [⟨S128x256, shapeCast S128x256 v shapeCasts_S1x128x256_S128x256⟩, ⟨S16x256, k0_pay617 (F := Ideal)⟩]
          concatenates_S128x256_S16x256_S144x256_d0 (ix2 r k) * w (s (ix2 k x)) (top s m (ix2 0 x)) := by
  unfold store10
  rw [shapeCast_self]
  refine congrArg₂ (· + ·) (congrArg (· * a (ix2 r x)) ?_) ?_
  · exact broadcastTo_1b_ab_apply _ _ r x
  · refine (Ideal.matmul_plain_apply (M := 144) (K := 256) (N := 256) (φ₁ := .bf16) (φ₂ := .bf16) none _ _ _ r x).trans ?_
    have h0 : (constant S144x256 .f32 0x00000000#32 : FVec Ideal S144x256 .f32) (ix2 r x) = (0 : EReal) := Ideal.ofBits_zero_f32
    rw [h0, zero_add]
    refine Finset.sum_congr rfl fun k _ => congrArg (_ * ·) ?_
    show Ideal.exp2 (s (ix2 k x) - broadcastTo S256x256 (top s m) broadcasts_S1x256_S256x256 (ix2 k x)) = _
    rw [broadcastTo_1b_ab_apply]
    rfl

/-- The pair holds the first `n` keys of `s`, for the column's query `x`: with values `v r` in the first 128 rows and ones in the next. -/
def Holds (s : ℕ → EReal) (v : Fin 128 → ℕ → EReal) (x : Fin 256) (n : ℕ) (p : Vec Ideal S1x256 .f32 × Vec Ideal S144x256 .f32) : Prop :=
  p.1 (ix2 0 x) = mx s n ∧ (∀ r : Fin 128, p.2 (ix2 (⟨r.val, by have := r.isLt; omega⟩ : Fin 144) x) = acc s (v r) n)
    ∧ p.2 (ix2 (⟨128, by omega⟩ : Fin 144) x) = acc s (fun _ => 1) n

/-- One unit adds its block's keys. -/
theorem holds_unit (s : ℕ → EReal) (v : Fin 128 → ℕ → EReal) (x : Fin 256) (n : ℕ) (p : Vec Ideal S1x256 .f32 × Vec Ideal S144x256 .f32)
    (S : FVec Ideal S256x256 .f32) (V : Vec Ideal S1x128x256 .bf16) (hS : ∀ k : Fin 256, S (ix2 k x) = s (n + k.val))
    (hV : ∀ (r : Fin 128) (k : Fin 256), V (ix3 0 r k) = v r (n + k.val)) (h : Holds s v x n p) :
    Holds s v x (n + 256) (unit S V p) := by
  obtain ⟨h1, h2, h3⟩ := h
  have ht : top S p.1 (ix2 0 x) = mx s (n + 256) := by
    rw [top_apply S p.1 (fun k => s (n + k)) x hS, mx_add, h1]
  refine ⟨?_, fun r => ?_, ?_⟩
  · show store9 S p.1 (ix2 0 x) = _
    unfold store9
    rw [shapeCast_self, ht]
  · show store10 S p.1 V p.2 _ = _
    rw [store10_apply, acc_add, ht, h1, h2 r, Finset.sum_range]
    refine congrArg (fun z : EReal => w (mx s n) (mx s (n + 256)) * acc s (v r) n + z) (Finset.sum_congr rfl fun k _ => ?_)
    rw [vals_left, hV, hS]
  · show store10 S p.1 V p.2 _ = _
    rw [store10_apply, acc_add, ht, h1, h3, Finset.sum_range]
    refine congrArg (fun z : EReal => w (mx s n) (mx s (n + 256)) * acc s (fun _ => 1) n + z) (Finset.sum_congr rfl fun k _ => ?_)
    rw [vals_right, hS]

theorem holds_sweep (s : ℕ → EReal) (v : Fin 128 → ℕ → EReal) (x : Fin 256) (p : Vec Ideal S1x256 .f32 × Vec Ideal S144x256 .f32)
    (S : ℕ → FVec Ideal S256x256 .f32) (V : ℕ → Vec Ideal S1x128x256 .bf16) (N : ℕ)
    (hS : ∀ j < N, ∀ k : Fin 256, S j (ix2 k x) = s (256 * j + k.val))
    (hV : ∀ j < N, ∀ (r : Fin 128) (k : Fin 256), V j (ix3 0 r k) = v r (256 * j + k.val)) (h : Holds s v x 0 p) :
    Holds s v x (256 * N) (sweep S V p N) := by
  induction N with
  | zero => exact h
  | succ N ih =>
    rw [sweep_succ, Nat.mul_succ]
    exact holds_unit s v x (256 * N) _ _ _ (hS N (by omega)) (hV N (by omega))
      (ih (fun j hj => hS j (by omega)) (fun j hj => hV j (by omega)))

/-- What a column starts from holds no key. -/
theorem holds_start (s : ℕ → EReal) (v : Fin 128 → ℕ → EReal) (x : Fin 256) (arg9 : Memref sig .tc .vmem S1x1280 .f32)
    (arg10 : Memref sig .tc .vmem S144x1280 .f32) (c : Fin 5) : Holds s v x 0 (FoxLoop.start (F := Ideal) arg9 arg10 c) := by
  have e9 : (FoxLoop.start (F := Ideal) arg9 arg10 c).1 = View.ld (Val := Elt Ideal) (e' := .f32) (k0_pay615 (F := Ideal)) (rect9 c) := by
    unfold FoxLoop.start FoxTail.fill9
    exact View.readCov_fill (Val := Elt Ideal) (e := .f32) arg9.view inb_S1x1280_S1x1280_0_0 (k0_pay615 (F := Ideal)) [] (rect9 c) (by decide)
  have e10 : (FoxLoop.start (F := Ideal) arg9 arg10 c).2 = View.ld (Val := Elt Ideal) (e' := .f32) (k0_pay616 (F := Ideal)) (rect10 c) := by
    unfold FoxLoop.start FoxTail.fill10
    exact View.readCov_fill (Val := Elt Ideal) (e := .f32) arg10.view inb_S144x1280_S144x1280_0_0 (k0_pay616 (F := Ideal)) [] (rect10 c) (by decide)
  have z : ∀ y, View.ld (Val := Elt Ideal) (e' := .f32) (k0_pay616 (F := Ideal)) (rect10 c) y = (0 : Ideal .f32) := fun y => by
    show k0_pay616 (F := Ideal) _ = 0
    unfold k0_pay616; rw [shapeCast_self]; exact Ideal.ofBits_zero_f32
  refine ⟨?_, fun r => ?_, ?_⟩
  · rw [e9, mx_zero]
    show k0_pay615 (F := Ideal) _ = ⊥
    unfold k0_pay615; rw [shapeCast_self]; rfl
  · rw [e10, acc_zero]; exact z _
  · rw [e10, acc_zero]; exact z _

end Cert.Proof.FoxState

end
-- ==== Proof.FoxRunA.lean ====
/- An even row's block: the main loop, then the diagonal sweep. -/
module

public import proofs.«01_k».proof.Proof.FoxTail
public import proofs.«01_k».proof.Proof.Gen.FoxIdeal.Value
import all proofs.«01_k».proof.Proof.Gen.FoxIdeal.Frame.RunA

@[expose] public section

noncomputable section

namespace Cert.Proof.FoxRunA

open Cert.FoxIdeal Cert.FoxIdeal.Gen Idealize.ShloMosaic Idealize.ShloMosaic.TcCoe Idealize.SL.Sem Cert.Proof.FoxUnit

variable {F : FTy → Type} [FloatOps F] [Named F]
open Cert.Proof.FoxTail

theorem run_eq (c : Dev nD) (i : grid0.Coords) (arg2 : Memref sig .tc .vmem S1x128x1280 .bf16) (harg2 : arg2.IsWhole) (arg3 : Memref sig .tc .vmem S1x128x1280 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x128x16640 .bf16) (harg6 : arg6.IsWhole) (arg7 : Memref sig .tc .vmem S1x1x128 .f32) (harg7 : arg7.IsWhole) (arg8 : Memref sig .tc .vmem S1280x128 .bf16) (harg8 : arg8.IsWhole) (arg9 : Memref sig .tc .vmem S1x1280 .f32) (harg9 : arg9.IsWhole) (arg10 : Memref sig .tc .vmem S144x1280 .f32) (harg10 : arg10.IsWhole) (hc0 : ¬(k0_cond1 i = 1#1)) (x0 : Vec F S1x128x1280 .bf16) (x1 : Vec F S1x128x1280 .bf16) (x2 : Vec F S1x16640x128 .bf16) (x3 : Vec F S1x16640x128 .bf16) (x4 : Vec F S1x128x16640 .bf16) (x5 : Vec F S1x1x128 .f32) :
    (kernelRun0_A (F := F) c i arg2 harg2 arg3 harg3 arg4 harg4 arg5 harg5 arg6 harg6 arg7 harg7 arg8 harg8 arg9 harg9 arg10 harg10 hc0 x0 x1 x2 x3 x4 x5).1
      = finish arg7 harg7 x5 (whole10 arg10
          (list10D i arg4 arg5 arg6 arg9 arg10 (query arg2 harg2 arg3 harg3 x0 x1) (harg4.unread x2) (harg5.unread x3) (harg6.unread x4)
            (base9 c i arg2 harg2 arg3 harg3 arg4 harg4 arg5 harg5 arg6 harg6 arg7 harg7 arg8 harg8 arg9 harg9 arg10 harg10 x0 x1 x2 x3 x4) (base10 c i arg2 harg2 arg3 harg3 arg4 harg4 arg5 harg5 arg6 harg6 arg7 harg7 arg8 harg8 arg9 harg9 arg10 harg10 x0 x1 x2 x3 x4) 15)) := by
  unfold kernelRun0_A
  dsimp only
  sl_kernel_rfl

end Cert.Proof.FoxRunA
-- ==== Proof.FoxRunB.lean ====
/- An odd row's block: the main loop, the five extra key blocks, then the diagonal sweep. -/
module

public import proofs.«01_k».proof.Proof.FoxTail
public import proofs.«01_k».proof.Proof.Gen.FoxIdeal.Value
import all proofs.«01_k».proof.Proof.Gen.FoxIdeal.Frame.RunB

@[expose] public section

noncomputable section

namespace Cert.Proof.FoxRunB

open Cert.FoxIdeal Cert.FoxIdeal.Gen Idealize.ShloMosaic Idealize.ShloMosaic.TcCoe Idealize.SL.Sem Cert.Proof.FoxUnit

variable {F : FTy → Type} [FloatOps F] [Named F]
open Cert.Proof.FoxTail

theorem run_eq (c : Dev nD) (i : grid0.Coords) (arg2 : Memref sig .tc .vmem S1x128x1280 .bf16) (harg2 : arg2.IsWhole) (arg3 : Memref sig .tc .vmem S1x128x1280 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x128x16640 .bf16) (harg6 : arg6.IsWhole) (arg7 : Memref sig .tc .vmem S1x1x128 .f32) (harg7 : arg7.IsWhole) (arg8 : Memref sig .tc .vmem S1280x128 .bf16) (harg8 : arg8.IsWhole) (arg9 : Memref sig .tc .vmem S1x1280 .f32) (harg9 : arg9.IsWhole) (arg10 : Memref sig .tc .vmem S144x1280 .f32) (harg10 : arg10.IsWhole) (hc0 : k0_cond1 i = 1#1) (x0 : Vec F S1x128x1280 .bf16) (x1 : Vec F S1x128x1280 .bf16) (x2 : Vec F S1x16640x128 .bf16) (x3 : Vec F S1x16640x128 .bf16) (x4 : Vec F S1x128x16640 .bf16) (x5 : Vec F S1x1x128 .f32) :
    (kernelRun0_B (F := F) c i arg2 harg2 arg3 harg3 arg4 harg4 arg5 harg5 arg6 harg6 arg7 harg7 arg8 harg8 arg9 harg9 arg10 harg10 hc0 x0 x1 x2 x3 x4 x5).1
      = finish arg7 harg7 x5 (whole10 arg10
          (list10D i arg4 arg5 arg6 arg9 arg10 (query arg2 harg2 arg3 harg3 x0 x1) (harg4.unread x2) (harg5.unread x3) (harg6.unread x4)
            (list9R i arg4 arg5 arg9 (query arg2 harg2 arg3 harg3 x0 x1) (harg4.unread x2) (harg5.unread x3)
              (base9 c i arg2 harg2 arg3 harg3 arg4 harg4 arg5 harg5 arg6 harg6 arg7 harg7 arg8 harg8 arg9 harg9 arg10 harg10 x0 x1 x2 x3 x4) hc0 25)
            (list10R i arg4 arg5 arg6 arg9 arg10 (query arg2 harg2 arg3 harg3 x0 x1) (harg4.unread x2) (harg5.unread x3) (harg6.unread x4)
              (base9 c i arg2 harg2 arg3 harg3 arg4 harg4 arg5 harg5 arg6 harg6 arg7 harg7 arg8 harg8 arg9 harg9 arg10 harg10 x0 x1 x2 x3 x4) (base10 c i arg2 harg2 arg3 harg3 arg4 harg4 arg5 harg5 arg6 harg6 arg7 harg7 arg8 harg8 arg9 harg9 arg10 harg10 x0 x1 x2 x3 x4) hc0 25) 15)) := by
  unfold kernelRun0_B
  dsimp only
  sl_kernel_rfl

end Cert.Proof.FoxRunB
-- ==== Proof.FoxBlock.lean ====
/- What a grid point's stored block holds at an index: the query's attention over all keys, normalised over the head. -/
module

public import proofs.«01_k».proof.Proof.FoxState
public import proofs.«01_k».proof.Proof.FoxRunA
public import proofs.«01_k».proof.Proof.FoxRunB
public import Idealize.ShloMosaic.Lib.VecWindow

@[expose] public section

noncomputable section

namespace Cert.Proof.FoxBlock

open Cert.FoxIdeal Cert.FoxIdeal.Gen Idealize.ShloMosaic Idealize.ShloMosaic.TcCoe Idealize.SL.Sem Idealize.ShloMosaic.ValueIdx
open Cert.Proof.FoxUnit Cert.Proof.FoxTail Cert.Proof.FoxBlocks Cert.Proof.FoxScore Cert.Proof.FoxSweep Cert.Proof.FoxMath Cert.Proof.FoxState
open scoped BigOperators

/-- The head's norm of a row. -/
def norm (o : Fin 128 → EReal) (g : Fin 128 → EReal) (e : Fin 128) : EReal :=
  o e * Ideal.rsqrt (Ideal.div (∑ d : Fin 128, o d * o d) (Ideal.ofBits .f32 0x43000000#32) + Ideal.ofBits .f32 0x358637BD#32) * g e

/-- A query's attention: the weighted values over the weights' sum, over all keys. -/
def attend (s : ℕ → EReal) (v : Fin 128 → ℕ → EReal) (e : Fin 128) : EReal :=
  Ideal.div (acc s (v e) 16640) (acc s (fun _ => 1) 16640)

theorem pay700_apply (a : Vec Ideal S144x1280 .f32) (e : Fin 128) (p : Fin 1280) :
    k0_pay700 (F := Ideal) a (ix2 e p) = Ideal.div (a (ix2 (⟨e.val, by have := e.isLt; omega⟩ : Fin 144) p)) (a (ix2 (⟨128, by omega⟩ : Fin 144) p)) := by
  unfold k0_pay700
  refine congrArg₂ Ideal.div ?_ ?_
  · exact extractStridedSlice_apply _ _ _ _ _ fun b => match b with
      | ⟨0, _⟩ => (Nat.zero_add _).symm
      | ⟨1, _⟩ => (Nat.zero_add _).symm
  · refine (broadcastTo_1b_ab_apply _ _ e p).trans ?_
    exact extractStridedSlice_apply _ _ _ _ _ fun b => match b with
      | ⟨0, _⟩ => rfl
      | ⟨1, _⟩ => (Nat.zero_add _).symm

theorem sum_col (z : FVec Ideal S128x1280 .f32) (p : Fin 1280) :
    multiReduction .add [0] S1280 z 0x00000000#32 reduces_S128x1280_S1280 (.inl rfl) rfl (ix1 p) = ∑ d : Fin 128, z (ix2 d p) := by
  refine (Ideal.multiReduction_add_single z _ reduces_S128x1280_S1280 _ _ (ix1 p)).trans ?_
  refine Finset.sum_congr rfl fun k _ => congrArg z ?_
  funext a; apply Fin.ext
  match a with
  | ⟨0, _⟩ => rfl
  | ⟨1, _⟩ => rfl

theorem pay1_apply (z : FVec Ideal S128x1280 .f32) (g : Vec Ideal S1x1x128 .f32) (p : Fin 1280) (e : Fin 128) :
    k0_pay1 (F := Ideal) z (mulf z z) g (ix2 p e) = norm (fun d => z (ix2 d p)) (fun d => g (ix3 0 0 d)) e := by
  unfold k0_pay1 norm
  refine congrArg₂ (fun a b : EReal => a * b) ?_ ?_
  · refine (transpose_apply _ _ _ _ (ix2 e p) fun b => match b with | ⟨0, _⟩ => rfl | ⟨1, _⟩ => rfl).trans ?_
    refine congrArg (z (ix2 e p) * ·) ?_
    refine (broadcastTo_1b_ab_apply _ _ e p).trans ?_
    refine congrArg (fun t => Ideal.rsqrt (Ideal.div t _ + _)) ?_
    refine (shapeCast_a_1a_apply _ _ 0 p).trans ?_
    exact sum_col _ p
  · refine (broadcastTo_1b_ab_apply _ _ p e).trans ?_
    exact shapeCast_1ab_ab_apply _ _ 0 e

section
variable (x0 x1 : Vec Ideal S1x128x1280 .bf16) (x2 x3 : Vec Ideal S1x16640x128 .bf16) (x4 : Vec Ideal S1x128x16640 .bf16)
  (x5 : Vec Ideal S1x1x128 .f32)

/-- The stored block, from the point's blocks and its query block number. -/
def outv (b : ℕ) (p : Fin 1280) (e : Fin 128) : EReal :=
  norm (attend (masked x0 x1 x2 x3 b p) fun e n => x4 (ix3 0 e (key n))) (fun d => x5 (ix3 0 0 d)) e

theorem mx_to (s : ℕ → EReal) (n b N : ℕ) (hN : n + b = N) (h : ∀ j, s (n + j) = ⊥) : mx s N = mx s n := by
  subst hN; exact mx_tail s n b h

theorem acc_to (s v : ℕ → EReal) (n b N : ℕ) (hN : n + b = N) (h : ∀ j, s (n + j) = ⊥) : acc s v N = acc s v n := by
  subst hN; exact acc_tail s v n b h

/-- A column's finished sweep holds all the keys: the later ones are masked. -/
theorem holds_all (b : ℕ) (hb : b < 13) (c : Fin 5) (x : Fin 256) (arg9 : Memref sig .tc .vmem S1x1280 .f32)
    (arg10 : Memref sig .tc .vmem S144x1280 .f32) :
    Holds (masked x0 x1 x2 x3 b (qry c x)) (fun e n => x4 (ix3 0 e (key n))) x 16640
      (sweep (scores b (k0_pay614 (F := Ideal) x0 x1) x2 x3 c) (cols x4) (FoxLoop.start arg9 arg10 c) (5 * b + (c.val + 1))) := by
  have hc := c.isLt; have hx := x.isLt
  obtain ⟨h1, h2, h3⟩ := holds_sweep (masked x0 x1 x2 x3 b (qry c x)) (fun e n => x4 (ix3 0 e (key n))) x
    (FoxLoop.start arg9 arg10 c) (scores b (k0_pay614 (F := Ideal) x0 x1) x2 x3 c) (cols x4) (5 * b + (c.val + 1))
    (fun j hj k => scores_apply x0 x1 x2 x3 b hb c j (by omega) k x) (fun j _ r k => rfl) (holds_start _ _ x arg9 arg10 c)
  have hm : ∀ j, masked x0 x1 x2 x3 b (qry c x) (256 * (5 * b + (c.val + 1)) + j) = ⊥ := fun j => by
    unfold masked
    rw [if_neg]
    show ¬(256 * (5 * b + (c.val + 1)) + j ≤ 1280 * b + (256 * c.val + x.val))
    omega
  have hn : 256 * (5 * b + (c.val + 1)) + (16640 - 256 * (5 * b + (c.val + 1))) = 16640 := by omega
  exact ⟨h1.trans (mx_to _ _ _ _ hn hm).symm, fun r => (h2 r).trans (acc_to _ _ _ _ _ hn hm).symm, h3.trans (acc_to _ _ _ _ _ hn hm).symm⟩

/-- The stored block from a finished accumulator. -/
theorem finish_apply (b : ℕ) (A : Vec Ideal S144x1280 .f32) (p : Fin 1280) (e : Fin 128)
    (hA : ∀ d : Fin 128, A (ix2 (⟨d.val, by have := d.isLt; omega⟩ : Fin 144) p)
      = acc (masked x0 x1 x2 x3 b p) (fun n => x4 (ix3 0 d (key n))) 16640)
    (hA1 : A (ix2 (⟨128, by omega⟩ : Fin 144) p) = acc (masked x0 x1 x2 x3 b p) (fun _ => 1) 16640) :
    k0_pay1 (F := Ideal) (k0_pay700 A) (k0_pay701 A) x5 (ix2 p e) = outv x0 x1 x2 x3 x4 x5 b p e := by
  refine (pay1_apply (k0_pay700 A) x5 p e).trans ?_
  unfold outv
  refine congrArg (fun o => norm o _ e) (funext fun d => ?_)
  rw [pay700_apply, hA, hA1]
  rfl
end

section
variable (cd : Dev nD) (i : grid0.Coords) (arg2 : Memref sig .tc .vmem S1x128x1280 .bf16) (harg2 : arg2.IsWhole) (arg3 : Memref sig .tc .vmem S1x128x1280 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x128x16640 .bf16) (harg6 : arg6.IsWhole) (arg7 : Memref sig .tc .vmem S1x1x128 .f32) (harg7 : arg7.IsWhole) (arg8 : Memref sig .tc .vmem S1280x128 .bf16) (harg8 : arg8.IsWhole) (arg9 : Memref sig .tc .vmem S1x1280 .f32) (harg9 : arg9.IsWhole) (arg10 : Memref sig .tc .vmem S144x1280 .f32) (harg10 : arg10.IsWhole)
  (x0 x1 : Vec Ideal S1x128x1280 .bf16) (x2 x3 : Vec Ideal S1x16640x128 .bf16) (x4 : Vec Ideal S1x128x16640 .bf16)
  (x5 : Vec Ideal S1x1x128 .f32)

theorem whole_read {e : EltTy} {s : Shape} (b : Memref sig .tc .vmem s e) (h : b.IsWhole) {off : Fin s.rank → ℕ} (h0 : ∀ a, off a = 0)
    (inb : ∀ a, off a + s.size a ≤ s.size a) (X : s.Idx → Elt Ideal e) :
    View.readAt (Elt Ideal) b.view (Rect.unit (s := s) off s.size inb).toLoadRect (h.unread X) = X := by
  funext x
  rw [Memref.IsWhole.readAt_unread h]
  refine congrArg X (funext fun a => Fin.ext ?_)
  show off a + 1 * (x a).val = (x a).val
  rw [h0 a]; omega

theorem zeros3 : ∀ a : Fin 3, (![0, 0, 0] : Fin 3 → ℕ) a = 0 := by decide

theorem query_eq : query (F := Ideal) arg2 harg2 arg3 harg3 x0 x1 = k0_pay614 x0 x1 := by
  unfold query
  exact congrArg₂ _ (whole_read arg2 harg2 zeros3 _ x0) (whole_read arg3 harg3 zeros3 _ x1)

theorem norms_eq : View.readAt (Elt Ideal) arg7.view (Rect.unit (s := S1x1x128) ![0, 0, 0] S1x1x128.size inb_S1x1x128_S1x1x128_0_0_0).toLoadRect (harg7.unread x5) = x5 :=
  whole_read arg7 harg7 zeros3 _ x5

/-- The block over a list of stores that leaves every column swept. -/
theorem block_of (L9 : List (View.Piece (Elt Ideal) S1x1280 .f32)) (L : List (View.Piece (Elt Ideal) S144x1280 .f32))
    (hL : ∀ c : Fin 5, at' arg9.view arg10.view (arg9.view.writes (Elt Ideal) arg9.view.junk L9) (arg10.view.writes (Elt Ideal) arg10.view.junk L) c
      = sweep (scores (i 1).val (k0_pay614 x0 x1) x2 x3 c) (cols x4) (FoxLoop.start arg9 arg10 c) (5 * (i 1).val + (c.val + 1)))
    (p : Fin 1280) (e : Fin 128) :
    VO0_6.read (Elt Ideal) (VO0_6.writes (Elt Ideal) VO0_6.junk (finish arg7 harg7 x5 (whole10 arg10 L))) (ix2 p e)
      = outv x0 x1 x2 x3 x4 x5 (i 1).val p e := by
  have hi : (i 1).val < 13 := (i 1).isLt
  unfold finish
  rw [View.read_writes_full, norms_eq]
  have hp := p.isLt
  have hq : qry ⟨p.val / 256, by omega⟩ ⟨p.val % 256, Nat.mod_lt _ (by omega)⟩ = p :=
    Fin.ext (by show 256 * (p.val / 256) + p.val % 256 = p.val; omega)
  obtain ⟨h1, h2, h3⟩ := holds_all x0 x1 x2 x3 x4 (i 1).val hi ⟨p.val / 256, by omega⟩ ⟨p.val % 256, Nat.mod_lt _ (by omega)⟩ arg9 arg10
  rw [← hL, hq] at h2 h3
  have hw := FoxLoop.whole_at arg9 arg10 L9 L ⟨p.val / 256, by omega⟩
  refine finish_apply x0 x1 x2 x3 x4 x5 (i 1).val _ p e (fun d => ?_) ?_
  · refine Eq.trans ?_ ((hw _ ⟨p.val % 256, Nat.mod_lt _ (by omega)⟩).trans (h2 d))
    exact congrArg (fun q => whole10 arg10 L (ix2 _ q)) hq.symm
  · refine Eq.trans ?_ ((hw _ ⟨p.val % 256, Nat.mod_lt _ (by omega)⟩).trans h3)
    exact congrArg (fun q => whole10 arg10 L (ix2 _ q)) hq.symm

theorem block_A (hc0 : ¬(k0_cond1 i = 1#1)) (p : Fin 1280) (e : Fin 128) :
    VO0_6.read (Elt Ideal) (VO0_6.writes (Elt Ideal) VO0_6.junk (kernelRun0_A (F := Ideal) cd i arg2 harg2 arg3 harg3 arg4 harg4 arg5 harg5 arg6 harg6 arg7 harg7 arg8 harg8 arg9 harg9 arg10 harg10 hc0 x0 x1 x2 x3 x4 x5).1) (ix2 p e)
      = outv x0 x1 x2 x3 x4 x5 (i 1).val p e := by
  rw [FoxRunA.run_eq]
  refine block_of i arg7 harg7 arg9 arg10 x0 x1 x2 x3 x4 x5 (list9D i arg4 arg5 arg9 (query arg2 harg2 arg3 harg3 x0 x1) (harg4.unread x2) (harg5.unread x3)
            (base9 cd i arg2 harg2 arg3 harg3 arg4 harg4 arg5 harg5 arg6 harg6 arg7 harg7 arg8 harg8 arg9 harg9 arg10 harg10 x0 x1 x2 x3 x4) 15) _ (fun c => ?_) p e
  rw [← query_eq arg2 harg2 arg3 harg3]
  refine FoxLoop.diag i arg4 harg4 arg5 harg5 arg6 harg6 arg9 arg10 x2 x3 x4 _ _ _ c ?_
  have h := FoxLoop.after_loop cd i arg2 harg2 arg3 harg3 arg4 harg4 arg5 harg5 arg6 harg6 arg7 harg7 arg8 harg8 arg9 harg9 arg10 harg10 x0 x1 x2 x3 x4 c
  have ev := even_of i hc0
  rw [show 10 * ((i 1).val / 2) = 5 * (i 1).val by omega] at h
  exact h

theorem block_B (hc0 : k0_cond1 i = 1#1) (p : Fin 1280) (e : Fin 128) :
    VO0_6.read (Elt Ideal) (VO0_6.writes (Elt Ideal) VO0_6.junk (kernelRun0_B (F := Ideal) cd i arg2 harg2 arg3 harg3 arg4 harg4 arg5 harg5 arg6 harg6 arg7 harg7 arg8 harg8 arg9 harg9 arg10 harg10 hc0 x0 x1 x2 x3 x4 x5).1) (ix2 p e)
      = outv x0 x1 x2 x3 x4 x5 (i 1).val p e := by
  rw [FoxRunB.run_eq]
  refine block_of i arg7 harg7 arg9 arg10 x0 x1 x2 x3 x4 x5 (list9D i arg4 arg5 arg9 (query arg2 harg2 arg3 harg3 x0 x1) (harg4.unread x2) (harg5.unread x3)
            (list9R i arg4 arg5 arg9 (query arg2 harg2 arg3 harg3 x0 x1) (harg4.unread x2) (harg5.unread x3)
              (base9 cd i arg2 harg2 arg3 harg3 arg4 harg4 arg5 harg5 arg6 harg6 arg7 harg7 arg8 harg8 arg9 harg9 arg10 harg10 x0 x1 x2 x3 x4) hc0 25) 15) _ (fun c => ?_) p e
  rw [← query_eq arg2 harg2 arg3 harg3]
  refine FoxLoop.diag i arg4 harg4 arg5 harg5 arg6 harg6 arg9 arg10 x2 x3 x4 _ _ _ c ?_
  have od := odd_of i hc0
  have h := FoxLoop.rest i arg4 harg4 arg5 harg5 arg6 harg6 arg9 arg10 x2 x3 x4 hc0 (query arg2 harg2 arg3 harg3 x0 x1) _ _ c (by
    have h := FoxLoop.after_loop cd i arg2 harg2 arg3 harg3 arg4 harg4 arg5 harg5 arg6 harg6 arg7 harg7 arg8 harg8 arg9 harg9 arg10 harg10 x0 x1 x2 x3 x4 c
    rw [show 10 * ((i 1).val / 2) = 5 * ((i 1).val - 1) by omega] at h
    exact h)
  rw [show 5 * ((i 1).val - 1) + 5 = 5 * (i 1).val by omega] at h
  exact h
end

end Cert.Proof.FoxBlock

end
-- ==== Proof.FoxRun.lean ====
/- The attention's run over the extended reals: what each block window holds, what every grid point writes back, and what
   the result array ends holding. -/
module

public import proofs.«01_k».proof.Proof.FoxBlock
public import proofs.«01_k».proof.Proof.Gen.FoxIdeal.Value
public import Idealize.ShloMosaic.Lib.Pipeline.ReadBack

@[expose] public section

noncomputable section

namespace Cert.Proof.FoxRun

open Cert.FoxIdeal Cert.FoxIdeal.Gen Cert.FoxIdeal.Value Idealize.ShloMosaic Idealize.ShloMosaic.TcCoe Idealize.SL.Sem Idealize.ShloMosaic.ValueIdx
open Cert.Proof.FoxScore Cert.Proof.FoxBlock
open scoped BigOperators

/-! ## The attention, entry by entry -/

/-- Entry `d` of head `h` among the joined heads. -/
def at' (h : Fin 8) (d : Fin 128) : Fin 1024 := ⟨h.val * 128 + d.val, by have := h.isLt; have := d.isLt; omega⟩

section Spec

variable (P : S4x16640x1024.Idx → EReal) (T : S2x1024x16640.Idx → EReal) (KB : S8x16640x128.Idx → EReal) (QB : S8x128x16640.Idx → EReal)
  (N : S2x1024.Idx → EReal)

/-- Query `r`'s masked logit at key `n`, in head `h`. -/
def sc (h : Fin 8) (r : Fin 16640) (n : ℕ) : EReal :=
  if n ≤ r.val then (∑ d : Fin 128, P (ix3 3 (key n) (at' h d)) * T (ix3 0 (at' h d) r)) + ∑ e : Fin 128, KB (ix3 h (key n) e) * QB (ix3 h e r)
  else ⊥

/-- The normalised attention of head `h` at query `r`. -/
def out (h : Fin 8) (r : Fin 16640) (e : Fin 128) : EReal :=
  norm (attend (sc P T KB QB h r) fun e n => T (ix3 1 (at' h e) (key n))) (fun d => N (ix2 1 (at' h d))) e

/-- The result's entry at row `r` and joined column `q`. -/
def res (r : Fin 16640) (q : Fin 1024) : EReal :=
  out P T KB QB N ⟨q.val / 128, by have := q.isLt; omega⟩ r ⟨q.val % 128, Nat.mod_lt _ (by omega)⟩

end Spec

variable (m : (ℓ : Loc nD τ sig) → Buf (Elt Ideal) ℓ) (ρ : Dev nD → PrngReg)

abbrev P (c : Dev nD) : S4x16640x1024.Idx → EReal := m ((c : Thread nD τ).loc main_arg0)
abbrev T (c : Dev nD) : S2x1024x16640.Idx → EReal := m ((c : Thread nD τ).loc main_arg1)
abbrev KB (c : Dev nD) : S8x16640x128.Idx → EReal := m ((c : Thread nD τ).loc main_arg2)
abbrev QB (c : Dev nD) : S8x128x16640.Idx → EReal := m ((c : Thread nD τ).loc main_arg3)
abbrev N (c : Dev nD) : S2x1024.Idx → EReal := m ((c : Thread nD τ).loc main_arg4)

/-! ## What the host stretch leaves -/

theorem heads_of (a : S2x1024.Idx → EReal) (h : Fin 8) (d : Fin 128) :
    shapeCast (α := EReal) S8x1x128 (shapeCast (α := EReal) S1024 (extractStridedSlice S1x1024 ![1, 0] a slices_S2x1024_S1x1024_1_0) shapeCasts_S1x1024_S1024)
        shapeCasts_S1024_S8x1x128 (ix3 h 0 d)
      = a (ix2 1 (at' h d)) := by
  refine (shapeCast_apply _ _ _ (ix1 (at' h d)) ?_).trans ?_
  · rw [Shape.rowMajor_val_one, Shape.rowMajor_val_three]
    show h.val * 128 + d.val = (h.val * 1 + 0) * 128 + d.val
    omega
  refine (shapeCast_dropUnit_apply ![1024] _ _ (ix1 (at' h d))).trans ?_
  refine congrArg a (funext fun b => Fin.ext ?_)
  match b with
  | ⟨0, _⟩ => rfl
  | ⟨1, _⟩ => show 0 + (at' h d).val = (at' h d).val; omega

theorem V_v2 (c : Dev nD) (h : Fin 8) (d : Fin 128) : V m c main_v2 (ix3 h 0 d) = N m c (ix2 1 (at' h d)) := by
  rw [← heads_of (N m c) h d]
  show StableHlo.after hostOps0 (fun b => m (c, b)) (Proc.devRef .tc main_v2) _ = _
  simp only [hostOps0]
  after_results_simp
  rfl

/-! ## The block windows -/

theorem idx0 : ∀ t : Fin cfg0.N,
    (win0_0.index t (0 : Fin 3) = 0 ∧ win0_0.index t (1 : Fin 3) = t.val / 13 ∧ win0_0.index t (2 : Fin 3) = t.val % 13)
    ∧ (win0_1.index t (0 : Fin 3) = t.val / 13 ∧ win0_1.index t (1 : Fin 3) = 0 ∧ win0_1.index t (2 : Fin 3) = t.val % 13)
    ∧ (win0_2.index t (0 : Fin 3) = 3 ∧ win0_2.index t (1 : Fin 3) = 0 ∧ win0_2.index t (2 : Fin 3) = t.val / 13)
    ∧ (win0_3.index t (0 : Fin 3) = t.val / 13 ∧ win0_3.index t (1 : Fin 3) = 0 ∧ win0_3.index t (2 : Fin 3) = 0)
    ∧ (win0_4.index t (0 : Fin 3) = 1 ∧ win0_4.index t (1 : Fin 3) = t.val / 13 ∧ win0_4.index t (2 : Fin 3) = 0)
    ∧ (win0_5.index t (0 : Fin 3) = t.val / 13 ∧ win0_5.index t (1 : Fin 3) = 0 ∧ win0_5.index t (2 : Fin 3) = 0)
    ∧ (win0_6.index t (0 : Fin 2) = t.val % 13 ∧ win0_6.index t (1 : Fin 2) = t.val / 13)
    ∧ (grid0.coords t 1).val = t.val % 13 :=
  (by decide +kernel : ∀ t : Fin grid0.N, _)

/-- A point's head. -/
def hd (t : Fin cfg0.N) : Fin 8 := ⟨t.val / 13, by have := t.isLt; have : cfg0.N = 104 := N_0; omega⟩

/-- A point's query `p`. -/
def rw' (t : Fin cfg0.N) (p : Fin 1280) : Fin 16640 := ⟨t.val % 13 * 1280 + p.val, by have := p.isLt; omega⟩

theorem blk0 (c : Dev nD) (t : Fin cfg0.N) (d : Fin 128) (p : Fin 1280) :
    iblk m c 0 t (ix3 0 d p) = T m c (ix3 0 (at' (hd t) d) (rw' t p)) := by
  obtain ⟨⟨h0, h1, h2⟩, -⟩ := idx0 t
  show V m c main_arg1 (((cfg0.win 0).blk t).view.emb (ix3 0 d p)) = _
  rw [V_main_arg1]
  refine congrArg (T m c) (funext fun a => Fin.ext ?_)
  match a with
  | ⟨0, _⟩ => show win0_0.index t (0 : Fin 3) * 1 + 1 * 0 = 0; omega
  | ⟨1, _⟩ => show win0_0.index t (1 : Fin 3) * 128 + 1 * d.val = t.val / 13 * 128 + d.val; omega
  | ⟨2, _⟩ => show win0_0.index t (2 : Fin 3) * 1280 + 1 * p.val = t.val % 13 * 1280 + p.val; omega

theorem blk1 (c : Dev nD) (t : Fin cfg0.N) (d : Fin 128) (p : Fin 1280) :
    iblk m c 1 t (ix3 0 d p) = QB m c (ix3 (hd t) d (rw' t p)) := by
  obtain ⟨-, ⟨h0, h1, h2⟩, -⟩ := idx0 t
  show V m c main_arg3 (((cfg0.win 1).blk t).view.emb (ix3 0 d p)) = _
  rw [V_main_arg3]
  refine congrArg (QB m c) (funext fun a => Fin.ext ?_)
  match a with
  | ⟨0, _⟩ => show win0_1.index t (0 : Fin 3) * 1 + 1 * 0 = t.val / 13; omega
  | ⟨1, _⟩ => show win0_1.index t (1 : Fin 3) * 128 + 1 * d.val = d.val; omega
  | ⟨2, _⟩ => show win0_1.index t (2 : Fin 3) * 1280 + 1 * p.val = t.val % 13 * 1280 + p.val; omega

theorem blk2 (c : Dev nD) (t : Fin cfg0.N) (n : Fin 16640) (d : Fin 128) :
    iblk m c 2 t (ix3 0 n d) = P m c (ix3 3 n (at' (hd t) d)) := by
  obtain ⟨-, -, ⟨h0, h1, h2⟩, -⟩ := idx0 t
  show V m c main_arg0 (((cfg0.win 2).blk t).view.emb (ix3 0 n d)) = _
  rw [V_main_arg0]
  refine congrArg (P m c) (funext fun a => Fin.ext ?_)
  match a with
  | ⟨0, _⟩ => show win0_2.index t (0 : Fin 3) * 1 + 1 * 0 = 3; omega
  | ⟨1, _⟩ => show win0_2.index t (1 : Fin 3) * 16640 + 1 * n.val = n.val; omega
  | ⟨2, _⟩ => show win0_2.index t (2 : Fin 3) * 128 + 1 * d.val = t.val / 13 * 128 + d.val; omega

theorem blk3 (c : Dev nD) (t : Fin cfg0.N) (n : Fin 16640) (d : Fin 128) :
    iblk m c 3 t (ix3 0 n d) = KB m c (ix3 (hd t) n d) := by
  obtain ⟨-, -, -, ⟨h0, h1, h2⟩, -⟩ := idx0 t
  show V m c main_arg2 (((cfg0.win 3).blk t).view.emb (ix3 0 n d)) = _
  rw [V_main_arg2]
  refine congrArg (KB m c) (funext fun a => Fin.ext ?_)
  match a with
  | ⟨0, _⟩ => show win0_3.index t (0 : Fin 3) * 1 + 1 * 0 = t.val / 13; omega
  | ⟨1, _⟩ => show win0_3.index t (1 : Fin 3) * 16640 + 1 * n.val = n.val; omega
  | ⟨2, _⟩ => show win0_3.index t (2 : Fin 3) * 128 + 1 * d.val = d.val; omega

theorem blk4 (c : Dev nD) (t : Fin cfg0.N) (d : Fin 128) (n : Fin 16640) :
    iblk m c 4 t (ix3 0 d n) = T m c (ix3 1 (at' (hd t) d) n) := by
  obtain ⟨-, -, -, -, ⟨h0, h1, h2⟩, -⟩ := idx0 t
  show V m c main_arg1 (((cfg0.win 4).blk t).view.emb (ix3 0 d n)) = _
  rw [V_main_arg1]
  refine congrArg (T m c) (funext fun a => Fin.ext ?_)
  match a with
  | ⟨0, _⟩ => show win0_4.index t (0 : Fin 3) * 1 + 1 * 0 = 1; omega
  | ⟨1, _⟩ => show win0_4.index t (1 : Fin 3) * 128 + 1 * d.val = t.val / 13 * 128 + d.val; omega
  | ⟨2, _⟩ => show win0_4.index t (2 : Fin 3) * 16640 + 1 * n.val = n.val; omega

theorem blk5 (c : Dev nD) (t : Fin cfg0.N) (d : Fin 128) :
    iblk m c 5 t (ix3 0 0 d) = N m c (ix2 1 (at' (hd t) d)) := by
  obtain ⟨-, -, -, -, -, ⟨h0, h1, h2⟩, -⟩ := idx0 t
  rw [← V_v2]
  show V m c main_v2 (((cfg0.win 5).blk t).view.emb (ix3 0 0 d)) = V m c main_v2 _
  refine congrArg (V m c main_v2) (funext fun a => Fin.ext ?_)
  match a with
  | ⟨0, _⟩ => show win0_5.index t (0 : Fin 3) * 1 + 1 * 0 = t.val / 13; omega
  | ⟨1, _⟩ => show win0_5.index t (1 : Fin 3) * 1 + 1 * 0 = 0; omega
  | ⟨2, _⟩ => show win0_5.index t (2 : Fin 3) * 128 + 1 * d.val = d.val; omega

/-! ## The written blocks -/

theorem masked_eq (c : Dev nD) (t : Fin cfg0.N) (p : Fin 1280) :
    masked (iblk m c 0 t) (iblk m c 1 t) (iblk m c 2 t) (iblk m c 3 t) (t.val % 13) p
      = sc (P m c) (T m c) (KB m c) (QB m c) (hd t) (rw' t p) := by
  funext n
  unfold masked sc logit
  have hr : (rw' t p).val = t.val % 13 * 1280 + p.val := rfl
  refine if_congr (by rw [hr, Nat.mul_comm]) ?_ rfl
  refine congr (congrArg HAdd.hAdd (Finset.sum_congr rfl fun d _ => ?_)) (Finset.sum_congr rfl fun d _ => ?_)
  · exact congr (congrArg HMul.hMul (blk2 m c t (key n) d)) (blk0 m c t d p)
  · exact congr (congrArg HMul.hMul (blk3 m c t (key n) d)) (blk1 m c t d p)

theorem outv_eq (c : Dev nD) (t : Fin cfg0.N) (p : Fin 1280) (e : Fin 128) :
    outv (iblk m c 0 t) (iblk m c 1 t) (iblk m c 2 t) (iblk m c 3 t) (iblk m c 4 t) (iblk m c 5 t) (t.val % 13) p e
      = out (P m c) (T m c) (KB m c) (QB m c) (N m c) (hd t) (rw' t p) e := by
  unfold outv out
  rw [masked_eq m c t p, funext fun d => blk5 m c t d, funext fun e => funext fun n => blk4 m c t e (key n)]

theorem written (c : Dev nD) (t : Fin cfg0.N) (p : Fin 1280) (e : Fin 128) :
    (dats m 0 c).flushed 6 t (ix2 p e) = out (P m c) (T m c) (KB m c) (QB m c) (N m c) (hd t) (rw' t p) e := by
  rw [← outv_eq]
  have hi : (grid0.coords t 1).val = t.val % 13 := (idx0 t).2.2.2.2.2.2.2
  rw [← hi]
  by_cases h0 : t.val % 13 = 1 ∨ t.val % 13 = 3 ∨ t.val % 13 = 5 ∨ t.val % 13 = 7 ∨ t.val % 13 = 9 ∨ t.val % 13 = 11
  · rw [flushed6_B m c t h0]
    exact block_B c (grid0.coords t) _ _ _ _ _ _ _ _ _ _ _ _ _ _ _ _ _ _ _ _ _ _ _ _ _ p e
  · rw [flushed6_A m c t h0]
    exact block_A c (grid0.coords t) _ _ _ _ _ _ _ _ _ _ _ _ _ _ _ _ _ _ _ _ _ _ _ _ _ p e

/-! ## The result array -/

/-- The attention's result. -/
def R6 (c : Dev nD) : Buf (Elt Ideal) ((c : Thread nD τ).loc main_v3) := fun (i : S16640x1024.Idx) =>
  res (P m c) (T m c) (KB m c) (QB m c) (N m c) (i 0) (i 1)

theorem res_at (P T KB QB N) (h : Fin 8) (r : Fin 16640) (e : Fin 128) : res P T KB QB N r (at' h e) = out P T KB QB N h r e := by
  have hh := h.isLt; have he := e.isLt
  have h1 : (⟨(at' h e).val / 128, by have := (at' h e).isLt; omega⟩ : Fin 8) = h :=
    Fin.ext (by show (h.val * 128 + e.val) / 128 = h.val; omega)
  have h2 : (⟨(at' h e).val % 128, Nat.mod_lt _ (by omega)⟩ : Fin 128) = e :=
    Fin.ext (by show (h.val * 128 + e.val) % 128 = e.val; omega)
  unfold res
  rw [h1, h2]

theorem flushed6' (c : Dev nD) (t : Fin cfg0.N) :
    (dats m 0 c).flushed 6 t = ((cfg0.win 6).blk t).view.read (Elt Ideal) (R6 m c) := by
  obtain ⟨-, -, -, -, -, -, ⟨h0, h1⟩, -⟩ := idx0 t
  funext y
  obtain ⟨p, q, rfl⟩ : ∃ p q, y = ix2 p q := ⟨_, _, eq_ix2 y⟩
  refine (written m c t p q).trans ?_
  show _ = R6 m c (((cfg0.win 6).blk t).view.emb (ix2 p q))
  unfold R6
  have e1 : (((cfg0.win 6).blk t).view.emb (ix2 p q) : S16640x1024.Idx) 0 = rw' t p :=
    Fin.ext (by show win0_6.index t (0 : Fin 2) * 1280 + 1 * p.val = t.val % 13 * 1280 + p.val; omega)
  have e2 : (((cfg0.win 6).blk t).view.emb (ix2 p q) : S16640x1024.Idx) 1 = at' (hd t) q :=
    Fin.ext (by show win0_6.index t (1 : Fin 2) * 128 + 1 * q.val = t.val / 13 * 128 + q.val; omega)
  exact ((congr (congrArg (res (P m c) (T m c) (KB m c) (QB m c) (N m c)) e1) e2).trans (res_at _ _ _ _ _ _ _ _)).symm

theorem mem_blk (t : Fin cfg0.N) (i : S16640x1024.Idx) :
    i ∈ ((cfg0.win 6).blk t).view.set ↔ ∀ a : Fin 2, win0_6.index t a * S1280x128.size a ≤ (i a).val ∧ (i a).val < win0_6.index t a * S1280x128.size a + S1280x128.size a := by
  show i ∈ ((View.whole main_v3).slice (win0_6.rect t)).set ↔ _
  rw [View.set_slice_whole, Rect.mem_set_unit]
  exact Iff.rfl

theorem final6 (c : Dev nD) : (dats m 0 c).arrAt 6 cfg0.N = R6 m c :=
  (dats m 0 c).arrAt_eq_of_cover 6 _ (fun t _ => flushed6' m c t) (fun (i : S16640x1024.Idx) => by
    have h0 : (i 0).val < 16640 := (i 0).isLt
    have h1 : (i 1).val < 1024 := (i 1).isLt
    have hN : cfg0.N = 104 := N_0
    have ht : (i 1).val / 128 * 13 + (i 0).val / 1280 < cfg0.N := by omega
    obtain ⟨-, -, -, -, -, -, ⟨e0, e1⟩, -⟩ := idx0 ⟨_, ht⟩
    refine ⟨⟨_, ht⟩, flush0_6 _, (mem_blk _ i).2 fun a => ?_⟩
    match a with
    | ⟨0, _⟩ =>
      show win0_6.index ⟨_, ht⟩ (0 : Fin 2) * 1280 ≤ (i 0).val ∧ (i 0).val < win0_6.index ⟨_, ht⟩ (0 : Fin 2) * 1280 + 1280
      rw [e0]; show ((i 1).val / 128 * 13 + (i 0).val / 1280) % 13 * 1280 ≤ (i 0).val ∧ (i 0).val < ((i 1).val / 128 * 13 + (i 0).val / 1280) % 13 * 1280 + 1280
      omega
    | ⟨1, _⟩ =>
      show win0_6.index ⟨_, ht⟩ (1 : Fin 2) * 128 ≤ (i 1).val ∧ (i 1).val < win0_6.index ⟨_, ht⟩ (1 : Fin 2) * 128 + 128
      rw [e1]; show ((i 1).val / 128 * 13 + (i 0).val / 1280) / 13 * 128 ≤ (i 1).val ∧ (i 1).val < ((i 1).val / 128 * 13 + (i 0).val / 1280) / 13 * 128 + 128
      omega)

/-- The run: the result array at the attention, the arguments unchanged. -/
theorem run : θ_run defs (onTc (τ := τ) (main (F := Ideal))) ⟨m, fun _ => 0, ρ⟩ fun r => ∀ c : Dev nD,
      r.2.mem ((c : Thread nD τ).loc main_v3) = R6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m c), (h c).2⟩) (Cert.FoxIdeal.Value.run_blocks m ρ)

end Cert.Proof.FoxRun

end
-- ==== Proof.FoxRefRead.lean ====
/- The attention's reference, read at an index: a masked softmax over all the keys at once. -/
module

public import proofs.«01_k».proof.Proof.Gen.FoxRefIdeal.Read
public import proofs.«01_k».proof.Proof.FoxRun
public import Idealize.ShloMosaic.Lib.WordCmp

@[expose] public section

noncomputable section

namespace Cert.Proof.FoxRefRead

open Cert.FoxRefIdeal Cert.FoxRefIdeal.Gen Cert.FoxRefIdeal.Read Idealize.ShloMosaic Idealize.ShloMosaic.TcCoe Idealize.SL.Sem Idealize.ShloMosaic.ValueIdx
open Cert.Proof.FoxRun (at' sc out res)
open Cert.Proof.FoxScore (key)
open Cert.Proof.FoxBlock (norm attend)
open Cert.Proof.FoxState (negInf)
open Cert.Proof.FoxMath
open scoped BigOperators

variable (P : S4x16640x1024.Idx → EReal) (T : S2x1024x16640.Idx → EReal) (KB : S8x16640x128.Idx → EReal) (QB : S8x128x16640.Idx → EReal)
  (N : S2x1024.Idx → EReal)

theorem key_val (k : Fin 16640) : key k.val = k := Fin.ext (Nat.mod_eq_of_lt k.isLt)

/-! ## The operands, by head -/

theorem q_eq (h : Fin 8) (d : Fin 128) (r : Fin 16640) : val_main_v3 (F := Ideal) T (ix3 h d r) = T (ix3 0 (at' h d) r) := by
  rw [val_main_v3_apply, val_main_v2_apply, val_main_v1_apply, val_main_v0_apply]
  refine congrArg T (funext fun a => Fin.ext ?_)
  have := h.isLt; have := d.isLt; have := r.isLt
  match a with
  | ⟨0, _⟩ => rfl
  | ⟨1, _⟩ =>
    show (((h.val * 128 + d.val) * 16640 + r.val) / 16640 * 16640 + ((h.val * 128 + d.val) * 16640 + r.val) % 16640) / 16640 % 1024 = h.val * 128 + d.val
    omega
  | ⟨2, _⟩ =>
    show (((h.val * 128 + d.val) * 16640 + r.val) / 16640 * 16640 + ((h.val * 128 + d.val) * 16640 + r.val) % 16640) % 16640 = r.val
    omega

theorem v_eq (h : Fin 8) (d : Fin 128) (r : Fin 16640) : val_main_v7 (F := Ideal) T (ix3 h d r) = T (ix3 1 (at' h d) r) := by
  rw [val_main_v7_apply, val_main_v6_apply, val_main_v5_apply, val_main_v4_apply]
  refine congrArg T (funext fun a => Fin.ext ?_)
  have := h.isLt; have := d.isLt; have := r.isLt
  match a with
  | ⟨0, _⟩ => rfl
  | ⟨1, _⟩ =>
    show (((h.val * 128 + d.val) * 16640 + r.val) / 16640 * 16640 + ((h.val * 128 + d.val) * 16640 + r.val) % 16640) / 16640 % 1024 = h.val * 128 + d.val
    omega
  | ⟨2, _⟩ =>
    show (((h.val * 128 + d.val) * 16640 + r.val) / 16640 * 16640 + ((h.val * 128 + d.val) * 16640 + r.val) % 16640) % 16640 = r.val
    omega

theorem k_eq (n : Fin 16640) (h : Fin 8) (d : Fin 128) : val_main_v11 (F := Ideal) P (ix3 n h d) = P (ix3 3 n (at' h d)) := by
  rw [val_main_v11_apply, val_main_v10_apply, val_main_v9_apply, val_main_v8_apply]
  refine congrArg P (funext fun a => Fin.ext ?_)
  have := h.isLt; have := d.isLt; have := n.isLt
  match a with
  | ⟨0, _⟩ => rfl
  | ⟨1, _⟩ =>
    show (((n.val * 8 + h.val) * 128 + d.val) / 1024 * 1024 + ((n.val * 8 + h.val) * 128 + d.val) % 1024) / 1024 % 16640 = n.val
    omega
  | ⟨2, _⟩ =>
    show (((n.val * 8 + h.val) * 128 + d.val) / 1024 * 1024 + ((n.val * 8 + h.val) * 128 + d.val) % 1024) % 1024 = h.val * 128 + d.val
    omega

/-! ## The masked logits -/

theorem logits_eq (h : Fin 8) (r n : Fin 16640) : val_main_v16 (F := Ideal) P T KB QB (ix3 h r n)
    = (∑ d : Fin 128, P (ix3 3 n (at' h d)) * T (ix3 0 (at' h d) r)) + ∑ e : Fin 128, KB (ix3 h n e) * QB (ix3 h e r) := by
  rw [val_main_v16_apply]
  refine congrArg₂ (fun a b : EReal => a + b) ?_ ?_
  · rw [val_main_v15_apply]
    refine Finset.sum_congr rfl fun d _ => (mul_comm _ _).trans (congr (congrArg HMul.hMul ?_) ?_)
    · refine Eq.trans (congrArg _ (funext fun a => ?_)) (k_eq P n h d)
      match a with | ⟨0, _⟩ => rfl | ⟨1, _⟩ => rfl | ⟨2, _⟩ => rfl
    · refine Eq.trans (congrArg _ (funext fun a => ?_)) (q_eq T h d r)
      match a with | ⟨0, _⟩ => rfl | ⟨1, _⟩ => rfl | ⟨2, _⟩ => rfl
  · rw [val_main_v14_apply]
    refine Finset.sum_congr rfl fun e _ => (mul_comm _ _).trans (congr (congrArg HMul.hMul ?_) ?_)
    · rw [val_main_v13_apply]
      refine congrArg KB (funext fun a => ?_)
      match a with | ⟨0, _⟩ => rfl | ⟨1, _⟩ => rfl | ⟨2, _⟩ => rfl
    · rw [val_main_v12_apply]
      refine congrArg QB (funext fun a => ?_)
      match a with | ⟨0, _⟩ => rfl | ⟨1, _⟩ => rfl | ⟨2, _⟩ => rfl

theorem sc_eq (h : Fin 8) (r n : Fin 16640) : val_main_v23 (F := Ideal) P T KB QB (ix3 h r n) = sc P T KB QB h r n.val := by
  rw [val_main_v23_apply, logits_eq, val_main_call0_v1_apply, val_main_v22_apply, val_main_v20_apply, val_main_v21_apply, val_main_v18_apply,
    val_main_v19_apply, val_main_v17_apply, val_main_v17_apply, val_main_call0_v2_apply, val_main_call0_v0_apply, val_main_cst_apply]
  unfold sc Scalar.select
  rw [key_val]
  have hn := n.isLt; have hr := r.isLt
  have hiff : IntOp.cmpi .sle (BitVec.ofNat 32 n.val) (BitVec.ofNat 32 r.val) = 1#1 ↔ n.val ≤ r.val :=
    WordCmp.cmpi_sle_ofNat_eq_one_iff (by show _ < 2 ^ 31; omega) (by show _ < 2 ^ 31; omega)
  exact if_congr hiff rfl negInf

theorem max_eq (h : Fin 8) (r : Fin 16640) : val_main_v25 (F := Ideal) P T KB QB (ix2 h r) = mx (sc P T KB QB h r) 16640 := by
  have hred : S8x16640x16640.Reduces [2] S8x16640 := by decide
  unfold val_main_v25
  refine (Host.reduce_eq_fold_single FloatOps.maximumf _ _ reducesTo_S8x16640x16640_S8x16640_d2 hred h_S_ (ix2 h r)).trans ?_
  have e : (val_main_v23 (F := Ideal) P T KB QB ∘ hred.lift (ix2 h r)) = fun k : Fin 16640 => sc P T KB QB h r k.val := by
    funext k
    refine Eq.trans (congrArg (val_main_v23 (F := Ideal) P T KB QB) ?_) (sc_eq P T KB QB h r k)
    funext a; apply Fin.ext
    match a with
    | ⟨0, _⟩ => rfl
    | ⟨1, _⟩ => rfl
    | ⟨2, _⟩ => rfl
  rw [e, val_main_cst_1_apply, show (FloatOps.ofBits (F := Ideal) .f32 0xFF800000#32 : EReal) = ⊥ from negInf]
  show (Finset.univ : Finset (Fin 16640)).sup (fun k : Fin 16640 => sc P T KB QB h r k.val) = mx (sc P T KB QB h r) 16640
  unfold mx
  refine le_antisymm (Finset.sup_le fun k _ => Finset.le_sup (f := sc P T KB QB h r) (Finset.mem_range.2 k.isLt)) (Finset.sup_le fun k hk => ?_)
  exact Finset.le_sup (f := fun k : Fin 16640 => sc P T KB QB h r k.val) (Finset.mem_univ ⟨k, Finset.mem_range.1 hk⟩)

theorem log2_eq (i : S_.Idx) : val_main_v24 (F := Ideal) i = ((Real.log 2 : ℝ) : EReal) := by
  rw [val_main_v24_apply, val_main_cst_0_apply]
  show Ideal.log (Ideal.ofBits .f32 0x40000000#32) = _
  have h : Ideal.ofBits .f32 0x40000000#32 = ((2 : ℝ) : EReal) := by
    simp [Ideal.ofBits, Ideal.ieee]
    rw [← EReal.coe_mul]
    norm_num
  rw [h, Ideal.log_coe, if_neg (by norm_num)]

/-- A key's softmax weight before the division. -/
theorem weight_eq (h : Fin 8) (r n : Fin 16640) :
    val_main_v31 (F := Ideal) P T KB QB (ix3 h r n) = w (sc P T KB QB h r n.val) (mx (sc P T KB QB h r) 16640) := by
  rw [val_main_v31_apply, val_main_v30_apply, val_main_v29_apply, log2_eq, val_main_v28_apply, sc_eq, val_main_v27_apply, val_main_v26_apply]
  have hm : val_main_v25 (F := Ideal) P T KB QB (idx_main_v26 (idx_main_v27 (ix3 h r n))) = mx (sc P T KB QB h r) 16640 := by
    refine Eq.trans (congrArg _ (funext fun a => ?_)) (max_eq P T KB QB h r)
    match a with | ⟨0, _⟩ => rfl | ⟨1, _⟩ => rfl
  rw [hm]
  exact exp_log2 _

/-! ## The attention and its norm -/

theorem num_eq (h : Fin 8) (r : Fin 16640) (e : Fin 128) :
    val_main_v32 (F := Ideal) P T KB QB (ix3 h r e) = acc (sc P T KB QB h r) (fun n => T (ix3 1 (at' h e) (key n))) 16640 := by
  rw [val_main_v32_apply]
  unfold acc
  rw [Finset.sum_range]
  refine Finset.sum_congr rfl fun n _ => (mul_comm _ _).trans (congr (congrArg HMul.hMul ?_) ?_)
  · show _ = T (ix3 1 (at' h e) (key n.val))
    rw [key_val]
    refine Eq.trans (congrArg _ (funext fun a => ?_)) (v_eq T h e n)
    match a with | ⟨0, _⟩ => rfl | ⟨1, _⟩ => rfl | ⟨2, _⟩ => rfl
  · refine Eq.trans (congrArg _ (funext fun a => ?_)) (weight_eq P T KB QB h r n)
    match a with | ⟨0, _⟩ => rfl | ⟨1, _⟩ => rfl | ⟨2, _⟩ => rfl

theorem den_eq (h : Fin 8) (r : Fin 16640) :
    val_main_v33 (F := Ideal) P T KB QB (ix2 h r) = acc (sc P T KB QB h r) (fun _ => 1) 16640 := by
  rw [val_main_v33_apply, val_main_cst_2_apply]
  unfold acc
  rw [Finset.sum_range]
  refine (congrArg (· + _) Ideal.ofBits_zero_f32).trans ((zero_add _).trans (Finset.sum_congr rfl fun n _ => Eq.trans ?_ (one_mul _).symm))
  refine Eq.trans (congrArg _ (funext fun a => ?_)) (weight_eq P T KB QB h r n)
  match a with | ⟨0, _⟩ => rfl | ⟨1, _⟩ => rfl | ⟨2, _⟩ => rfl

theorem attend_eq (h : Fin 8) (r : Fin 16640) (e : Fin 128) :
    val_main_v36 (F := Ideal) P T KB QB (ix3 h r e) = attend (sc P T KB QB h r) (fun e n => T (ix3 1 (at' h e) (key n))) e := by
  rw [val_main_v36_apply, num_eq, val_main_v35_apply, val_main_v34_apply]
  refine congrArg (Ideal.div _) ?_
  refine Eq.trans (congrArg _ (funext fun a => ?_)) (den_eq P T KB QB h r)
  match a with | ⟨0, _⟩ => rfl | ⟨1, _⟩ => rfl

theorem squares_eq (h : Fin 8) (r : Fin 16640) (u : Fin 1) :
    val_main_v39 (F := Ideal) P T KB QB (ix3 h r u)
      = ∑ d : Fin 128, attend (sc P T KB QB h r) (fun e n => T (ix3 1 (at' h e) (key n))) d * attend (sc P T KB QB h r) (fun e n => T (ix3 1 (at' h e) (key n))) d := by
  rw [val_main_v39_apply, val_main_v38_apply, val_main_cst_3_apply]
  refine (congrArg (· + _) Ideal.ofBits_zero_f32).trans ((zero_add _).trans (Finset.sum_congr rfl fun d _ => ?_))
  rw [val_main_v37_apply]
  have ha : val_main_v36 (F := Ideal) P T KB QB (idx_main_v38 (idx_main_v39 (ix3 h r u)) d)
      = attend (sc P T KB QB h r) (fun e n => T (ix3 1 (at' h e) (key n))) d := by
    refine Eq.trans (congrArg _ (funext fun a => ?_)) (attend_eq P T KB QB h r d)
    match a with | ⟨0, _⟩ => rfl | ⟨1, _⟩ => rfl | ⟨2, _⟩ => rfl
  rw [ha]; rfl

theorem out_eq (h : Fin 8) (r : Fin 16640) (e : Fin 128) : val_main_v51 (F := Ideal) P T KB QB N (ix3 h r e) = out P T KB QB N h r e := by
  have hs : val_main_v45 (F := Ideal) P T KB QB (ix3 h r e)
      = Ideal.rsqrt (Ideal.div (∑ d : Fin 128, attend (sc P T KB QB h r) (fun e n => T (ix3 1 (at' h e) (key n))) d * attend (sc P T KB QB h r) (fun e n => T (ix3 1 (at' h e) (key n))) d)
          (Ideal.ofBits .f32 0x43000000#32) + Ideal.ofBits .f32 0x358637BD#32) := by
    rw [val_main_v45_apply, val_main_v44_apply, val_main_v43_apply, val_main_v41_apply, val_main_v42_apply, val_main_v40_apply, val_main_cst_4_apply, val_main_cst_5_apply]
    have hq : val_main_v39 (F := Ideal) P T KB QB (idx_main_v45 (ix3 h r e)) = val_main_v39 (F := Ideal) P T KB QB (ix3 h r 0) := by
      refine congrArg _ (funext fun a => ?_)
      match a with | ⟨0, _⟩ => rfl | ⟨1, _⟩ => rfl | ⟨2, _⟩ => rfl
    rw [hq, squares_eq]
    generalize (∑ d : Fin 128, attend (sc P T KB QB h r) (fun e n => T (ix3 1 (at' h e) (key n))) d * attend (sc P T KB QB h r) (fun e n => T (ix3 1 (at' h e) (key n))) d) = z
    rfl
  have hn : val_main_v50 (F := Ideal) N (ix3 h r e) = N (ix2 1 (at' h e)) := by
    rw [val_main_v50_apply, val_main_v49_apply, val_main_v48_apply, val_main_v47_apply]
    refine congrArg N (funext fun a => Fin.ext ?_)
    have := h.isLt; have := e.isLt
    match a with
    | ⟨0, _⟩ => rfl
    | ⟨1, _⟩ => show ((h.val * 1 + 0) * 128 + e.val) % 1024 = h.val * 128 + e.val; omega
  rw [val_main_v51_apply, val_main_v46_apply, attend_eq, hs, hn]
  unfold out Cert.Proof.FoxBlock.norm
  exact rfl

theorem result_eq (i : S16640x1024.Idx) : val_main_v54 (F := Ideal) P T KB QB N i = res P T KB QB N (i 0) (i 1) := by
  rw [val_main_v54_apply, val_main_v53_apply, val_main_v52_apply]
  have h0 : (i 0).val < 16640 := (i 0).isLt
  have h1 : (i 1).val < 1024 := (i 1).isLt
  unfold res
  refine Eq.trans (congrArg (val_main_v51 (F := Ideal) P T KB QB N) (funext fun a => Fin.ext ?_)) (out_eq P T KB QB N _ _ _)
  match a with
  | ⟨0, _⟩ => show ((i 0).val * 1024 + (i 1).val) / 128 % 8 = (i 1).val / 128; omega
  | ⟨1, _⟩ => show ((i 0).val * 1024 + (i 1).val) / 1024 = (i 0).val; omega
  | ⟨2, _⟩ => show ((i 0).val * 1024 + (i 1).val) % 128 = (i 1).val % 128; omega

end Cert.Proof.FoxRefRead

end
-- ==== Proof.FoxClaims.lean ====
/- The attention's claims: the reference's frame, the mask's name and the two programs' equal results. -/
module

public import proofs.«01_k».proof.Proof.FoxRefRead
public import proofs.«01_k».proof.Defs

@[expose] public section

noncomputable section

namespace Cert.Proof.FoxClaims

open Idealize.ShloMosaic Idealize.ShloMosaic.TcCoe Idealize.SL.Sem

theorem frame_ref : Cert.quiescent_FoxRefIdeal (hFoxRefIdeal := Cert.FoxRefIdeal.Gen.facts) := fun m ρ _ =>
  (θ_run Cert.FoxRefIdeal.defs _ _).mono
    (fun r h => ⟨fun c => (h c).2, Idealize.ShloMosaic.sem_eq_zero_of_no_sems (by decide) r.2⟩)
    (Cert.FoxRefIdeal.Value.run (F := Ideal) m ρ)

theorem preserves : Cert.preserves_Fox_FoxIdeal :=
  IdealRules.named_const.statement Cert.FoxIdeal.κ "mask" .f32 0xF149F2CA#32 _ rfl

theorem algebraic : Cert.algebraic_FoxIdeal_FoxRefIdeal (hFoxIdeal := Cert.FoxIdeal.Gen.facts) (hFoxRefIdeal := Cert.FoxRefIdeal.Gen.facts) := by
  intro m ρ m' ρ' _ hagree
  refine ⟨fun c => _, Cert.Proof.FoxRun.run m ρ, ?_⟩
  refine (θ_run Cert.FoxRefIdeal.defs _ _).mono (fun r h c => ?_) (Cert.FoxRefIdeal.Value.run (F := Ideal) m' ρ')
  obtain ⟨e0, e1, e2, e3, e4⟩ := hagree c
  obtain ⟨r0, ha⟩ := h c
  refine ⟨r0.trans ?_, ha⟩
  rw [Cert.FoxRefIdeal.Read.val_main_v54_eq, e0, e1, e2, e3, e4]
  exact funext fun i => Cert.Proof.FoxRefRead.result_eq _ _ _ _ _ i

end Cert.Proof.FoxClaims

end
-- ==== Proof.OutprojPayload.lean ====
/- What the output projection kernel stores for a block of 256 rows, at an index: the layer normalisation of the scaled
   stream plus the two branches' products. The kernel works through the block in two halves of 128 rows. -/
module

public import proofs.«01_k».proof.Proof.Gen.OutprojIdeal.Value
public import proofs.«01_k».proof.Proof.LayerNorm
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost

@[expose] public section

noncomputable section

namespace Cert.Proof.OutprojPayload

open Cert.OutprojIdeal Cert.OutprojIdeal.Gen Idealize.ShloMosaic Idealize.ShloMosaic.TcCoe Idealize.SL.Sem Idealize.ShloMosaic.ValueIdx
open scoped BigOperators

/-! ## A half block -/

/-- The rows a half block normalises: the scaled stream plus the two products. -/
def half (a : Vec Ideal S128x1024 .bf16) (u : Vec Ideal S1024x2048 .bf16) (b : Vec Ideal S128x1024 .bf16)
    (v : Vec Ideal S1024x2048 .bf16) (h : Vec Ideal S128x2048 .f32) (p : Fin 128) (q : Fin 2048) : EReal :=
  Ideal.ofBits .f32 0x3FB504F3#32 * h (ix2 p q)
    + ((∑ k : Fin 1024, a (ix2 p k) * u (ix2 k q)) + ∑ k : Fin 1024, b (ix2 p k) * v (ix2 k q))

theorem product (a : FVec Ideal S128x1024 .bf16) (u : FVec Ideal S1024x2048 .bf16) (p : Fin 128) (q : Fin 2048) :
    matmul dot_S128x1024_S1024x2048_S128x2048_1_0_0_1_n_n none a u (constant S128x2048 .f32 0x00000000#32) (ix2 p q)
      = ∑ k : Fin 1024, a (ix2 p k) * u (ix2 k q) := by
  have h0 : (constant S128x2048 .f32 0x00000000#32 : FVec Ideal S128x2048 .f32) (ix2 p q) = (0 : EReal) := Ideal.ofBits_zero_f32
  have h := Ideal.matmul_plain_apply (M := 128) (K := 1024) (N := 2048) (φ₁ := .bf16) (φ₂ := .bf16) none a u
    (constant S128x2048 .f32 0x00000000#32) p q
  rw [h0, zero_add] at h
  exact h

theorem sum_row (z : FVec Ideal S128x2048 .f32) (p : Fin 128) :
    multiReduction .add [1] S128 z 0x00000000#32 reduces_S128x2048_S128 (.inl rfl) rfl (ix1 p) = ∑ k : Fin 2048, z (ix2 p k) := by
  refine (Ideal.multiReduction_add_single z _ reduces_S128x2048_S128 _ _ (ix1 p)).trans ?_
  refine Finset.sum_congr rfl fun k _ => congrArg z ?_
  funext a; apply Fin.ext
  match a with
  | ⟨0, _⟩ => rfl
  | ⟨1, _⟩ => rfl

theorem col (v : FVec Ideal S128x1 .f32) (p : Fin 128) (q : Fin 2048) :
    broadcastTo S128x2048 v broadcasts_S128x1_S128x2048 (ix2 p q) = v (ix2 p 0) :=
  broadcastTo_apply v _ _ (ix2 p 0) fun a => match a with
    | ⟨0, _⟩ => rfl
    | ⟨1, _⟩ => rfl

/-- A column of row sums over the row length. -/
def meanCol (z : FVec Ideal S128x2048 .f32) : FVec Ideal S128x1 .f32 :=
  divf (shapeCast S128x1 (multiReduction .add [1] S128 z 0x00000000#32 reduces_S128x2048_S128 (.inl rfl) rfl) shapeCasts_S128_S128x1)
    (broadcast S128x1 (Scalar.ofBits .f32 0x45000000#32))

theorem meanCol_apply (z : FVec Ideal S128x2048 .f32) (p : Fin 128) :
    meanCol z (ix2 p 0) = Ideal.div (∑ k : Fin 2048, z (ix2 p k)) (Ideal.ofBits .f32 0x45000000#32) := by
  unfold meanCol
  rw [← sum_row]
  exact congrArg (Ideal.div · (Ideal.ofBits .f32 0x45000000#32)) (shapeCast_a_a1_apply _ _ p 0)

/-- The rows less their means. -/
def centred (z : FVec Ideal S128x2048 .f32) : FVec Ideal S128x2048 .f32 :=
  subf z (broadcastTo S128x2048 (meanCol z) broadcasts_S128x1_S128x2048)

theorem centred_apply (z : FVec Ideal S128x2048 .f32) (p : Fin 128) (q : Fin 2048) :
    centred z (ix2 p q) = z (ix2 p q) - LayerNorm.mean fun k => z (ix2 p k) := by
  show z (ix2 p q) - broadcastTo S128x2048 (meanCol z) broadcasts_S128x1_S128x2048 (ix2 p q) = _
  rw [col, meanCol_apply]; rfl

/-- The half block's normalisation as the kernel spells it. -/
def normed (z : FVec Ideal S128x2048 .f32) (g b : FVec Ideal S1x2048 .f32) : FVec Ideal S128x2048 .f32 :=
  addf (mulf (mulf (centred z)
      (broadcastTo S128x2048 (rsqrt (addf (meanCol (mulf (centred z) (centred z))) (broadcast S128x1 (Scalar.ofBits .f32 0x3727C5AC#32))))
        broadcasts_S128x1_S128x2048))
      (broadcastTo S128x2048 g broadcasts_S1x2048_S128x2048))
    (broadcastTo S128x2048 b broadcasts_S1x2048_S128x2048)

theorem normed_apply (z : FVec Ideal S128x2048 .f32) (g b : FVec Ideal S1x2048 .f32) (p : Fin 128) (q : Fin 2048) :
    normed z g b (ix2 p q) = LayerNorm.norm (fun k => z (ix2 p k)) (fun k => g (ix2 0 k)) (fun k => b (ix2 0 k)) q := by
  have hv : meanCol (mulf (centred z) (centred z)) (ix2 p 0) = LayerNorm.var fun k => z (ix2 p k) := by
    rw [meanCol_apply]
    unfold LayerNorm.var
    refine congrArg (Ideal.div · _) (Finset.sum_congr rfl fun k _ => ?_)
    show centred z (ix2 p k) * centred z (ix2 p k) = _
    rw [centred_apply]
  show centred z (ix2 p q)
      * broadcastTo S128x2048 (rsqrt (addf (meanCol (mulf (centred z) (centred z))) (broadcast S128x1 (Scalar.ofBits .f32 0x3727C5AC#32))))
          broadcasts_S128x1_S128x2048 (ix2 p q)
      * broadcastTo S128x2048 g broadcasts_S1x2048_S128x2048 (ix2 p q)
      + broadcastTo S128x2048 b broadcasts_S1x2048_S128x2048 (ix2 p q) = _
  rw [col, centred_apply, broadcastTo_1b_ab_apply, broadcastTo_1b_ab_apply]
  show (z (ix2 p q) - LayerNorm.mean fun k => z (ix2 p k))
      * Ideal.rsqrt (meanCol (mulf (centred z) (centred z)) (ix2 p 0) + Ideal.ofBits .f32 0x3727C5AC#32) * g (ix2 0 q) + b (ix2 0 q) = _
  rw [hv]; rfl

theorem pay3_apply (a : Vec Ideal S128x1024 .bf16) (u : Vec Ideal S1024x2048 .bf16) (b : Vec Ideal S128x1024 .bf16)
    (v : Vec Ideal S1024x2048 .bf16) (h : Vec Ideal S128x2048 .f32) (g s : Vec Ideal S1x2048 .f32) (p : Fin 128) (q : Fin 2048) :
    k0_pay3 (F := Ideal) a u b v h g s (ix2 p q)
      = LayerNorm.norm (half a u b v h p) (fun k => g (ix2 0 k)) (fun k => s (ix2 0 k)) q := by
  unfold k0_pay3
  simp only [shapeCast_self]
  let z : FVec Ideal S128x2048 .f32 := addf (mulf (broadcast S128x2048 (Scalar.ofBits .f32 0x3FB504F3#32)) h)
    (addf (matmul (φ₁ := .bf16) (φ₂ := .bf16) dot_S128x1024_S1024x2048_S128x2048_1_0_0_1_n_n none a u (constant S128x2048 .f32 0x00000000#32))
      (matmul (φ₁ := .bf16) (φ₂ := .bf16) dot_S128x1024_S1024x2048_S128x2048_1_0_0_1_n_n none b v (constant S128x2048 .f32 0x00000000#32)))
  have hz : (fun k => z (ix2 p k)) = half a u b v h p := funext fun k =>
    congrArg (Ideal.ofBits .f32 0x3FB504F3#32 * h (ix2 p k) + ·) (congrArg₂ (fun x y : EReal => x + y) (product a u p k) (product b v p k))
  refine (normed_apply z g s p q).trans ?_
  rw [hz]

/-- The second half's result is the first half's at the second half's operands. -/
theorem second (a : Vec Ideal S128x1024 .bf16) (u : Vec Ideal S1024x2048 .bf16) (b : Vec Ideal S128x1024 .bf16)
    (v : Vec Ideal S1024x2048 .bf16) (h : Vec Ideal S128x2048 .f32) (g s : Vec Ideal S1x2048 .f32) :
    k0_pay1 (F := Ideal) (k0_pay5 g) (k0_pay6 s) (k0_pay7 a u b v h) (k0_pay8 a u b v h) k0_pay9 = k0_pay3 a u b v h g s := rfl

/-! ## The block -/

section Block

variable (x0 x1 : Vec Ideal S256x1024 .bf16) (x2 : Vec Ideal S2048x2048 .bf16) (x3 x4 : Vec Ideal S256x2048 .f32)
  (x5 x6 : Vec Ideal S1x2048 .f32)

/-- The rows a block normalises. -/
def resid (p : Fin 256) (q : Fin 2048) : EReal :=
  Ideal.ofBits .f32 0x3FB504F3#32 * x4 (ix2 p q)
    + ((∑ k : Fin 1024, x0 (ix2 p k) * x2 (ix2 ⟨k.val, by omega⟩ q)) + ∑ k : Fin 1024, x1 (ix2 p k) * x2 (ix2 ⟨1024 + k.val, by omega⟩ q))

theorem ld_rows (o : ℕ) (x : Vec Ideal S256x1024 .bf16) (inb) (p : Fin 128) (k : Fin 1024) (r : Fin 256) (hr : r.val = o + p.val) :
    View.ld x (Rect.unit (s := S256x1024) ![o, 0] S128x1024.size inb) (ix2 p k) = x (ix2 r k) := by
  refine congrArg x (funext fun a => Fin.ext ?_)
  match a with
  | ⟨0, _⟩ => show o + 1 * p.val = r.val; omega
  | ⟨1, _⟩ => show 0 + 1 * k.val = k.val; omega

theorem ld_stream (o : ℕ) (x : Vec Ideal S256x2048 .f32) (inb) (p : Fin 128) (q : Fin 2048) (r : Fin 256) (hr : r.val = o + p.val) :
    View.ld x (Rect.unit (s := S256x2048) ![o, 0] S128x2048.size inb) (ix2 p q) = x (ix2 r q) := by
  refine congrArg x (funext fun a => Fin.ext ?_)
  match a with
  | ⟨0, _⟩ => show o + 1 * p.val = r.val; omega
  | ⟨1, _⟩ => show 0 + 1 * q.val = q.val; omega

theorem ld_weights (o : ℕ) (x : Vec Ideal S2048x2048 .bf16) (inb) (k : Fin 1024) (q : Fin 2048) (r : Fin 2048) (hr : r.val = o + k.val) :
    View.ld x (Rect.unit (s := S2048x2048) ![o, 0] S1024x2048.size inb) (ix2 k q) = x (ix2 r q) := by
  refine congrArg x (funext fun a => Fin.ext ?_)
  match a with
  | ⟨0, _⟩ => show o + 1 * k.val = r.val; omega
  | ⟨1, _⟩ => show 0 + 1 * q.val = q.val; omega

theorem ld_line (x : Vec Ideal S1x2048 .f32) (q : Fin 2048) : View.ld x r0_4 (ix2 0 q) = x (ix2 0 q) := by
  refine congrArg x (funext fun a => Fin.ext ?_)
  match a with
  | ⟨0, _⟩ => rfl
  | ⟨1, _⟩ => show 0 + 1 * q.val = q.val; omega

theorem half_eq (o : ℕ) (i1 i2 i3) (p : Fin 128) (r : Fin 256) (hr : r.val = o + p.val) :
    half (View.ld x0 (Rect.unit (s := S256x1024) ![o, 0] S128x1024.size i1)) (View.ld x2 r0_1)
        (View.ld x1 (Rect.unit (s := S256x1024) ![o, 0] S128x1024.size i2)) (View.ld x2 r0_2)
        (View.ld x4 (Rect.unit (s := S256x2048) ![o, 0] S128x2048.size i3)) p
      = resid x0 x1 x2 x4 r := by
  funext q
  unfold half resid
  rw [ld_stream o x4 i3 p q r hr]
  refine congrArg _ (congrArg₂ (fun x y : EReal => x + y) (Finset.sum_congr rfl fun k _ => ?_) (Finset.sum_congr rfl fun k _ => ?_))
  · rw [ld_rows o x0 i1 p k r hr, ld_weights 0 x2 _ k q ⟨k.val, by omega⟩ (by show k.val = 0 + k.val; omega)]
  · rw [ld_rows o x1 i2 p k r hr, ld_weights 1024 x2 _ k q ⟨1024 + k.val, by omega⟩ rfl]

/-- A row of the block's result. -/
def rowOut (p : Fin 256) (q : Fin 2048) : EReal :=
  LayerNorm.norm (resid x0 x1 x2 x4 p) (fun k => x5 (ix2 0 k)) (fun k => x6 (ix2 0 k)) q

theorem first_at (p : Fin 128) (q : Fin 2048) (r : Fin 256) (hr : r.val = p.val) :
    k0_pay10 (F := Ideal) x0 x1 x2 x3 x4 x5 x6 (ix2 p q) = rowOut x0 x1 x2 x4 x5 x6 r q := by
  unfold k0_pay10 rowOut
  rw [pay3_apply, half_eq x0 x1 x2 x4 0 _ _ _ p r (by omega)]
  exact congrArg₂ (fun u v => LayerNorm.norm (resid x0 x1 x2 x4 r) u v q) (funext fun k => ld_line x5 k) (funext fun k => ld_line x6 k)

theorem second_at (p : Fin 128) (q : Fin 2048) (r : Fin 256) (hr : r.val = 128 + p.val) :
    k0_pay1 (F := Ideal) (k0_pay11 x0 x1 x2 x3 x4 x5 x6) (k0_pay12 x0 x1 x2 x3 x4 x5 x6) (k0_pay13 x0 x1 x2 x3 x4 x5 x6)
      (k0_pay14 x0 x1 x2 x3 x4 x5 x6) (k0_pay15 x0 x1 x2 x3 x4 x5 x6) (ix2 p q) = rowOut x0 x1 x2 x4 x5 x6 r q := by
  unfold k0_pay11 k0_pay12 k0_pay13 k0_pay14 k0_pay15 rowOut
  rw [second, pay3_apply, half_eq x0 x1 x2 x4 128 _ _ _ p r hr]
  exact congrArg₂ (fun u v => LayerNorm.norm (resid x0 x1 x2 x4 r) u v q) (funext fun k => ld_line x5 k) (funext fun k => ld_line x6 k)

/-- Two half-block writes, read at a row. -/
theorem canon_at {e : EltTy} (w1 w0 : Vec Ideal S128x2048 e) (p : Fin 256) (q : Fin 2048) (v : Elt Ideal e)
    (h0 : ∀ r : Fin 128, p.val = r.val → w0 (ix2 r q) = v) (h1 : ∀ r : Fin 128, p.val = 128 + r.val → w1 (ix2 r q) = v) :
    View.canon (Val := Elt Ideal) [⟨r0_6, w1⟩, ⟨r0_3, w0⟩] (ix2 p q) = v := by
  by_cases h : p.val < 128
  · have hn : (ix2 p q : S256x2048.Idx) ∉ r0_6.set := by
      rw [Rect.mem_set_unit]
      intro hc
      have : 128 ≤ p.val := (hc 0).1
      omega
    rw [View.canon_cons_of_not_mem (p := ⟨r0_6, w1⟩) (h := hn)]
    have he : r0_3.emb (ix2 ⟨p.val, h⟩ q) = ix2 p q := funext fun a => Fin.ext (by
      match a with
      | ⟨0, _⟩ => show 0 + 1 * p.val = p.val; omega
      | ⟨1, _⟩ => show 0 + 1 * q.val = q.val; omega)
    rw [← he, View.canon_cons_emb]
    exact h0 _ rfl
  · have hp := p.isLt
    have he : r0_6.emb (ix2 ⟨p.val - 128, by omega⟩ q) = ix2 p q := funext fun a => Fin.ext (by
      match a with
      | ⟨0, _⟩ => show 128 + 1 * (p.val - 128) = p.val; omega
      | ⟨1, _⟩ => show 0 + 1 * q.val = q.val; omega)
    rw [← he, View.canon_cons_emb]
    exact h1 _ (by show p.val = 128 + (p.val - 128); omega)

theorem out7_apply (p : Fin 256) (q : Fin 2048) :
    out0_7 (F := Ideal) x0 x1 x2 x3 x4 x5 x6 (ix2 p q) = rowOut x0 x1 x2 x4 x5 x6 p q :=
  canon_at _ _ p q _ (fun r hr => first_at x0 x1 x2 x3 x4 x5 x6 r q p hr) (fun r hr => second_at x0 x1 x2 x3 x4 x5 x6 r q p hr)

theorem out8_apply (p : Fin 256) (q : Fin 2048) :
    out0_8 (F := Ideal) x0 x1 x2 x3 x4 x5 x6 (ix2 p q) = rowOut x0 x1 x2 x4 x5 x6 p q :=
  canon_at _ _ p q _ (fun r hr => first_at x0 x1 x2 x3 x4 x5 x6 r q p hr) (fun r hr => second_at x0 x1 x2 x3 x4 x5 x6 r q p hr)

end Block

end Cert.Proof.OutprojPayload

end
-- ==== Proof.OutprojRefRead.lean ====
/- The output projection's result, entry by entry, and its reference read at an index. -/
module

public import proofs.«01_k».proof.Proof.Gen.OutprojRefIdeal.Read
public import proofs.«01_k».proof.Proof.LayerNorm
public import Idealize.ShloMosaic.Lib.IdealHost
public import Idealize.ShloMosaic.Lib.ValueLayout
public import Idealize.ShloMosaic.Lib.KernelVsHost

@[expose] public section

noncomputable section

namespace Cert.Proof.OutprojRefRead

open Cert.OutprojRefIdeal Cert.OutprojRefIdeal.Gen Cert.OutprojRefIdeal.Read Idealize.ShloMosaic Idealize.ShloMosaic.TcCoe Idealize.SL.Sem Idealize.ShloMosaic.ValueIdx
open scoped BigOperators

variable (a f : S16640x1024.Idx → EReal) (w : S2x2048x2048.Idx → EReal) (h : S16640x2048.Idx → EReal) (g b : S2x2048.Idx → EReal)

/-- The scaled stream plus the two branches' products. -/
def mix (r : Fin 16640) (q : Fin 2048) : EReal :=
  Ideal.ofBits .f32 0x3FB504F3#32 * h (ix2 r q)
    + ((∑ k : Fin 1024, a (ix2 r k) * w (ix3 1 ⟨k.val, by omega⟩ q)) + ∑ k : Fin 1024, f (ix2 r k) * w (ix3 1 ⟨1024 + k.val, by omega⟩ q))

/-- The projection's normalised row. -/
def out (r : Fin 16640) (q : Fin 2048) : EReal :=
  LayerNorm.norm (mix a f w h r) (fun k => g (ix2 1 k)) (fun k => b (ix2 1 k)) q

theorem joined_left (r : Fin 16640) (k : Fin 1024) (l : Fin 2048) (hl : l.val = k.val) :
    val_main_v1 (F := Ideal) a f (ix2 r l) = a (ix2 r k) := by
  rw [val_main_v1_apply]
  show val_main_v0 (F := Ideal) a f (ix2 r l) = _
  unfold val_main_v0
  refine concatenate_pair_apply_left (α := EReal) 1 a f concatenates_S16640x1024_S16640x1024_S16640x2048_d1 (ix2 r l) rfl (ix2 r k) fun c => ?_
  match c with
  | ⟨0, _⟩ => rfl
  | ⟨1, _⟩ => exact hl.symm

theorem joined_right (r : Fin 16640) (k : Fin 1024) (l : Fin 2048) (hl : l.val = 1024 + k.val) :
    val_main_v1 (F := Ideal) a f (ix2 r l) = f (ix2 r k) := by
  rw [val_main_v1_apply]
  show val_main_v0 (F := Ideal) a f (ix2 r l) = _
  unfold val_main_v0
  refine concatenate_pair_apply_right (α := EReal) 1 a f concatenates_S16640x1024_S16640x1024_S16640x2048_d1 (ix2 r l) rfl rfl (ix2 r k) (fun c hc => ?_) ?_
  · match c with
    | ⟨0, _⟩ => rfl
    | ⟨1, _⟩ => exact absurd rfl hc
  · show k.val + 1024 = l.val; omega

theorem weight (k : Fin 2048) (q : Fin 2048) : val_main_v3 (F := Ideal) w (ix2 k q) = w (ix3 1 k q) := by
  rw [val_main_v3_apply, val_main_v2_apply]
  refine congrArg w (funext fun c => Fin.ext ?_)
  have := k.isLt; have := q.isLt
  match c with
  | ⟨0, _⟩ => rfl
  | ⟨1, _⟩ => show (k.val * 2048 + q.val) / 2048 % 2048 = k.val; omega
  | ⟨2, _⟩ => show (k.val * 2048 + q.val) % 2048 = q.val; omega

theorem product (r : Fin 16640) (q : Fin 2048) :
    val_main_v4 (F := Ideal) a f w (ix2 r q)
      = (∑ k : Fin 1024, a (ix2 r k) * w (ix3 1 ⟨k.val, by omega⟩ q)) + ∑ k : Fin 1024, f (ix2 r k) * w (ix3 1 ⟨1024 + k.val, by omega⟩ q) := by
  rw [val_main_v4_apply]
  have e : ∀ k : Fin 2048, val_main_v1 (F := Ideal) a f (lidx_main_v4 (ix2 r q) k) * val_main_v3 (F := Ideal) w (ridx_main_v4 (ix2 r q) k)
      = val_main_v1 (F := Ideal) a f (ix2 r k) * w (ix3 1 k q) := fun k => by
    rw [← weight w k q]
    refine congrArg₂ (fun x y : EReal => x * y) (congrArg _ (funext fun c => ?_)) (congrArg _ (funext fun c => ?_))
    · match c with | ⟨0, _⟩ => rfl | ⟨1, _⟩ => rfl
    · match c with | ⟨0, _⟩ => rfl | ⟨1, _⟩ => rfl
  refine (Finset.sum_congr rfl fun k _ => e k).trans ?_
  refine (Fin.sum_univ_add (a := 1024) (b := 1024) fun k : Fin 2048 => val_main_v1 (F := Ideal) a f (ix2 r k) * w (ix3 1 k q)).trans ?_
  refine congrArg₂ (fun x y : EReal => x + y) (Finset.sum_congr rfl fun k _ => ?_) (Finset.sum_congr rfl fun k _ => ?_)
  · rw [joined_left a f r k _ rfl]; rfl
  · rw [joined_right a f r k _ rfl]; rfl

theorem mix_eq (r : Fin 16640) (q : Fin 2048) : val_main_v7 (F := Ideal) a f w h (ix2 r q) = mix a f w h r q := by
  rw [val_main_v7_apply, val_main_v6_apply, product, val_main_v5_apply, val_main_cst_apply]
  rfl

theorem mean_eq (r : Fin 16640) (e : Fin 1) : val_main_v15 (F := Ideal) a f w h (ix2 r e) = LayerNorm.mean (mix a f w h r) := by
  rw [val_main_v15_apply, val_main_v13_apply, val_main_v12_apply, val_main_v14_apply, val_main_cst_1_apply, val_main_cst_0_apply]
  unfold LayerNorm.mean
  refine congrArg (Ideal.div · _) ?_
  refine (congrArg (· + _) Ideal.ofBits_zero_f32).trans ((zero_add _).trans (Finset.sum_congr rfl fun k _ => ?_))
  refine Eq.trans (congrArg _ (funext fun c => ?_)) (mix_eq a f w h r k)
  match c with | ⟨0, _⟩ => rfl | ⟨1, _⟩ => rfl

theorem centred_eq (r : Fin 16640) (q : Fin 2048) :
    val_main_v17 (F := Ideal) a f w h (ix2 r q) = mix a f w h r q - LayerNorm.mean (mix a f w h r) := by
  rw [val_main_v17_apply, val_main_v16_apply, mix_eq]
  refine congrArg (mix a f w h r q - ·) (Eq.trans (congrArg _ (funext fun c => ?_)) (mean_eq a f w h r 0))
  match c with | ⟨0, _⟩ => rfl | ⟨1, _⟩ => rfl

theorem var_eq (r : Fin 16640) (e : Fin 1) : val_main_v22 (F := Ideal) a f w h (ix2 r e) = LayerNorm.var (mix a f w h r) := by
  rw [val_main_v22_apply, val_main_v20_apply, val_main_v19_apply, val_main_v21_apply, val_main_cst_3_apply, val_main_cst_2_apply]
  unfold LayerNorm.var
  refine congrArg (Ideal.div · _) ?_
  refine (congrArg (· + _) Ideal.ofBits_zero_f32).trans ((zero_add _).trans (Finset.sum_congr rfl fun k _ => ?_))
  rw [val_main_v18_apply]
  have e : val_main_v17 (F := Ideal) a f w h (idx_main_v19 (idx_main_v20 (ix2 r e)) k) = mix a f w h r k - LayerNorm.mean (mix a f w h r) := by
    refine Eq.trans (congrArg _ (funext fun c => ?_)) (centred_eq a f w h r k)
    match c with | ⟨0, _⟩ => rfl | ⟨1, _⟩ => rfl
  rw [e]; rfl

theorem out_eq (r : Fin 16640) (q : Fin 2048) : val_main_v35 (F := Ideal) a f w h g b (ix2 r q) = out a f w h g b r q := by
  have h24 : val_main_v24 (F := Ideal) a f w h (ix2 r q) = mix a f w h r q - LayerNorm.mean (mix a f w h r) := by
    rw [val_main_v24_apply, val_main_v23_apply, mix_eq]
    refine congrArg (mix a f w h r q - ·) (Eq.trans (congrArg _ (funext fun c => ?_)) (mean_eq a f w h r 0))
    match c with | ⟨0, _⟩ => rfl | ⟨1, _⟩ => rfl
  have h28 : val_main_v28 (F := Ideal) a f w h (ix2 r q) = Ideal.rsqrt (LayerNorm.var (mix a f w h r) + Ideal.ofBits .f32 0x3727C5AC#32) := by
    rw [val_main_v28_apply, val_main_v27_apply, val_main_v26_apply, val_main_v25_apply, val_main_cst_4_apply]
    refine congrArg (fun v => Ideal.rsqrt (v + _)) (Eq.trans (congrArg _ (funext fun c => ?_)) (var_eq a f w h r 0))
    match c with | ⟨0, _⟩ => rfl | ⟨1, _⟩ => rfl
  have h31 : val_main_v31 (F := Ideal) g (ix2 r q) = g (ix2 1 q) := by
    rw [val_main_v31_apply, val_main_v30_apply, val_main_v9_apply, val_main_v8_apply]
    refine congrArg g (funext fun c => Fin.ext ?_)
    have := q.isLt
    match c with
    | ⟨0, _⟩ => rfl
    | ⟨1, _⟩ => show q.val % 2048 = q.val; omega
  have h34 : val_main_v34 (F := Ideal) b (ix2 r q) = b (ix2 1 q) := by
    rw [val_main_v34_apply, val_main_v33_apply, val_main_v11_apply, val_main_v10_apply]
    refine congrArg b (funext fun c => Fin.ext ?_)
    have := q.isLt
    match c with
    | ⟨0, _⟩ => rfl
    | ⟨1, _⟩ => show q.val % 2048 = q.val; omega
  rw [val_main_v35_apply, val_main_v32_apply, val_main_v29_apply, h24, h28, h31, h34]
  rfl

theorem rows_eq (i : S16384x2048.Idx) : val_main_v36 (F := Ideal) a f w h g b i = out a f w h g b ⟨256 + (i 0).val, by have : (i 0).val < 16384 := (i 0).isLt; omega⟩ (i 1) := by
  rw [val_main_v36_apply]
  refine Eq.trans (congrArg _ (funext fun c => ?_)) (out_eq a f w h g b _ _)
  match c with | ⟨0, _⟩ => rfl | ⟨1, _⟩ => rfl

theorem rows16_eq (i : S16384x2048.Idx) : val_main_v38 (F := Ideal) a f w h g b i = out a f w h g b ⟨256 + (i 0).val, by have : (i 0).val < 16384 := (i 0).isLt; omega⟩ (i 1) := by
  rw [val_main_v38_apply]
  show val_main_v37 (F := Ideal) a f w h g b i = _
  rw [val_main_v37_apply]
  refine Eq.trans (congrArg _ (funext fun c => ?_)) (out_eq a f w h g b _ _)
  match c with | ⟨0, _⟩ => rfl | ⟨1, _⟩ => rfl

end Cert.Proof.OutprojRefRead

end
-- ==== Proof.OutprojRun.lean ====
/- The output projection kernel's run over the extended reals: what each block window holds, and what the two result
   arrays end holding. -/
module

public import proofs.«01_k».proof.Proof.OutprojPayload
public import proofs.«01_k».proof.Proof.OutprojRefRead

@[expose] public section

noncomputable section

namespace Cert.Proof.OutprojRun

open Cert.OutprojIdeal Cert.OutprojIdeal.Gen Idealize.ShloMosaic Idealize.ShloMosaic.TcCoe Idealize.SL.Sem Idealize.ShloMosaic.ValueIdx
open Cert.Proof.OutprojPayload
open Cert.Proof.OutprojRefRead (mix out)
open scoped BigOperators

variable (m : (ℓ : Loc nD τ sig) → Buf (Elt Ideal) ℓ) (ρ : Dev nD → PrngReg)

abbrev A (c : Dev nD) : S16640x1024.Idx → EReal := m ((c : Thread nD τ).loc main_arg0)
abbrev C (c : Dev nD) : S16640x1024.Idx → EReal := m ((c : Thread nD τ).loc main_arg1)
abbrev W (c : Dev nD) : S2x2048x2048.Idx → EReal := m ((c : Thread nD τ).loc main_arg2)
abbrev H (c : Dev nD) : S16640x2048.Idx → EReal := m ((c : Thread nD τ).loc main_arg3)
abbrev G (c : Dev nD) : S2x2048.Idx → EReal := m ((c : Thread nD τ).loc main_arg4)
abbrev B (c : Dev nD) : S2x2048.Idx → EReal := m ((c : Thread nD τ).loc main_arg5)

/-! ## What the host stretch leaves -/

theorem V_v2 (c : Dev nD) (k : Fin 2048) (q : Fin 2048) : V m c main_v2 (ix2 k q) = W m c (ix3 1 k q) := by
  have h : V m c main_v2 = (truncf (F := Ideal) .bf16 (shapeCast S2048x2048 (extractStridedSlice S1x2048x2048 ![1, 0, 0] (W m c) slices_S2x2048x2048_S1x2048x2048_1_0_0) shapeCasts_S1x2048x2048_S2048x2048 : FVec Ideal S2048x2048 .f32) bitsLt_bf16_f32) := by
    show StableHlo.after hostOps0 (fun b => m (c, b)) (Proc.devRef .tc main_v2) = _
    simp only [hostOps0]
    after_results_simp
    rfl
  rw [h]
  show shapeCast (α := EReal) S2048x2048 (extractStridedSlice S1x2048x2048 ![1, 0, 0] (W m c) slices_S2x2048x2048_S1x2048x2048_1_0_0) shapeCasts_S1x2048x2048_S2048x2048 (ix2 k q) = _
  refine (shapeCast_dropUnit_apply ![2048, 2048] _ _ (ix2 k q)).trans ?_
  refine congrArg (W m c) (funext fun a => Fin.ext ?_)
  match a with
  | ⟨0, _⟩ => rfl
  | ⟨1, _⟩ => show 0 + k.val = k.val; omega
  | ⟨2, _⟩ => show 0 + q.val = q.val; omega

theorem row_of (a : S2x2048.Idx → EReal) (q : Fin 2048) :
    broadcastInDim (α := EReal) S1x2048 ![1] bcast_S2048_S1x2048_1 (shapeCast (α := EReal) S2048 (extractStridedSlice S1x2048 ![1, 0] a slices_S2x2048_S1x2048_1_0) shapeCasts_S1x2048_S2048) (ix2 0 q)
      = a (ix2 1 q) := by
  refine (broadcastInDim_apply ![1] _ _ (ix2 0 q) (ix1 q) fun a => match a with | ⟨0, _⟩ => rfl).trans ?_
  refine (shapeCast_dropUnit_apply ![2048] _ _ (ix1 q)).trans ?_
  refine congrArg a (funext fun b => Fin.ext ?_)
  match b with
  | ⟨0, _⟩ => rfl
  | ⟨1, _⟩ => show 0 + q.val = q.val; omega

theorem V_v5 (c : Dev nD) (q : Fin 2048) : V m c main_v5 (ix2 0 q) = G m c (ix2 1 q) := by
  rw [← row_of (G m c) q]
  show StableHlo.after hostOps0 (fun b => m (c, b)) (Proc.devRef .tc main_v5) _ = _
  simp only [hostOps0]
  after_results_simp
  rfl

theorem V_v8 (c : Dev nD) (q : Fin 2048) : V m c main_v8 (ix2 0 q) = B m c (ix2 1 q) := by
  rw [← row_of (B m c) q]
  show StableHlo.after hostOps0 (fun b => m (c, b)) (Proc.devRef .tc main_v8) _ = _
  simp only [hostOps0]
  after_results_simp
  rfl

/-! ## The block windows -/

theorem idx0 : ∀ t : Fin cfg0.N,
    win0_0.index t (0 : Fin 2) = t.val + 1 ∧ win0_0.index t (1 : Fin 2) = 0
    ∧ win0_1.index t (0 : Fin 2) = t.val + 1 ∧ win0_1.index t (1 : Fin 2) = 0
    ∧ win0_2.index t (0 : Fin 2) = 0 ∧ win0_2.index t (1 : Fin 2) = 0
    ∧ win0_4.index t (0 : Fin 2) = t.val + 1 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem blk0 (c : Dev nD) (t : Fin cfg0.N) (p : Fin 256) (k : Fin 1024) (r : Fin 16640) (hr : r.val = 256 + (t.val * 256 + p.val)) :
    iblk m c 0 t (ix2 p k) = A m c (ix2 r k) := by
  obtain ⟨h0, h1, -⟩ := idx0 t
  show V m c main_arg0 (((cfg0.win 0).blk t).view.emb (ix2 p k)) = _
  rw [V_main_arg0]
  refine congrArg (A m c) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

theorem blk1 (c : Dev nD) (t : Fin cfg0.N) (p : Fin 256) (k : Fin 1024) (r : Fin 16640) (hr : r.val = 256 + (t.val * 256 + p.val)) :
    iblk m c 1 t (ix2 p k) = C m c (ix2 r k) := by
  obtain ⟨-, -, h0, h1, -⟩ := idx0 t
  show V m c main_arg1 (((cfg0.win 1).blk t).view.emb (ix2 p k)) = _
  rw [V_main_arg1]
  refine congrArg (C m c) (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

theorem blk2 (c : Dev nD) (t : Fin cfg0.N) (k : Fin 2048) (q : Fin 2048) : iblk m c 2 t (ix2 k q) = W m c (ix3 1 k q) := by
  obtain ⟨-, -, -, -, h0, h1, -⟩ := idx0 t
  rw [← V_v2]
  show V m c main_v2 (((cfg0.win 2).blk t).view.emb (ix2 k q)) = V m c main_v2 _
  refine congrArg (V m c main_v2) (funext fun a => Fin.ext ?_)
  match a with
  | ⟨0, _⟩ => show win0_2.index t (0 : Fin 2) * 2048 + 1 * k.val = k.val; omega
  | ⟨1, _⟩ => show win0_2.index t (1 : Fin 2) * 2048 + 1 * q.val = q.val; omega

theorem blk4 (c : Dev nD) (t : Fin cfg0.N) (p : Fin 256) (q : Fin 2048) (r : Fin 16640) (hr : r.val = 256 + (t.val * 256 + p.val)) :
    iblk m c 4 t (ix2 p q) = H m c (ix2 r q) := by
  obtain ⟨-, -, -, -, -, -, h0, h1, -⟩ := idx0 t
  show V m c main_arg3 (((cfg0.win 4).blk t).view.emb (ix2 p q)) = _
  rw [V_main_arg3]
  refine congrArg (H m c) (funext fun a => Fin.ext ?_)
  match a with
  | ⟨0, _⟩ => show win0_4.index t (0 : Fin 2) * 256 + 1 * p.val = r.val; omega
  | ⟨1, _⟩ => show win0_4.index t (1 : Fin 2) * 2048 + 1 * q.val = q.val; omega

theorem blk5 (c : Dev nD) (t : Fin cfg0.N) (q : Fin 2048) : iblk m c 5 t (ix2 0 q) = G m c (ix2 1 q) := by
  obtain ⟨-, -, -, -, -, -, -, -, h0, h1, -⟩ := idx0 t
  rw [← V_v5]
  show V m c main_v5 (((cfg0.win 5).blk t).view.emb (ix2 0 q)) = V m c main_v5 _
  refine congrArg (V m c main_v5) (funext fun a => Fin.ext ?_)
  match a with
  | ⟨0, _⟩ => show win0_5.index t (0 : Fin 2) * 1 + 1 * 0 = 0; omega
  | ⟨1, _⟩ => show win0_5.index t (1 : Fin 2) * 2048 + 1 * q.val = q.val; omega

theorem blk6 (c : Dev nD) (t : Fin cfg0.N) (q : Fin 2048) : iblk m c 6 t (ix2 0 q) = B m c (ix2 1 q) := by
  obtain ⟨-, -, -, -, -, -, -, -, -, -, h0, h1⟩ := idx0 t
  rw [← V_v8]
  show V m c main_v8 (((cfg0.win 6).blk t).view.emb (ix2 0 q)) = V m c main_v8 _
  refine congrArg (V m c main_v8) (funext fun a => Fin.ext ?_)
  match a with
  | ⟨0, _⟩ => show win0_6.index t (0 : Fin 2) * 1 + 1 * 0 = 0; omega
  | ⟨1, _⟩ => show win0_6.index t (1 : Fin 2) * 2048 + 1 * q.val = q.val; omega

theorem resid_eq (c : Dev nD) (t : Fin cfg0.N) (p : Fin 256) (r : Fin 16640) (hr : r.val = 256 + (t.val * 256 + p.val)) :
    resid (iblk m c 0 t) (iblk m c 1 t) (iblk m c 2 t) (iblk m c 4 t) p = mix (A m c) (C m c) (W m c) (H m c) r := by
  funext q
  unfold resid mix
  refine congrArg₂ (fun x y : EReal => x + y) (congrArg (fun x : EReal => Ideal.ofBits .f32 0x3FB504F3#32 * x) (blk4 m c t p q r hr))
    (congrArg₂ (fun x y : EReal => x + y) (Finset.sum_congr rfl fun k _ => ?_) (Finset.sum_congr rfl fun k _ => ?_))
  · exact congrArg₂ (fun x y : EReal => x * y) (blk0 m c t p k r hr) (blk2 m c t _ q)
  · exact congrArg₂ (fun x y : EReal => x * y) (blk1 m c t p k r hr) (blk2 m c t _ q)

theorem row_eq (c : Dev nD) (t : Fin cfg0.N) (p : Fin 256) (q : Fin 2048) (r : Fin 16640) (hr : r.val = 256 + (t.val * 256 + p.val)) :
    rowOut (iblk m c 0 t) (iblk m c 1 t) (iblk m c 2 t) (iblk m c 4 t) (iblk m c 5 t) (iblk m c 6 t) p q
      = out (A m c) (C m c) (W m c) (H m c) (G m c) (B m c) r q := by
  unfold rowOut out
  rw [resid_eq m c t p r hr, funext fun k => blk5 m c t k, funext fun k => blk6 m c t k]

/-! ## The result arrays -/

/-- The rows both results hold: the normalised rows past the first 256. -/
def rows (c : Dev nD) (i : S16384x2048.Idx) : EReal :=
  out (A m c) (C m c) (W m c) (H m c) (G m c) (B m c) ⟨256 + (i 0).val, by have : (i 0).val < 16384 := (i 0).isLt; omega⟩ (i 1)

def R7 (c : Dev nD) : Buf (Elt Ideal) ((c : Thread nD τ).loc main_v9_0) := rows m c
def R8 (c : Dev nD) : Buf (Elt Ideal) ((c : Thread nD τ).loc main_v9_1) := rows m c

theorem idx7 : ∀ t : Fin cfg0.N,
    win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem rows_at (c : Dev nD) (t : Fin cfg0.N) (i : S16384x2048.Idx) (p : Fin 256) (q : Fin 2048) (h0 : (i 0).val = t.val * 256 + p.val) (h1 : (i 1).val = q.val) :
    rowOut (iblk m c 0 t) (iblk m c 1 t) (iblk m c 2 t) (iblk m c 4 t) (iblk m c 5 t) (iblk m c 6 t) p q = rows m c i := by
  have hi : (i 0).val < 16384 := (i 0).isLt
  unfold rows
  rw [row_eq m c t p q ⟨256 + (i 0).val, by omega⟩ (by show 256 + (i 0).val = _; omega)]
  exact congrArg _ (Fin.ext h1.symm)

theorem flushed7 (c : Dev nD) (t : Fin cfg0.N) :
    (dats m 0 c).flushed 7 t = ((cfg0.win 7).blk t).view.read (Elt Ideal) (R7 m c) := by
  rw [Cert.OutprojIdeal.Value.flushed7]
  obtain ⟨h0, h1, -⟩ := idx7 t
  funext y
  obtain ⟨p, q, rfl⟩ : ∃ p q, y = ix2 p q := ⟨_, _, eq_ix2 y⟩
  refine (out7_apply _ _ _ _ _ _ _ p q).trans ?_
  show _ = rows m c (((cfg0.win 7).blk t).view.emb (ix2 p q))
  refine rows_at m c t _ p q ?_ ?_
  · show win0_7.index t (0 : Fin 2) * 256 + 1 * p.val = t.val * 256 + p.val; omega
  · show win0_7.index t (1 : Fin 2) * 2048 + 1 * q.val = q.val; omega

theorem flushed8 (c : Dev nD) (t : Fin cfg0.N) :
    (dats m 0 c).flushed 8 t = ((cfg0.win 8).blk t).view.read (Elt Ideal) (R8 m c) := by
  rw [Cert.OutprojIdeal.Value.flushed8]
  obtain ⟨-, -, h0, h1⟩ := idx7 t
  funext y
  obtain ⟨p, q, rfl⟩ : ∃ p q, y = ix2 p q := ⟨_, _, eq_ix2 y⟩
  refine (out8_apply _ _ _ _ _ _ _ p q).trans ?_
  show _ = rows m c (((cfg0.win 8).blk t).view.emb (ix2 p q))
  refine rows_at m c t _ p q ?_ ?_
  · show win0_8.index t (0 : Fin 2) * 256 + 1 * p.val = t.val * 256 + p.val; omega
  · show win0_8.index t (1 : Fin 2) * 2048 + 1 * q.val = q.val; omega

theorem mem_blk7 (t : Fin cfg0.N) (i : S16384x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v9_0).slice (win0_7.rect t)).set ↔ _
  rw [View.set_slice_whole, Rect.mem_set_unit]
  exact Iff.rfl

theorem mem_blk8 (t : Fin cfg0.N) (i : S16384x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v9_1).slice (win0_8.rect t)).set ↔ _
  rw [View.set_slice_whole, Rect.mem_set_unit]
  exact Iff.rfl

theorem final7 (c : Dev nD) : (dats m 0 c).arrAt 7 cfg0.N = R7 m c :=
  (dats m 0 c).arrAt_eq_of_cover 7 _ (fun t _ => flushed7 m c t) (fun (i : S16384x2048.Idx) => by
    have h0 : (i 0).val < 16384 := (i 0).isLt
    have h1 : (i 1).val < 2048 := (i 1).isLt
    have hN : cfg0.N = 64 := N_0
    have ht : (i 0).val / 256 < cfg0.N := by omega
    obtain ⟨e0, e1, -⟩ := idx7 ⟨_, ht⟩
    refine ⟨⟨_, ht⟩, flush0_7 _, (mem_blk7 _ i).2 fun a => ?_⟩
    match a with
    | ⟨0, _⟩ =>
      show win0_7.index ⟨_, ht⟩ (0 : Fin 2) * 256 ≤ (i 0).val ∧ (i 0).val < win0_7.index ⟨_, ht⟩ (0 : Fin 2) * 256 + 256
      rw [e0]; show (i 0).val / 256 * 256 ≤ (i 0).val ∧ (i 0).val < (i 0).val / 256 * 256 + 256
      omega
    | ⟨1, _⟩ =>
      show win0_7.index ⟨_, ht⟩ (1 : Fin 2) * 2048 ≤ (i 1).val ∧ (i 1).val < win0_7.index ⟨_, ht⟩ (1 : Fin 2) * 2048 + 2048
      rw [e1]; omega)

theorem final8 (c : Dev nD) : (dats m 0 c).arrAt 8 cfg0.N = R8 m c :=
  (dats m 0 c).arrAt_eq_of_cover 8 _ (fun t _ => flushed8 m c t) (fun (i : S16384x2048.Idx) => by
    have h0 : (i 0).val < 16384 := (i 0).isLt
    have h1 : (i 1).val < 2048 := (i 1).isLt
    have hN : cfg0.N = 64 := N_0
    have ht : (i 0).val / 256 < cfg0.N := by omega
    obtain ⟨-, -, e0, e1⟩ := idx7 ⟨_, ht⟩
    refine ⟨⟨_, ht⟩, flush0_8 _, (mem_blk8 _ i).2 fun a => ?_⟩
    match a with
    | ⟨0, _⟩ =>
      show win0_8.index ⟨_, ht⟩ (0 : Fin 2) * 256 ≤ (i 0).val ∧ (i 0).val < win0_8.index ⟨_, ht⟩ (0 : Fin 2) * 256 + 256
      rw [e0]; show (i 0).val / 256 * 256 ≤ (i 0).val ∧ (i 0).val < (i 0).val / 256 * 256 + 256
      omega
    | ⟨1, _⟩ =>
      show win0_8.index ⟨_, ht⟩ (1 : Fin 2) * 2048 ≤ (i 1).val ∧ (i 1).val < win0_8.index ⟨_, ht⟩ (1 : Fin 2) * 2048 + 2048
      rw [e1]; omega)

/-- The run: both result arrays at the normalised rows, the arguments unchanged. -/
theorem run : θ_run defs (onTc (τ := τ) (main (F := Ideal))) ⟨m, fun _ => 0, ρ⟩ fun r => ∀ c : Dev nD,
      r.2.mem ((c : Thread nD τ).loc main_v9_0) = R7 m c
      ∧ r.2.mem ((c : Thread nD τ).loc main_v9_1) = R8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h7, h8, ha⟩ := h c
    exact ⟨h7.trans (final7 m c), h8.trans (final8 m c), ha⟩)
    (Cert.OutprojIdeal.Value.run_blocks m ρ)

end Cert.Proof.OutprojRun

end
-- ==== Proof.OutprojClaims.lean ====
/- The output projection's claims: the reference's frame and the two programs' equal results. -/
module

public import proofs.«01_k».proof.Proof.OutprojRun
public import proofs.«01_k».proof.Defs

@[expose] public section

noncomputable section

namespace Cert.Proof.OutprojClaims

open Idealize.ShloMosaic Idealize.ShloMosaic.TcCoe Idealize.SL.Sem

theorem frame_ref : Cert.quiescent_OutprojRefIdeal (hOutprojRefIdeal := Cert.OutprojRefIdeal.Gen.facts) := fun m ρ _ =>
  (θ_run Cert.OutprojRefIdeal.defs _ _).mono
    (fun r h => ⟨fun c => (h c).2.2, Idealize.ShloMosaic.sem_eq_zero_of_no_sems (by decide) r.2⟩)
    (Cert.OutprojRefIdeal.Value.run (F := Ideal) m ρ)

theorem preserves : Cert.preserves_Outproj_OutprojIdeal := trivial

theorem algebraic : Cert.algebraic_OutprojIdeal_OutprojRefIdeal (hOutprojIdeal := Cert.OutprojIdeal.Gen.facts) (hOutprojRefIdeal := Cert.OutprojRefIdeal.Gen.facts) := by
  intro m ρ m' ρ' _ hagree
  refine ⟨fun c => _, fun c => _, Cert.Proof.OutprojRun.run m ρ, ?_⟩
  refine (θ_run Cert.OutprojRefIdeal.defs _ _).mono (fun r h c => ?_) (Cert.OutprojRefIdeal.Value.run (F := Ideal) m' ρ')
  obtain ⟨e0, e1, e2, e3, e4, e5⟩ := hagree c
  obtain ⟨r0, r1, ha⟩ := h c
  refine ⟨r0.trans ?_, r1.trans ?_, ha⟩
  · rw [Cert.OutprojRefIdeal.Read.val_main_v36_eq, e0, e1, e2, e3, e4, e5]
    exact funext fun i => Cert.Proof.OutprojRefRead.rows_eq _ _ _ _ _ _ i
  · rw [Cert.OutprojRefIdeal.Read.val_main_v38_eq, e0, e1, e2, e3, e4, e5]
    exact funext fun i => Cert.Proof.OutprojRefRead.rows16_eq _ _ _ _ _ _ i

end Cert.Proof.OutprojClaims

end
-- ==== Proof.lean ====
/- The certificate's claim, assembled. -/
module

public import proofs.«01_k».proof.Defs
public import proofs.«01_k».proof.Proof.Gen.Proj.Frame
public import proofs.«01_k».proof.Proof.Gen.Mlp.Frame
public import proofs.«01_k».proof.Proof.Gen.MlpIdeal.Frame
public import proofs.«01_k».proof.Proof.Gen.Fox.Frame
public import proofs.«01_k».proof.Proof.Gen.Outproj.Frame
public import proofs.«01_k».proof.Proof.ProjClaims
public import proofs.«01_k».proof.Proof.MlpClaims
public import proofs.«01_k».proof.Proof.FoxClaims
public import proofs.«01_k».proof.Proof.OutprojClaims

@[expose] public section

theorem Cert.Proof.claim : Cert.Claim :=
  ⟨Cert.Proj.Gen.facts, Cert.ProjIdeal.Gen.facts, Cert.ProjRefIdeal.Gen.facts,
   Cert.Mlp.Gen.facts, Cert.MlpIdeal.Gen.facts, Cert.MlpRefIdeal.Gen.facts,
   Cert.Fox.Gen.facts, Cert.FoxIdeal.Gen.facts, Cert.FoxRefIdeal.Gen.facts,
   Cert.Outproj.Gen.facts, Cert.OutprojIdeal.Gen.facts, Cert.OutprojRefIdeal.Gen.facts,
   fun m ρ _ => Cert.Proj.Gen.frame m ρ, fun m ρ _ => Cert.ProjIdeal.Gen.frame m ρ, Cert.Proof.ProjClaims.frame_ref,
   fun m ρ _ => Cert.Mlp.Gen.frame m ρ, fun m ρ _ => Cert.MlpIdeal.Gen.frame m ρ, Cert.Proof.MlpClaims.frame_ref,
   fun m ρ _ => Cert.Fox.Gen.frame m ρ, fun m ρ _ => Cert.FoxIdeal.Gen.frame m ρ, Cert.Proof.FoxClaims.frame_ref,
   fun m ρ _ => Cert.Outproj.Gen.frame m ρ, fun m ρ _ => Cert.OutprojIdeal.Gen.frame m ρ, Cert.Proof.OutprojClaims.frame_ref,
   Cert.Proof.ProjClaims.preserves, Cert.Proof.ProjClaims.algebraic,
   Cert.Proof.MlpClaims.preserves, Cert.Proof.MlpClaims.algebraic,
   Cert.Proof.FoxClaims.preserves, Cert.Proof.FoxClaims.algebraic,
   Cert.Proof.OutprojClaims.preserves, Cert.Proof.OutprojClaims.algebraic⟩

end
